-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v85) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32768x4096 : Shape := ⟨2, ![32768, 4096]⟩
abbrev S32768x512 : Shape := ⟨2, ![32768, 512]⟩
abbrev S32768x896 : Shape := ⟨2, ![32768, 896]⟩
abbrev S16x2048x896 : Shape := ⟨3, ![16, 2048, 896]⟩
abbrev S16x2048x4096 : Shape := ⟨3, ![16, 2048, 4096]⟩
abbrev S16x2048x512 : Shape := ⟨3, ![16, 2048, 512]⟩
abbrev S1x256x4096 : Shape := ⟨3, ![1, 256, 4096]⟩
abbrev S1x256x512 : Shape := ⟨3, ![1, 256, 512]⟩
abbrev S1x2048x256 : Shape := ⟨3, ![1, 2048, 256]⟩
abbrev S1x2048x128 : Shape := ⟨3, ![1, 2048, 128]⟩
abbrev S8x256x256 : Shape := ⟨3, ![8, 256, 256]⟩
abbrev S256x4096 : Shape := ⟨2, ![256, 4096]⟩
abbrev S128x4096 : Shape := ⟨2, ![128, 4096]⟩
abbrev S1x4096 : Shape := ⟨2, ![1, 4096]⟩
abbrev S1x256x256 : Shape := ⟨3, ![1, 256, 256]⟩
abbrev S256x256 : Shape := ⟨2, ![256, 256]⟩
abbrev S96x256 : Shape := ⟨2, ![96, 256]⟩
abbrev S1x256x128 : Shape := ⟨3, ![1, 256, 128]⟩
abbrev S256x128 : Shape := ⟨2, ![256, 128]⟩
abbrev S128x256 : Shape := ⟨2, ![128, 256]⟩
abbrev S32x256 : Shape := ⟨2, ![32, 256]⟩
abbrev S4096 : Shape := ⟨1, ![4096]⟩

abbrev nBuf : Space → Nat
  | .hbm => 7
  | .vmem => 16
  | .smem => 0
  | _ => 0

abbrev bufTy : (tb : Table) → Fin (tcTables nBuf tb) → BufTy
  | .hbm, ⟨0, _⟩ => ⟨S32768x4096, .bf16⟩
  | .hbm, ⟨1, _⟩ => ⟨S32768x512, .bf16⟩
  | .hbm, ⟨2, _⟩ => ⟨S32768x896, .f32⟩
  | .hbm, ⟨3, _⟩ => ⟨S16x2048x896, .f32⟩
  | .hbm, ⟨4, _⟩ => ⟨S16x2048x4096, .bf16⟩
  | .hbm, ⟨5, _⟩ => ⟨S16x2048x512, .bf16⟩
  | .hbm, ⟨6, _⟩ => ⟨S16x2048x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x512, .bf16⟩
  | .local _ .vmem, ⟨3, _⟩ => ⟨S1x256x512, .bf16⟩
  | .local _ .vmem, ⟨4, _⟩ => ⟨S1x2048x256, .f32⟩
  | .local _ .vmem, ⟨5, _⟩ => ⟨S1x2048x256, .f32⟩
  | .local _ .vmem, ⟨6, _⟩ => ⟨S1x2048x128, .f32⟩
  | .local _ .vmem, ⟨7, _⟩ => ⟨S1x2048x128, .f32⟩
  | .local _ .vmem, ⟨8, _⟩ => ⟨S1x256x4096, .bf16⟩
  | .local _ .vmem, ⟨9, _⟩ => ⟨S1x256x4096, .bf16⟩
  | .local _ .vmem, ⟨10, _⟩ => ⟨S8x256x256, .bf16⟩
  | .local _ .vmem, ⟨11, _⟩ => ⟨S256x4096, .bf16⟩
  | .local _ .vmem, ⟨12, _⟩ => ⟨S128x4096, .bf16⟩
  | .local _ .vmem, ⟨13, _⟩ => ⟨S1x4096, .f32⟩
  | .local _ .vmem, ⟨14, _⟩ => ⟨S1x4096, .f32⟩
  | .local _ .vmem, ⟨15, _⟩ => ⟨S256x4096, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let c1_i32_129 : BitVec 32 := 1#32
  ⟨c0_i32_127, v280, c1_i32_129⟩
def k0_mult1 (i : grid0.Coords) (k0_t1 : Fin (k0_t1_loop i).trips) : BitVec 32 :=
  let c0_i32_127 : BitVec 32 := 0#32
  let c1_i32_129 : BitVec 32 := 1#32
  let arg13 : BitVec 32 := Scf.iv c0_i32_127 c1_i32_129 k0_t1
  let c256_i32_211 : BitVec 32 := 256#32
  let v443 : BitVec 32 := Scalar.muli arg13 c256_i32_211
  v443
def k0_off1 (i : grid0.Coords) (k0_t1 : Fin (k0_t1_loop i).trips) : Fin 3 → Nat :=
  let c0_212 : Index := 0#32
  let c0_i32_127 : BitVec 32 := 0#32
  let c1_i32_129 : BitVec 32 := 1#32
  let arg13 : BitVec 32 := Scf.iv c0_i32_127 c1_i32_129 k0_t1
  let c256_i32_211 : BitVec 32 := 256#32
  let v443 : BitVec 32 := Scalar.muli arg13 c256_i32_211
  let v444 : BitVec 32 := v443
  let v445 : Index := Scalar.indexCast v444
  let c0_213 : Index := 0#32
  ![0, v445.toNat, 0]
def k0_off2 (i : grid0.Coords) (k0_t1 : Fin (k0_t1_loop i).trips) : Fin 3 → Nat :=
  let c0_215 : Index := 0#32
  let c0_i32_127 : BitVec 32 := 0#32
  let c1_i32_129 : BitVec 32 := 1#32
  let arg13 : BitVec 32 := Scf.iv c0_i32_127 c1_i32_129 k0_t1
  let c256_i32_211 : BitVec 32 := 256#32
  let v443 : BitVec 32 := Scalar.muli arg13 c256_i32_211
  let v444 : BitVec 32 := v443
  let v450 : Index := Scalar.indexCast v444
  let c0_216 : Index := 0#32
  ![0, v450.toNat, 0]
def k0_off3 (i : grid0.Coords) (k0_t1 : Fin (k0_t1_loop i).trips) : Fin 3 → Nat :=
  let c0_i32_127 : BitVec 32 := 0#32
  let c1_i32_129 : BitVec 32 := 1#32
  let arg13 : BitVec 32 := Scf.iv c0_i32_127 c1_i32_129 k0_t1
  let v458 : Index := Scalar.indexCast arg13
  let c0_219 : Index := 0#32
  let c0_220 : Index := 0#32
  ![v458.toNat, 0, 0]
@[reducible] def k0_t2_loop (i : grid0.Coords) : Scf.Loop 32 :=
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let v277 : BitVec 32 := Scalar.addi c0_i32_127 v276
  let c1_i32_130 : BitVec 32 := 1#32
  ⟨v280, v277, c1_i32_130⟩
def k0_mult2 (i : grid0.Coords) (k0_t2 : Fin (k0_t2_loop i).trips) : BitVec 32 :=
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let c1_i32_130 : BitVec 32 := 1#32
  let arg13 : BitVec 32 := Scf.iv v280 c1_i32_130 k0_t2
  let c256_i32_211 : BitVec 32 := 256#32
  let v443 : BitVec 32 := Scalar.muli arg13 c256_i32_211
  v443
def k0_off4 (i : grid0.Coords) (k0_t2 : Fin (k0_t2_loop i).trips) : Fin 3 → Nat :=
  let c0_212 : Index := 0#32
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let c1_i32_130 : BitVec 32 := 1#32
  let arg13 : BitVec 32 := Scf.iv v280 c1_i32_130 k0_t2
  let c256_i32_211 : BitVec 32 := 256#32
  let v443 : BitVec 32 := Scalar.muli arg13 c256_i32_211
  let v444 : BitVec 32 := v443
  let v445 : Index := Scalar.indexCast v444
  let c0_213 : Index := 0#32
  ![0, v445.toNat, 0]
def k0_off5 (i : grid0.Coords) (k0_t2 : Fin (k0_t2_loop i).trips) : Fin 3 → Nat :=
  let c0_215 : Index := 0#32
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let c1_i32_130 : BitVec 32 := 1#32
  let arg13 : BitVec 32 := Scf.iv v280 c1_i32_130 k0_t2
  let c256_i32_211 : BitVec 32 := 256#32
  let v443 : BitVec 32 := Scalar.muli arg13 c256_i32_211
  let v444 : BitVec 32 := v443
  let v450 : Index := Scalar.indexCast v444
  let c0_216 : Index := 0#32
  ![0, v450.toNat, 0]
def k0_off6 (i : grid0.Coords) (k0_t2 : Fin (k0_t2_loop i).trips) : Fin 3 → Nat :=
  let c0_i32_127 : BitVec 32 := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v276 : BitVec 32 := Scalar.subi v275 c0_i32_127
  let c1_i32_128 : BitVec 32 := 1#32
  let v278 : BitVec 32 := Scalar.divsi v276 c1_i32_128
  let v279 : BitVec 32 := Scalar.muli v278 c1_i32_128
  let v280 : BitVec 32 := Scalar.addi c0_i32_127 v279
  let c1_i32_130 : BitVec 32 := 1#32
  let arg13 : BitVec 32 := Scf.iv v280 c1_i32_130 k0_t2
  let v458 : Index := Scalar.indexCast arg13
  let c0_219 : Index := 0#32
  let c0_220 : Index := 0#32
  ![v458.toNat, 0, 0]
def k0_mult3 (i : grid0.Coords) : BitVec 32 :=
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let c256_i32_131 : BitVec 32 := 256#32
  let v281 : BitVec 32 := Scalar.muli v275 c256_i32_131
  v281
def k0_off7 (i : grid0.Coords) : Fin 3 → Nat :=
  let c0_132 : Index := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let c256_i32_131 : BitVec 32 := 256#32
  let v281 : BitVec 32 := Scalar.muli v275 c256_i32_131
  let v282 : BitVec 32 := v281
  let v283 : Index := Scalar.indexCast v282
  let c0_133 : Index := 0#32
  ![0, v283.toNat, 0]
def k0_off8 (i : grid0.Coords) : Fin 3 → Nat :=
  let c0_135 : Index := 0#32
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let c256_i32_131 : BitVec 32 := 256#32
  let v281 : BitVec 32 := Scalar.muli v275 c256_i32_131
  let v282 : BitVec 32 := v281
  let v288 : Index := Scalar.indexCast v282
  let c0_136 : Index := 0#32
  ![0, v288.toNat, 0]
def k0_off9 (i : grid0.Coords) : Fin 3 → Nat :=
  let arg1 : BitVec 32 := BitVec.ofNat 32 (i 1).val
  let c256_i32 : BitVec 32 := 256#32
  let v0 : BitVec 32 := Scalar.muli arg1 c256_i32
  let c0_i32_121 : BitVec 32 := 0#32
  let v260 : BitVec 1 := Scalar.cmpi .sgt v0 c0_i32_121
  let v261 : BitVec 32 := Scalar.extui v260
  let c0_i32_122 : BitVec 32 := 0#32
  let v262 : BitVec 1 := Scalar.cmpi .slt v0 c0_i32_122
  let v263 : BitVec 32 := Scalar.extui v262
  let v264 : BitVec 32 := Scalar.subi v261 v263
  let c256_i32_120 : BitVec 32 := 256#32
  let c0_i32_123 : BitVec 32 := 0#32
  let v265 : BitVec 1 := Scalar.cmpi .sgt c256_i32_120 c0_i32_123
  let v266 : BitVec 32 := Scalar.extui v265
  let c0_i32_124 : BitVec 32 := 0#32
  let v267 : BitVec 1 := Scalar.cmpi .slt c256_i32_120 c0_i32_124
  let v268 : BitVec 32 := Scalar.extui v267
  let v269 : BitVec 32 := Scalar.subi v266 v268
  let v270 : BitVec 1 := Scalar.cmpi .ne v264 v269
  let v271 : BitVec 32 := Scalar.remsi v0 c256_i32_120
  let c0_i32_125 : BitVec 32 := 0#32
  let v272 : BitVec 1 := Scalar.cmpi .ne v271 c0_i32_125
  let v273 : BitVec 1 := Scalar.andi v270 v272
  let v259 : BitVec 32 := Scalar.divsi v0 c256_i32_120
  let c1_i32 : BitVec 32 := 1#32
  let v274 : BitVec 32 := Scalar.subi v259 c1_i32
  let v275 : BitVec 32 := Scalar.select v273 v274 v259
  let v308 : Index := Scalar.indexCast v275
  let c0_141 : Index := 0#32
  let c0_142 : Index := 0#32
  ![v308.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale2" => some (((Real.sqrt 96)⁻¹ * (Real.log 2)⁻¹ : ℝ) : EReal)
  | _ => none
-- ==== ReferenceIdeal.lean ====
abbrev S32768x4096 : Shape := ⟨2, ![32768, 4096]⟩
abbrev S32768x512 : Shape := ⟨2, ![32768, 512]⟩
abbrev S32768x896 : Shape := ⟨2, ![32768, 896]⟩
abbrev S16x2048x16x256 : Shape := ⟨4, ![16, 2048, 16, 256]⟩
abbrev S16x2048x16x32 : Shape := ⟨4, ![16, 2048, 16, 32]⟩
abbrev S16x2048x16x288 : Shape := ⟨4, ![16, 2048, 16, 288]⟩
abbrev S16x2048x896 : Shape := ⟨3, ![16, 2048, 896]⟩
abbrev S16x2048x288 : Shape := ⟨3, ![16, 2048, 288]⟩
abbrev S2048 : Shape := ⟨1, ![2048]⟩
abbrev S16x2048x256 : Shape := ⟨3, ![16, 2048, 256]⟩
abbrev S16x2048x2048x16 : Shape := ⟨4, ![16, 2048, 2048, 16]⟩
abbrev S16x16x2048x2048 : Shape := ⟨4, ![16, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x256x16x2048 : Shape := ⟨4, ![16, 256, 16, 2048]⟩
abbrev S16x2048x4096 : Shape := ⟨3, ![16, 2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x512, .bf16⟩
  | .hbm, ⟨2, _⟩ => ⟨S32768x896, .f32⟩
  | .hbm, ⟨3, _⟩ => ⟨S16x2048x16x256, .bf16⟩
  | .hbm, ⟨4, _⟩ => ⟨S16x2048x16x256, .f32⟩
  | .hbm, ⟨5, _⟩ => ⟨S16x2048x16x32, .bf16⟩
  | .hbm, ⟨6, _⟩ => ⟨S16x2048x16x32, .f32⟩
  | .hbm, ⟨7, _⟩ => ⟨S16x2048x16x288, .f32⟩
  | .hbm, ⟨8, _⟩ => ⟨S16x2048x896, .f32⟩
  | .hbm, ⟨9, _⟩ => ⟨S16x2048x288, .f32⟩
  | .hbm, ⟨10, _⟩ => ⟨S2048, .i32⟩
  | .hbm, ⟨11, _⟩ => ⟨S2048, .i32⟩
  | .hbm, ⟨12, _⟩ => ⟨S16x2048x256, .f32⟩
  | .hbm, ⟨13, _⟩ => ⟨S16x2048x2048x16, .f32⟩
  | .hbm, ⟨14, _⟩ => ⟨S16x16x2048x2048, .f32⟩
  | .hbm, ⟨15, _⟩ => ⟨S_, .f32⟩
  | .hbm, ⟨16, _⟩ => ⟨S_, .f32⟩
  | .hbm, ⟨17, _⟩ => ⟨S16x16x2048x2048, .f32⟩
  | .hbm, ⟨18, _⟩ => ⟨S16x16x2048x2048, .f32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S16x16x2048x2048, .i1⟩
  | .hbm, ⟨27, _⟩ => ⟨S16x16x2048x2048, .f32⟩
  | .hbm, ⟨28, _⟩ => ⟨S16x16x2048x2048, .f32⟩
  | .hbm, ⟨29, _⟩ => ⟨S_, .f32⟩
  | .hbm, ⟨30, _⟩ => ⟨S16x16x2048, .f32⟩
  | .hbm, ⟨31, _⟩ => ⟨S16x16x2048x1, .f32⟩
  | .hbm, ⟨32, _⟩ => ⟨S16x16x2048x2048, .f32⟩
  | .hbm, ⟨33, _⟩ => ⟨S16x16x2048x2048, .f32⟩
  | .hbm, ⟨34, _⟩ => ⟨S16x16x2048x2048, .f32⟩
  | .hbm, ⟨35, _⟩ => ⟨S_, .f32⟩
  | .hbm, ⟨36, _⟩ => ⟨S_, .f32⟩
  | .hbm, ⟨37, _⟩ => ⟨S16x16x2048x2048, .i1⟩
  | .hbm, ⟨38, _⟩ => ⟨S16x16x2048x2048, .f32⟩
  | .hbm, ⟨39, _⟩ => ⟨S16x16x2048x2048, .f32⟩
  | .hbm, ⟨40, _⟩ => ⟨S_, .f32⟩
  | .hbm, ⟨41, _⟩ => ⟨S16x16x2048, .f32⟩
  | .hbm, ⟨42, _⟩ => ⟨S16x16x2048x1, .f32⟩
  | .hbm, ⟨43, _⟩ => ⟨S_, .f32⟩
  | .hbm, ⟨44, _⟩ => ⟨S16x16x2048x1, .f32⟩
  | .hbm, ⟨45, _⟩ => ⟨S16x16x2048x1, .f32⟩
  | .hbm, ⟨46, _⟩ => ⟨S16x16x2048x2048, .f32⟩
  | .hbm, ⟨47, _⟩ => ⟨S16x16x2048x2048, .f32⟩
  | .hbm, ⟨48, _⟩ => ⟨S16x256x16x2048, .f32⟩
  | .hbm, ⟨49, _⟩ => ⟨S16x2048x16x256, .f32⟩
  | .hbm, ⟨50, _⟩ => ⟨S16x2048x4096, .f32⟩
  | .hbm, ⟨51, _⟩ => ⟨S16x2048x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x5632 : Shape := ⟨2, ![1024, 5632]⟩
abbrev S4x5632 : Shape := ⟨2, ![4, 5632]⟩
abbrev S2816x1024 : Shape := ⟨2, ![2816, 1024]⟩
abbrev S1024x1024 : Shape := ⟨2, ![1024, 1024]⟩
abbrev S32768x256 : Shape := ⟨2, ![32768, 256]⟩
abbrev S256x1024 : Shape := ⟨2, ![256, 1024]⟩
abbrev S1x1024 : Shape := ⟨2, ![1, 1024]⟩
abbrev S32x2x2816 : Shape := ⟨3, ![32, 2, 2816]⟩
abbrev S1024x256 : Shape := ⟨2, ![1024, 256]⟩
abbrev S4x256 : Shape := ⟨2, ![4, 256]⟩
abbrev S1x2x256 : Shape := ⟨3, ![1, 2, 256]⟩
abbrev S11x2x8x256 : Shape := ⟨4, ![11, 2, 8, 256]⟩
abbrev S1024x1 : Shape := ⟨2, ![1024, 1]⟩
abbrev S2x8x256 : Shape := ⟨3, ![2, 8, 256]⟩
abbrev S1x2x8x256 : Shape := ⟨4, ![1, 2, 8, 256]⟩
abbrev S1x1x8x256 : Shape := ⟨4, ![1, 1, 8, 256]⟩
abbrev S8x256 : Shape := ⟨2, ![8, 256]⟩
abbrev S2x256 : Shape := ⟨2, ![2, 256]⟩
abbrev S64x256 : Shape := ⟨2, ![64, 256]⟩
abbrev S72x256 : Shape := ⟨2, ![72, 256]⟩
abbrev S1x256 : Shape := ⟨2, ![1, 256]⟩

abbrev nBuf : Space → Nat
  | .hbm => 14
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S4x5632, .f32⟩
  | .hbm, ⟨4, _⟩ => ⟨S2816x1024, .bf16⟩
  | .hbm, ⟨5, _⟩ => ⟨S1024, .f32⟩
  | .hbm, ⟨6, _⟩ => ⟨S1024x1024, .bf16⟩
  | .hbm, ⟨7, _⟩ => ⟨S32768x256, .f32⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32x2x2816, .f32⟩
  | .hbm, ⟨13, _⟩ => ⟨S32x2x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S4x256, .f32⟩
  | .local _ .vmem, ⟨8, _⟩ => ⟨S4x256, .f32⟩
  | .local _ .vmem, ⟨9, _⟩ => ⟨S4x256, .f32⟩
  | .local _ .vmem, ⟨10, _⟩ => ⟨S4x256, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x256, .f32⟩
  | .local _ .vmem, ⟨16, _⟩ => ⟨S1024x256, .f32⟩
  | .local _ .vmem, ⟨17, _⟩ => ⟨S256x1024, .bf16⟩
  | .local _ .vmem, ⟨18, _⟩ => ⟨S1024x1024, .f32⟩
  | .local _ .vmem, ⟨19, _⟩ => ⟨S1024x1024, .f32⟩
  | .local _ .vmem, ⟨20, _⟩ => ⟨S1x2x256, .f32⟩
  | .local _ .vmem, ⟨21, _⟩ => ⟨S1x2x256, .f32⟩
  | .local _ .vmem, ⟨22, _⟩ => ⟨S1x2x256, .f32⟩
  | .local _ .vmem, ⟨23, _⟩ => ⟨S1x2x256, .f32⟩
  | .local _ .vmem, ⟨24, _⟩ => ⟨S1024x1024, .bf16⟩
  | .local _ .vmem, ⟨25, _⟩ => ⟨S11x2x8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg0 : BitVec 32 := BitVec.ofNat 32 (i 0).val
  let c2_i32 : BitVec 32 := 2#32
  let c0_i32_7 : BitVec 32 := 0#32
  let v8 : BitVec 1 := Scalar.cmpi .eq c2_i32 c0_i32_7
  let c1_i32 : BitVec 32 := 1#32
  let v9 : BitVec 32 := Scalar.select v8 c1_i32 c2_i32
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c0_i32_11 : BitVec 32 := 0#32
  let v18 : BitVec 1 := Scalar.cmpi .eq v17 c0_i32_11
  let v19 : BitVec 32 := Scalar.extui v18
  let c0_i32_12 : BitVec 32 := 0#32
  let v20 : BitVec 1 := Scalar.cmpi .ne v19 c0_i32_12
  v20

def k0_off1 (i : grid0.Coords) : Fin 4 → Nat :=
  let arg1 : BitVec 32 := BitVec.ofNat 32 (i 1).val
  let v892 : Index := Scalar.indexCast arg1
  let c0_157 : Index := 0#32
  let c0_158 : Index := 0#32
  let c0_159 : Index := 0#32
  ![v892.toNat, 0, 0, 0]
def k0_off2 (i : grid0.Coords) : Fin 4 → Nat :=
  let arg1 : BitVec 32 := BitVec.ofNat 32 (i 1).val
  let v21 : Index := Scalar.indexCast arg1
  let c0_13 : Index := 0#32
  let c0_14 : Index := 0#32
  let c0_15 : Index := 0#32
  ![v21.toNat, 0, 0, 0]
def k0_off3 (i : grid0.Coords) : Fin 4 → Nat :=
  let arg1 : BitVec 32 := BitVec.ofNat 32 (i 1).val
  let v24 : Index := Scalar.indexCast arg1
  let c1 : Index := 1#32
  let c0_16 : Index := 0#32
  let c0_17 : Index := 0#32
  ![v24.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S32768x1024 : Shape := ⟨2, ![32768, 1024]⟩
abbrev S1024 : Shape := ⟨1, ![1024]⟩
abbrev S1024x5632 : Shape := ⟨2, ![1024, 5632]⟩
abbrev S4x5632 : Shape := ⟨2, ![4, 5632]⟩
abbrev S2816x1024 : Shape := ⟨2, ![2816, 1024]⟩
abbrev S1024x1024 : Shape := ⟨2, ![1024, 1024]⟩
abbrev S32768x256 : Shape := ⟨2, ![32768, 256]⟩
abbrev S256x1024 : Shape := ⟨2, ![256, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S1x5632 : Shape := ⟨2, ![1, 5632]⟩
abbrev S5632 : Shape := ⟨1, ![5632]⟩
abbrev S1x1x5632 : Shape := ⟨3, ![1, 1, 5632]⟩
abbrev S16x2048x2816 : Shape := ⟨3, ![16, 2048, 2816]⟩
abbrev S16x2048x256 : Shape := ⟨3, ![16, 2048, 256]⟩
abbrev S32x1024x5632 : Shape := ⟨3, ![32, 1024, 5632]⟩
abbrev S32x2x5632 : Shape := ⟨3, ![32, 2, 5632]⟩
abbrev S32x2x2816 : Shape := ⟨3, ![32, 2, 2816]⟩

abbrev nBuf : Space → Nat
  | .hbm => 107
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S4x5632, .f32⟩
  | .hbm, ⟨4, _⟩ => ⟨S2816x1024, .bf16⟩
  | .hbm, ⟨5, _⟩ => ⟨S1024, .f32⟩
  | .hbm, ⟨6, _⟩ => ⟨S1024x1024, .bf16⟩
  | .hbm, ⟨7, _⟩ => ⟨S32768x256, .f32⟩
  | .hbm, ⟨8, _⟩ => ⟨S256x1024, .bf16⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S1024x5632, .f32⟩
  | .hbm, ⟨27, _⟩ => ⟨S16x2048x5632, .f32⟩
  | .hbm, ⟨28, _⟩ => ⟨S_, .f32⟩
  | .hbm, ⟨29, _⟩ => ⟨S16x2x5632, .f32⟩
  | .hbm, ⟨30, _⟩ => ⟨S16x2050x5632, .f32⟩
  | .hbm, ⟨31, _⟩ => ⟨S16x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S16x2048x5632, .f32⟩
  | .hbm, ⟨36, _⟩ => ⟨S16x2048x5632, .f32⟩
  | .hbm, ⟨37, _⟩ => ⟨S16x2048x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S16x2048x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S16x2048x5632, .f32⟩
  | .hbm, ⟨55, _⟩ => ⟨S16x2048x5632, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S_, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S2816x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S1024x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S_, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048x1024, .f32⟩
  | .hbm, ⟨96, _⟩ => ⟨S16x2048x1024, .f32⟩
  | .hbm, ⟨97, _⟩ => ⟨S16x2048x256, .f32⟩
  | .hbm, ⟨98, _⟩ => ⟨S256x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S32x1024x5632, .f32⟩
  | .hbm, ⟨103, _⟩ => ⟨S32x2x5632, .f32⟩
  | .hbm, ⟨104, _⟩ => ⟨S32x2x2816, .f32⟩
  | .hbm, ⟨105, _⟩ => ⟨S32x2x2816, .f32⟩
  | .hbm, ⟨106, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x5632 : Shape := ⟨2, ![1024, 5632]⟩
abbrev S4x5632 : Shape := ⟨2, ![4, 5632]⟩
abbrev S2816x1024 : Shape := ⟨2, ![2816, 1024]⟩
abbrev S1024x1024 : Shape := ⟨2, ![1024, 1024]⟩
abbrev S32768x256 : Shape := ⟨2, ![32768, 256]⟩
abbrev S256x1024 : Shape := ⟨2, ![256, 1024]⟩
abbrev S1x1024 : Shape := ⟨2, ![1, 1024]⟩
abbrev S32x2x2816 : Shape := ⟨3, ![32, 2, 2816]⟩
abbrev S1024x256 : Shape := ⟨2, ![1024, 256]⟩
abbrev S4x256 : Shape := ⟨2, ![4, 256]⟩
abbrev S1x2x256 : Shape := ⟨3, ![1, 2, 256]⟩
abbrev S11x2x8x256 : Shape := ⟨4, ![11, 2, 8, 256]⟩
abbrev S1024x1 : Shape := ⟨2, ![1024, 1]⟩
abbrev S2x8x256 : Shape := ⟨3, ![2, 8, 256]⟩
abbrev S1x2x8x256 : Shape := ⟨4, ![1, 2, 8, 256]⟩
abbrev S1x1x8x256 : Shape := ⟨4, ![1, 1, 8, 256]⟩
abbrev S8x256 : Shape := ⟨2, ![8, 256]⟩
abbrev S2x256 : Shape := ⟨2, ![2, 256]⟩
abbrev S64x256 : Shape := ⟨2, ![64, 256]⟩
abbrev S72x256 : Shape := ⟨2, ![72, 256]⟩
abbrev S1x256 : Shape := ⟨2, ![1, 256]⟩

abbrev nBuf : Space → Nat
  | .hbm => 16
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S4x5632, .f32⟩
  | .hbm, ⟨4, _⟩ => ⟨S2816x1024, .bf16⟩
  | .hbm, ⟨5, _⟩ => ⟨S1024, .f32⟩
  | .hbm, ⟨6, _⟩ => ⟨S1024x1024, .bf16⟩
  | .hbm, ⟨7, _⟩ => ⟨S32768x256, .f32⟩
  | .hbm, ⟨8, _⟩ => ⟨S256x1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32x2x2816, .f32⟩
  | .hbm, ⟨15, _⟩ => ⟨S32x2x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S4x256, .f32⟩
  | .local _ .vmem, ⟨8, _⟩ => ⟨S4x256, .f32⟩
  | .local _ .vmem, ⟨9, _⟩ => ⟨S4x256, .f32⟩
  | .local _ .vmem, ⟨10, _⟩ => ⟨S4x256, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x256, .f32⟩
  | .local _ .vmem, ⟨16, _⟩ => ⟨S1024x256, .f32⟩
  | .local _ .vmem, ⟨17, _⟩ => ⟨S256x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1x2x256, .f32⟩
  | .local _ .vmem, ⟨22, _⟩ => ⟨S1x2x256, .f32⟩
  | .local _ .vmem, ⟨23, _⟩ => ⟨S1x2x256, .f32⟩
  | .local _ .vmem, ⟨24, _⟩ => ⟨S1x2x256, .f32⟩
  | .local _ .vmem, ⟨25, _⟩ => ⟨S1024x1024, .bf16⟩
  | .local _ .vmem, ⟨26, _⟩ => ⟨S11x2x8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg0 : BitVec 32 := BitVec.ofNat 32 (i 0).val
  let c2_i32 : BitVec 32 := 2#32
  let c0_i32_7 : BitVec 32 := 0#32
  let v8 : BitVec 1 := Scalar.cmpi .eq c2_i32 c0_i32_7
  let c1_i32 : BitVec 32 := 1#32
  let v9 : BitVec 32 := Scalar.select v8 c1_i32 c2_i32
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c0_i32_11 : BitVec 32 := 0#32
  let v18 : BitVec 1 := Scalar.cmpi .eq v17 c0_i32_11
  let v19 : BitVec 32 := Scalar.extui v18
  let c0_i32_12 : BitVec 32 := 0#32
  let v20 : BitVec 1 := Scalar.cmpi .ne v19 c0_i32_12
  v20

def k0_off1 (i : grid0.Coords) : Fin 4 → Nat :=
  let arg1 : BitVec 32 := BitVec.ofNat 32 (i 1).val
  let v892 : Index := Scalar.indexCast arg1
  let c0_157 : Index := 0#32
  let c0_158 : Index := 0#32
  let c0_159 : Index := 0#32
  ![v892.toNat, 0, 0, 0]
def k0_off2 (i : grid0.Coords) : Fin 4 → Nat :=
  let arg1 : BitVec 32 := BitVec.ofNat 32 (i 1).val
  let v21 : Index := Scalar.indexCast arg1
  let c0_13 : Index := 0#32
  let c0_14 : Index := 0#32
  let c0_15 : Index := 0#32
  ![v21.toNat, 0, 0, 0]
def k0_off3 (i : grid0.Coords) : Fin 4 → Nat :=
  let arg1 : BitVec 32 := BitVec.ofNat 32 (i 1).val
  let v24 : Index := Scalar.indexCast arg1
  let c1 : Index := 1#32
  let c0_16 : Index := 0#32
  let c0_17 : Index := 0#32
  ![v24.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S32768x1024 : Shape := ⟨2, ![32768, 1024]⟩
abbrev S1024 : Shape := ⟨1, ![1024]⟩
abbrev S1024x5632 : Shape := ⟨2, ![1024, 5632]⟩
abbrev S4x5632 : Shape := ⟨2, ![4, 5632]⟩
abbrev S2816x1024 : Shape := ⟨2, ![2816, 1024]⟩
abbrev S1024x1024 : Shape := ⟨2, ![1024, 1024]⟩
abbrev S32768x256 : Shape := ⟨2, ![32768, 256]⟩
abbrev S256x1024 : Shape := ⟨2, ![256, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S1x5632 : Shape := ⟨2, ![1, 5632]⟩
abbrev S5632 : Shape := ⟨1, ![5632]⟩
abbrev S1x1x5632 : Shape := ⟨3, ![1, 1, 5632]⟩
abbrev S16x2048x2816 : Shape := ⟨3, ![16, 2048, 2816]⟩
abbrev S16x2048x256 : Shape := ⟨3, ![16, 2048, 256]⟩
abbrev S32x1024x5632 : Shape := ⟨3, ![32, 1024, 5632]⟩
abbrev S32x2x5632 : Shape := ⟨3, ![32, 2, 5632]⟩
abbrev S32x2x2816 : Shape := ⟨3, ![32, 2, 2816]⟩

abbrev nBuf : Space → Nat
  | .hbm => 124
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .bf16⟩
  | .hbm, ⟨3, _⟩ => ⟨S4x5632, .f32⟩
  | .hbm, ⟨4, _⟩ => ⟨S2816x1024, .bf16⟩
  | .hbm, ⟨5, _⟩ => ⟨S1024, .f32⟩
  | .hbm, ⟨6, _⟩ => ⟨S1024x1024, .bf16⟩
  | .hbm, ⟨7, _⟩ => ⟨S32768x256, .f32⟩
  | .hbm, ⟨8, _⟩ => ⟨S256x1024, .bf16⟩
  | .hbm, ⟨9, _⟩ => ⟨S1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S1024x5632, .f32⟩
  | .hbm, ⟨28, _⟩ => ⟨S16x2048x5632, .f32⟩
  | .hbm, ⟨29, _⟩ => ⟨S_, .f32⟩
  | .hbm, ⟨30, _⟩ => ⟨S16x2x5632, .f32⟩
  | .hbm, ⟨31, _⟩ => ⟨S16x2050x5632, .f32⟩
  | .hbm, ⟨32, _⟩ => ⟨S16x2048x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S16x2048x5632, .f32⟩
  | .hbm, ⟨37, _⟩ => ⟨S16x2048x5632, .f32⟩
  | .hbm, ⟨38, _⟩ => ⟨S16x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S16x2048x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S16x2048x5632, .f32⟩
  | .hbm, ⟨56, _⟩ => ⟨S16x2048x5632, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S_, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S2816x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S1024x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S_, .f32⟩
  | .hbm, ⟨93, _⟩ => ⟨S16x2048x1024, .f32⟩
  | .hbm, ⟨94, _⟩ => ⟨S16x2048x1024, .f32⟩
  | .hbm, ⟨95, _⟩ => ⟨S_, .f32⟩
  | .hbm, ⟨96, _⟩ => ⟨S16x2048x1024, .f32⟩
  | .hbm, ⟨97, _⟩ => ⟨S16x2048x1024, .f32⟩
  | .hbm, ⟨98, _⟩ => ⟨S16x2048x256, .f32⟩
  | .hbm, ⟨99, _⟩ => ⟨S256x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S32x1024x5632, .f32⟩
  | .hbm, ⟨104, _⟩ => ⟨S32x2x5632, .f32⟩
  | .hbm, ⟨105, _⟩ => ⟨S32x2x2816, .f32⟩
  | .hbm, ⟨106, _⟩ => ⟨S32x2x2816, .f32⟩
  | .hbm, ⟨107, _⟩ => ⟨S16x2048x1024, .f32⟩
  | .hbm, ⟨108, _⟩ => ⟨S_, .f32⟩
  | .hbm, ⟨109, _⟩ => ⟨S16x2048, .f32⟩
  | .hbm, ⟨110, _⟩ => ⟨S16x2048x1, .f32⟩
  | .hbm, ⟨111, _⟩ => ⟨S_, .f32⟩
  | .hbm, ⟨112, _⟩ => ⟨S16x2048x1, .f32⟩
  | .hbm, ⟨113, _⟩ => ⟨S16x2048x1, .f32⟩
  | .hbm, ⟨114, _⟩ => ⟨S_, .f32⟩
  | .hbm, ⟨115, _⟩ => ⟨S16x2048x1, .f32⟩
  | .hbm, ⟨116, _⟩ => ⟨S16x2048x1, .f32⟩
  | .hbm, ⟨117, _⟩ => ⟨S16x2048x1, .f32⟩
  | .hbm, ⟨118, _⟩ => ⟨S16x2048x1024, .f32⟩
  | .hbm, ⟨119, _⟩ => ⟨S16x2048x1024, .f32⟩
  | .hbm, ⟨120, _⟩ => ⟨S1x1x1024, .f32⟩
  | .hbm, ⟨121, _⟩ => ⟨S16x2048x1024, .f32⟩
  | .hbm, ⟨122, _⟩ => ⟨S16x2048x1024, .f32⟩
  | .hbm, ⟨123, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_10 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_v90 : Ref sig .tc := ⟨.hbm, 113, rfl⟩
abbrev main_cst_12 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x768 : Shape := ⟨2, ![1024, 768]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S3x32768x256 : Shape := ⟨3, ![3, 32768, 256]⟩
abbrev S1024x1024 : Shape := ⟨2, ![1024, 1024]⟩
abbrev S1024x256 : Shape := ⟨2, ![1024, 256]⟩
abbrev S1024x128 : Shape := ⟨2, ![1024, 128]⟩
abbrev S1x1024x256 : Shape := ⟨3, ![1, 1024, 256]⟩
abbrev S1024x1 : Shape := ⟨2, ![1024, 1]⟩

abbrev nBuf : Space → Nat
  | .hbm => 31
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x768, .bf16⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x64, .f32⟩
  | .hbm, ⟨21, _⟩ => ⟨S1x2048x1x64, .f32⟩
  | .hbm, ⟨22, _⟩ => ⟨S1x2048x2x64, .f32⟩
  | .hbm, ⟨23, _⟩ => ⟨S2048x128, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S1x1024, .f32⟩
  | .hbm, ⟨30, _⟩ => ⟨S3x32768x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024x256, .f32⟩
  | .local _ .vmem, ⟨10, _⟩ => ⟨S1x1024x256, .f32⟩
  | .local _ .vmem, ⟨11, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x1024 : Shape := ⟨2, ![32768, 1024]⟩
abbrev S1024 : Shape := ⟨1, ![1024]⟩
abbrev S1024x768 : Shape := ⟨2, ![1024, 768]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x768 : Shape := ⟨3, ![16, 2048, 768]⟩
abbrev S16x2048x3x2x2x64 : Shape := ⟨6, ![16, 2048, 3, 2, 2, 64]⟩
abbrev S2048 : Shape := ⟨1, ![2048]⟩
abbrev S16x2048x3x1x2x64 : Shape := ⟨6, ![16, 2048, 3, 1, 2, 64]⟩
abbrev S16x2048x3x2x64 : Shape := ⟨5, ![16, 2048, 3, 2, 64]⟩
abbrev S16x2048x6x64 : Shape := ⟨4, ![16, 2048, 6, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x6x32 : Shape := ⟨4, ![16, 2048, 6, 32]⟩
abbrev S1x2048x1x32 : Shape := ⟨4, ![1, 2048, 1, 32]⟩
abbrev S32768x3x256 : Shape := ⟨3, ![32768, 3, 256]⟩
abbrev S3x32768x256 : Shape := ⟨3, ![3, 32768, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x768, .bf16⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1024x768, .f32⟩
  | .hbm, ⟨21, _⟩ => ⟨S16x2048x768, .f32⟩
  | .hbm, ⟨22, _⟩ => ⟨S16x2048x3x2x2x64, .f32⟩
  | .hbm, ⟨23, _⟩ => ⟨S2048, .i32⟩
  | .hbm, ⟨24, _⟩ => ⟨S16x2048x3x1x2x64, .f32⟩
  | .hbm, ⟨25, _⟩ => ⟨S16x2048x3x2x64, .f32⟩
  | .hbm, ⟨26, _⟩ => ⟨S16x2048x6x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S2048, .f32⟩
  | .hbm, ⟨36, _⟩ => ⟨S2048x1, .f32⟩
  | .hbm, ⟨37, _⟩ => ⟨S1x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x1x32, .f32⟩
  | .hbm, ⟨43, _⟩ => ⟨S2048x32, .f32⟩
  | .hbm, ⟨44, _⟩ => ⟨S2048x1x32, .f32⟩
  | .hbm, ⟨45, _⟩ => ⟨S16x2048x6x32, .f32⟩
  | .hbm, ⟨46, _⟩ => ⟨S16x2048x6x32, .f32⟩
  | .hbm, ⟨47, _⟩ => ⟨S1x2048x1x32, .f32⟩
  | .hbm, ⟨48, _⟩ => ⟨S16x2048x6x32, .f32⟩
  | .hbm, ⟨49, _⟩ => ⟨S16x2048x6x32, .f32⟩
  | .hbm, ⟨50, _⟩ => ⟨S1x2048x1x32, .f32⟩
  | .hbm, ⟨51, _⟩ => ⟨S16x2048x6x32, .f32⟩
  | .hbm, ⟨52, _⟩ => ⟨S16x2048x6x32, .f32⟩
  | .hbm, ⟨53, _⟩ => ⟨S16x2048x6x32, .f32⟩
  | .hbm, ⟨54, _⟩ => ⟨S1x2048x1x32, .f32⟩
  | .hbm, ⟨55, _⟩ => ⟨S16x2048x6x32, .f32⟩
  | .hbm, ⟨56, _⟩ => ⟨S16x2048x6x32, .f32⟩
  | .hbm, ⟨57, _⟩ => ⟨S1x2048x1x32, .f32⟩
  | .hbm, ⟨58, _⟩ => ⟨S16x2048x6x32, .f32⟩
  | .hbm, ⟨59, _⟩ => ⟨S16x2048x6x32, .f32⟩
  | .hbm, ⟨60, _⟩ => ⟨S16x2048x6x32, .f32⟩
  | .hbm, ⟨61, _⟩ => ⟨S16x2048x6x64, .f32⟩
  | .hbm, ⟨62, _⟩ => ⟨S16x2048x3x2x64, .f32⟩
  | .hbm, ⟨63, _⟩ => ⟨S16x2048x3x1x2x64, .f32⟩
  | .hbm, ⟨64, _⟩ => ⟨S16x2048x3x2x64, .f32⟩
  | .hbm, ⟨65, _⟩ => ⟨S16x2048x3x1x2x64, .f32⟩
  | .hbm, ⟨66, _⟩ => ⟨S16x2048x3x1x2x64, .f32⟩
  | .hbm, ⟨67, _⟩ => ⟨S16x2048x3x2x2x64, .f32⟩
  | .hbm, ⟨68, _⟩ => ⟨S32768x3x256, .f32⟩
  | .hbm, ⟨69, _⟩ => ⟨S3x32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x800 : Shape := ⟨2, ![1024, 800]⟩
abbrev S512 : Shape := ⟨1, ![512]⟩
abbrev S256 : Shape := ⟨1, ![256]⟩
abbrev S_ : Shape := ⟨0, ![]⟩
abbrev S1024x896 : Shape := ⟨2, ![1024, 896]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1x512 : Shape := ⟨2, ![1, 512]⟩
abbrev S1x256 : Shape := ⟨2, ![1, 256]⟩
abbrev S1x1024 : Shape := ⟨2, ![1, 1024]⟩
abbrev S32768x896 : Shape := ⟨2, ![32768, 896]⟩
abbrev S1024x1024 : Shape := ⟨2, ![1024, 1024]⟩
abbrev S1024x128 : Shape := ⟨2, ![1024, 128]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 39
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x800, .f32⟩
  | .hbm, ⟨3, _⟩ => ⟨S512, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S1024x896, .f32⟩
  | .hbm, ⟨8, _⟩ => ⟨S1024x896, .bf16⟩
  | .hbm, ⟨9, _⟩ => ⟨S2048, .i32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048, .f32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x32, .f32⟩
  | .hbm, ⟨27, _⟩ => ⟨S1x2048x1x32, .f32⟩
  | .hbm, ⟨28, _⟩ => ⟨S1x2048x4x32, .f32⟩
  | .hbm, ⟨29, _⟩ => ⟨S2048x128, .f32⟩
  | .hbm, ⟨30, _⟩ => ⟨S2048x16, .f32⟩
  | .hbm, ⟨31, _⟩ => ⟨S2048x32, .f32⟩
  | .hbm, ⟨32, _⟩ => ⟨S1x2048x1x32, .f32⟩
  | .hbm, ⟨33, _⟩ => ⟨S1x2048x4x32, .f32⟩
  | .hbm, ⟨34, _⟩ => ⟨S2048x128, .f32⟩
  | .hbm, ⟨35, _⟩ => ⟨S1x512, .f32⟩
  | .hbm, ⟨36, _⟩ => ⟨S1x256, .f32⟩
  | .hbm, ⟨37, _⟩ => ⟨S1x1024, .f32⟩
  | .hbm, ⟨38, _⟩ => ⟨S32768x896, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1x512, .f32⟩
  | .local _ .vmem, ⟨5, _⟩ => ⟨S1x256, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x896, .f32⟩
  | .local _ .vmem, ⟨11, _⟩ => ⟨S1024x896, .f32⟩
  | .local _ .vmem, ⟨12, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S32768x1024 : Shape := ⟨2, ![32768, 1024]⟩
abbrev S1024 : Shape := ⟨1, ![1024]⟩
abbrev S1024x800 : Shape := ⟨2, ![1024, 800]⟩
abbrev S512 : Shape := ⟨1, ![512]⟩
abbrev S256 : Shape := ⟨1, ![256]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x800 : Shape := ⟨3, ![16, 2048, 800]⟩
abbrev S16x2048x512 : Shape := ⟨3, ![16, 2048, 512]⟩
abbrev S1x1x512 : Shape := ⟨3, ![1, 1, 512]⟩
abbrev S16x2048x256 : Shape := ⟨3, ![16, 2048, 256]⟩
abbrev S1x1x256 : Shape := ⟨3, ![1, 1, 256]⟩
abbrev S16x2048x32 : Shape := ⟨3, ![16, 2048, 32]⟩
abbrev S16x2048x1x32 : Shape := ⟨4, ![16, 2048, 1, 32]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x1x16 : Shape := ⟨4, ![16, 2048, 1, 16]⟩
abbrev S1x2048x1x16 : Shape := ⟨4, ![1, 2048, 1, 16]⟩
abbrev S16x2048x96 : Shape := ⟨3, ![16, 2048, 96]⟩
abbrev S16x2048x896 : Shape := ⟨3, ![16, 2048, 896]⟩
abbrev S32768x896 : Shape := ⟨2, ![32768, 896]⟩

abbrev nBuf : Space → Nat
  | .hbm => 100
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x800, .f32⟩
  | .hbm, ⟨3, _⟩ => ⟨S512, .f32⟩
  | .hbm, ⟨4, _⟩ => ⟨S256, .f32⟩
  | .hbm, ⟨5, _⟩ => ⟨S16x2048x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x800, .f32⟩
  | .hbm, ⟨23, _⟩ => ⟨S16x2048x512, .f32⟩
  | .hbm, ⟨24, _⟩ => ⟨S16x2048x512, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x512, .f32⟩
  | .hbm, ⟨36, _⟩ => ⟨S16x2048x512, .f32⟩
  | .hbm, ⟨37, _⟩ => ⟨S1x1x512, .f32⟩
  | .hbm, ⟨38, _⟩ => ⟨S16x2048x512, .f32⟩
  | .hbm, ⟨39, _⟩ => ⟨S16x2048x512, .f32⟩
  | .hbm, ⟨40, _⟩ => ⟨S16x2048x256, .f32⟩
  | .hbm, ⟨41, _⟩ => ⟨S16x2048x256, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x256, .f32⟩
  | .hbm, ⟨53, _⟩ => ⟨S16x2048x256, .f32⟩
  | .hbm, ⟨54, _⟩ => ⟨S1x1x256, .f32⟩
  | .hbm, ⟨55, _⟩ => ⟨S16x2048x256, .f32⟩
  | .hbm, ⟨56, _⟩ => ⟨S16x2048x256, .f32⟩
  | .hbm, ⟨57, _⟩ => ⟨S16x2048x32, .f32⟩
  | .hbm, ⟨58, _⟩ => ⟨S16x2048x1x32, .f32⟩
  | .hbm, ⟨59, _⟩ => ⟨S2048, .i32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S2048, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x1x16, .f32⟩
  | .hbm, ⟨76, _⟩ => ⟨S2048x16, .f32⟩
  | .hbm, ⟨77, _⟩ => ⟨S2048x1x16, .f32⟩
  | .hbm, ⟨78, _⟩ => ⟨S16x2048x1x16, .f32⟩
  | .hbm, ⟨79, _⟩ => ⟨S16x2048x1x16, .f32⟩
  | .hbm, ⟨80, _⟩ => ⟨S1x2048x1x16, .f32⟩
  | .hbm, ⟨81, _⟩ => ⟨S16x2048x1x16, .f32⟩
  | .hbm, ⟨82, _⟩ => ⟨S16x2048x1x16, .f32⟩
  | .hbm, ⟨83, _⟩ => ⟨S1x2048x1x16, .f32⟩
  | .hbm, ⟨84, _⟩ => ⟨S16x2048x1x16, .f32⟩
  | .hbm, ⟨85, _⟩ => ⟨S16x2048x1x16, .f32⟩
  | .hbm, ⟨86, _⟩ => ⟨S16x2048x1x16, .f32⟩
  | .hbm, ⟨87, _⟩ => ⟨S1x2048x1x16, .f32⟩
  | .hbm, ⟨88, _⟩ => ⟨S16x2048x1x16, .f32⟩
  | .hbm, ⟨89, _⟩ => ⟨S16x2048x1x16, .f32⟩
  | .hbm, ⟨90, _⟩ => ⟨S1x2048x1x16, .f32⟩
  | .hbm, ⟨91, _⟩ => ⟨S16x2048x1x16, .f32⟩
  | .hbm, ⟨92, _⟩ => ⟨S16x2048x1x16, .f32⟩
  | .hbm, ⟨93, _⟩ => ⟨S16x2048x1x16, .f32⟩
  | .hbm, ⟨94, _⟩ => ⟨S16x2048x1x32, .f32⟩
  | .hbm, ⟨95, _⟩ => ⟨S16x2048x32, .f32⟩
  | .hbm, ⟨96, _⟩ => ⟨S_, .f32⟩
  | .hbm, ⟨97, _⟩ => ⟨S16x2048x96, .f32⟩
  | .hbm, ⟨98, _⟩ => ⟨S16x2048x896, .f32⟩
  | .hbm, ⟨99, _⟩ => ⟨S32768x896, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S16x32x2048x128 : Shape := ⟨4, ![16, 32, 2048, 128]⟩
abbrev S1024x1024 : Shape := ⟨2, ![1024, 1024]⟩
abbrev S1x8x1024x128 : Shape := ⟨4, ![1, 8, 1024, 128]⟩
abbrev S1024x1 : Shape := ⟨2, ![1024, 1]⟩
abbrev S1024x128 : Shape := ⟨2, ![1024, 128]⟩
abbrev S1x1x1024x128 : Shape := ⟨4, ![1, 1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S16x32x2048x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x8x1024x128, .f32⟩
  | .local _ .vmem, ⟨6, _⟩ => ⟨S1x8x1024x128, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x1024 : Shape := ⟨2, ![32768, 1024]⟩
abbrev S1024 : Shape := ⟨1, ![1024]⟩
abbrev S1024x4096 : Shape := ⟨2, ![1024, 4096]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x2048x32x128 : Shape := ⟨4, ![16, 2048, 32, 128]⟩
abbrev S16x32x2048x128 : Shape := ⟨4, ![16, 32, 2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x4096, .f32⟩
  | .hbm, ⟨21, _⟩ => ⟨S16x2048x32x128, .f32⟩
  | .hbm, ⟨22, _⟩ => ⟨S16x32x2048x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S16x8x2048x128 : Shape := ⟨4, ![16, 8, 2048, 128]⟩
abbrev S1024x1024 : Shape := ⟨2, ![1024, 1024]⟩
abbrev S32768x1024 : Shape := ⟨2, ![32768, 1024]⟩
abbrev S1x8x1024x128 : Shape := ⟨4, ![1, 8, 1024, 128]⟩
abbrev S1x1x1024x128 : Shape := ⟨4, ![1, 1, 1024, 128]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S16x8x2048x128, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1x8x1024x128, .bf16⟩
  | .local _ .vmem, ⟨1, _⟩ => ⟨S1x8x1024x128, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x8x2048x128 : Shape := ⟨4, ![16, 8, 2048, 128]⟩
abbrev S1024x1024 : Shape := ⟨2, ![1024, 1024]⟩
abbrev S32768x1024 : Shape := ⟨2, ![32768, 1024]⟩
abbrev S16x2048x8x128 : Shape := ⟨4, ![16, 2048, 8, 128]⟩
abbrev S16x2048x1024 : Shape := ⟨3, ![16, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x8x2048x128, .bf16⟩
  | .hbm, ⟨1, _⟩ => ⟨S1024x1024, .f32⟩
  | .hbm, ⟨2, _⟩ => ⟨S32768x1024, .f32⟩
  | .hbm, ⟨3, _⟩ => ⟨S16x8x2048x128, .f32⟩
  | .hbm, ⟨4, _⟩ => ⟨S16x2048x8x128, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S32768x1024, .f32⟩
  | _, _ => ⟨S16x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.FfnIdeal.Setup.lean ====
/- What the runs of the feed-forward kernel share: the buffers the region finds, the windows' blocks, the conditions of
   the body's branches over the points, the staging and scratch buffers, and the frame claim read off the run. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers of core `c` when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer neither reshape writes reaches the region as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- The frame claim from a run of the region: every argument array ends as it was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_of_ne m c main_arg0 (by decide) (by decide)))),
      ((h c).2 main_arg1 (Pipeline.mem_restRefs_of main_arg1 (by decide) (by decide))).trans (V_of_ne m c main_arg1 (by decide) (by decide)),
      ((h c).1 3).trans (((dats 0 c).arrAt_in 3 rfl _).trans ((hA c 3).trans (V_of_ne m c main_arg2 (by decide) (by decide)))),
      ((h c).1 5).trans (((dats 0 c).arrAt_in 5 rfl _).trans ((hA c 5).trans (V_of_ne m c main_arg3 (by decide) (by decide)))),
      ((h c).1 6).trans (((dats 0 c).arrAt_in 6 rfl _).trans ((hA c 6).trans (V_of_ne m c main_arg4 (by decide) (by decide)))),
      ((h c).2 main_arg5 (Pipeline.mem_restRefs_of main_arg5 (by decide) (by decide))).trans (V_of_ne m c main_arg5 (by decide) (by decide)),
      ((h c).1 8).trans (((dats 0 c).arrAt_in 8 rfl _).trans ((hA c 8).trans (V_of_ne m c main_arg6 (by decide) (by decide)))),
      ((h c).1 9).trans (((dats 0 c).arrAt_in 9 rfl _).trans ((hA c 9).trans (V_of_ne m c main_arg7 (by decide) (by decide)))),
      ((h c).1 10).trans (((dats 0 c).arrAt_in 10 rfl _).trans ((hA c 10).trans (V_of_ne m c main_arg8 (by decide) (by decide))))⟩) h

/-! ## The body's branch conditions -/

/-- The first column tile of a row tile. -/
abbrev cond0_0 (i : grid0.Coords) : Prop := (Scalar.cmpi .ne (Scalar.extui (Scalar.cmpi .eq (BitVec.ofNat 32 (i 1).val) 0#32)) 0#32) = 1#1
/-- It holds at the points ≡ 0 (mod 11). -/
theorem hcond0_0 : ∀ t : Fin cfg0.N, cond0_0 (grid0.coords t) ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The first row tile of a sequence. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- It holds at the row tiles of even number. -/
theorem hcond0_1 : ∀ t : Fin cfg0.N, cond0_1 (grid0.coords t) ↔ t.val / 11 % 2 = 0 :=
  (by decide +kernel : ∀ t : Fin grid0.N, cond0_1 (grid0.coords t) ↔ t.val / 11 % 2 = 0)

/-- The last column tile of a row tile. -/
abbrev cond0_2 (i : grid0.Coords) : Prop := (Scalar.cmpi .ne (Scalar.extui (Scalar.cmpi .eq (BitVec.ofNat 32 (i 1).val) 10#32)) 0#32) = 1#1
/-- It holds at the points ≡ 10 (mod 11). -/
theorem hcond0_2 : ∀ t : Fin cfg0.N, cond0_2 (grid0.coords t) ↔ t.val % 11 = 10 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_2, e0, e1]
    word_cmp
   : ∀ t : Fin grid0.N, cond0_2 (grid0.coords t) ↔ t.val % 11 = 10)

/-! ## The buffers of a point -/

/-- Each window's staging buffer at a point, and that it is whole. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S1024x1024 .bf16 := Memref.whole cc0_scratch0
abbrev scM0_1 : Memref sig .tc .vmem S11x2x8x256 .f32 := Memref.whole cc0_scratch1
/-- The scoped buffers and the generator register, with the two scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Ffn

end
-- ==== Proof.FfnIdeal.Vals.lean ====
/- The values one grid point of the feed-forward kernel leaves, from those it finds. -/
module

public import proofs.«01_k».proof.Proof.FfnIdeal.Setup
public import Idealize.ShloMosaic.Lib.VecWindow

@[expose] public section

-- membership in a rectangle of production extents (`View.cover_of_tiled`): the elaborator's structural look
-- recurses once per coordinate of the long axes
set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of a point -/

/-- A block of eight rows of zeros: the rows before a sequence's first. -/
def zeroRows : Vec F S1x1x8x256 .f32 := fun _ => Scalar.ofBits .f32 0x00000000#32

/-- The gated activation of a row tile at a column tile: `v5` and `v7` the two halves of the up product, `v23` and `v26`
    the eight rows before them, `v49` and `v50` the taps of the convolution and its bias. Sixty-four rows at a time. -/
def act (v5 v7 : FVec F S1024x256 .f32) (v23 v26 : FVec F S8x256 .f32) (v49 v50 : Vec F S4x256 .f32) :
    FVec F S1024x256 .bf16 :=
  k0_pay89 (k0_pay14 v7 v26 v49 v50 (k0_pay13 v5 v23 v49))
    (k0_pay17 v7 v50 (k0_pay15 v5 v49) (k0_pay16 v49))
    (k0_pay19 v7 v50 (k0_pay18 v5 v49))
    (k0_pay22 v7 v50 (k0_pay20 v5 v49) (k0_pay21 v7))
    (k0_pay26 v50 (k0_pay23 v5 v49) (k0_pay24 v7) (k0_pay25 v7))
    (k0_pay30 v50 (k0_pay27 v5 v49) (k0_pay28 v7) (k0_pay29 v7))
    (k0_pay34 v50 (k0_pay31 v5 v49) (k0_pay32 v7) (k0_pay33 v7) 1#32)
    (k0_pay39 v50 (k0_pay35 v5 v49) (k0_pay36 v7) (k0_pay37 v7) (k0_pay38 v7))
    (k0_pay44 v50 (k0_pay40 v5 v49) (k0_pay41 v7) (k0_pay42 v7) (k0_pay43 v7))
    (k0_pay49 v50 (k0_pay45 v5 v49) (k0_pay46 v7) (k0_pay47 v7) (k0_pay48 v7) 2#32)
    (k0_pay55 v50 (k0_pay50 v5 v49) (k0_pay51 v7) (k0_pay53 v7) (k0_pay54 v7))
    (k0_pay61 v50 (k0_pay56 v5 v49) (k0_pay57 v7) (k0_pay59 v7) (k0_pay60 v7))
    (k0_pay68 v50 (k0_pay62 v5 v49) (k0_pay63 v7) (k0_pay65 v7) (k0_pay66 v7) (k0_pay67 v50))
    (k0_pay75 v50 (k0_pay69 v5 v49) (k0_pay70 v7) (k0_pay72 v7) (k0_pay73 v7) (k0_pay74 v50))
    (k0_pay81 v50 (k0_pay76 v5 v49) (k0_pay77 v7) (k0_pay79 v7) (k0_pay80 v7 v50))
    (k0_pay88 v50 (k0_pay82 v5 v49) (k0_pay83 v7) (k0_pay85 v7) (k0_pay86 v7 v50) (k0_pay87 v50))

/-- The output tile after a column tile's share is added: `h` the normalised rows, `o` the tile before. -/
def step (h : Vec F S1024x1024 .bf16) (x2 x3 : Vec F S1024x256 .bf16) (p q : Vec F S1x1x8x256 .f32)
    (x4 x5 : Vec F S4x256 .f32) (o : Vec F S1024x1024 .f32) (x6 : Vec F S256x1024 .bf16) : Vec F S1024x1024 .f32 :=
  k0_pay90 (act (k0_pay3 h x2) (k0_pay4 h x3) (k0_pay6 p) (k0_pay7 q) x4 x5) o x6

/-- The normalised rows after the body. -/
def hnAfter (i : grid0.Coords) (x0 : Vec F S1024x1024 .f32) (x1 : Vec F S1x1024 .f32) (xs0 : Vec F S1024x1024 .bf16) :
    Vec F S1024x1024 .bf16 := if cond0_0 i then k0_pay2 x0 x1 else xs0

/-- The rows before the tile: zeros at the start of a sequence, else what is carried in slot `o`. -/
def prev (i : grid0.Coords) (o : Fin 4 → ℕ) (ho : ∀ a, o a + S1x1x8x256.size a ≤ S11x2x8x256.size a)
    (xs1 : Vec F S11x2x8x256 .f32) : Vec F S1x1x8x256 .f32 :=
  if cond0_1 i then zeroRows else VecWindow.window xs1 o S1x1x8x256.size ho

/-- The output tile after the body. -/
def oAfter (i : grid0.Coords) (x0 : Vec F S1024x1024 .f32) (x1 : Vec F S1x1024 .f32) (x2 : Vec F S1024x256 .bf16) (x3 : Vec F S1024x256 .bf16) (x4 : Vec F S4x256 .f32) (x5 : Vec F S4x256 .f32) (x6 : Vec F S256x1024 .bf16) (x7 : Vec F S1x1024 .f32) (x8 : Vec F S1024x1024 .bf16) (x9 : Vec F S1024x256 .f32) (x10 : Vec F S256x1024 .bf16) (xo : Vec F S1024x1024 .f32) (xs0 : Vec F S1024x1024 .bf16)
    (xs1 : Vec F S11x2x8x256 .f32) : Vec F S1024x1024 .f32 :=
  let s := step (hnAfter i x0 x1 xs0) x2 x3 (prev i (k0_off2 i) (k0_off2_inb i) xs1)
    (prev i (k0_off3 i) (k0_off3_inb i) xs1) x4 x5 (if cond0_0 i then x0 else xo) x6
  if cond0_2 i then k0_pay1 s x7 x8 x9 x10 else s

/-- The carried rows after the body: the last eight rows of the two up products put in the column tile's slots. -/
def carryAfter (i : grid0.Coords) (h : Vec F S1024x1024 .bf16) (x2 x3 : Vec F S1024x256 .bf16)
    (xs1 : Vec F S11x2x8x256 .f32) : Vec F S11x2x8x256 .f32 :=
  VecWindow.put (VecWindow.put (if cond0_1 i then VecWindow.put xs1 (k0_off1 i) S1x2x8x256.size (k0_pay5 (F := F)) else xs1)
    (k0_off2 i) S1x1x8x256.size (k0_pay9 (k0_pay8 h x2))) (k0_off3 i) S1x1x8x256.size (k0_pay10 (k0_pay4 h x3))

/-- `step` at equal arguments. -/
theorem step_congr {h h' : Vec F S1024x1024 .bf16} {x2 x2' x3 x3' : Vec F S1024x256 .bf16} {p p' q q' : Vec F S1x1x8x256 .f32}
    {x4 x4' x5 x5' : Vec F S4x256 .f32} {o o' : Vec F S1024x1024 .f32} {x6 x6' : Vec F S256x1024 .bf16}
    (eh : h = h') (e2 : x2 = x2') (e3 : x3 = x3') (ep : p = p') (eq : q = q') (e4 : x4 = x4') (e5 : x5 = x5')
    (eo : o = o') (e6 : x6 = x6') :
    k0_pay90 (act (k0_pay3 h x2) (k0_pay4 h x3) (k0_pay6 p) (k0_pay7 q) x4 x5) o x6 = step h' x2' x3' p' q' x4' x5' o' x6' := by
  subst eh e2 e3 ep eq e4 e5 eo e6; rfl

/-- A whole load of a whole buffer. -/
theorem readAt_whole_unread {s : Shape} {e : EltTy} {a : Memref sig .tc .vmem s e} (ha : a.IsWhole) {off : Fin s.rank → ℕ}
    (inb : ∀ k, off k + s.size k ≤ s.size k) (x : Vec F s e) :
    a.view.readAt (Elt F) (Rect.unit off s.size inb).toLoadRect (ha.unread x) = x :=
  (View.readAt_full _ _ inb).trans (ha.read_unread x)

/-- The block of zeros. -/
theorem pay5_apply (y : S1x2x8x256.Idx) : k0_pay5 (F := F) y = Scalar.ofBits .f32 0x00000000#32 := rfl

/-- A load of a slot from the zeroed slots is zeros. -/
theorem readCov_zero (a : Memref sig .tc .vmem S11x2x8x256 .f32) (i : grid0.Coords) (o : Fin 4 → ℕ)
    (hb : ∀ k, k0_off1 i k + S1x2x8x256.size k ≤ S11x2x8x256.size k) (ho : ∀ k, o k + S1x1x8x256.size k ≤ S11x2x8x256.size k)
    (hin : ∀ k, k0_off1 i k ≤ o k ∧ o k + S1x1x8x256.size k ≤ k0_off1 i k + S1x2x8x256.size k) :
    a.view.readCov [(⟨Rect.unit (k0_off1 i) S1x2x8x256.size hb, k0_pay5 (F := F)⟩ : View.Piece (Elt F) S11x2x8x256 .f32)]
      (Rect.unit (s := S11x2x8x256) o S1x1x8x256.size ho).toLoadRect = zeroRows := by
  refine (View.readAt_unit _ _ ho rfl ho).trans ?_
  rw [View.read_writes_cons_put _ _ _ _ _ rfl, VecWindow.window_put_of_inside _ _ _ _ _ _ _ hin]
  funext y
  exact pay5_apply _

/-- The first slot of a column tile lies in its block. -/
theorem off2_in (i : grid0.Coords) : ∀ k, k0_off1 i k ≤ k0_off2 i k ∧ k0_off2 i k + S1x1x8x256.size k ≤ k0_off1 i k + S1x2x8x256.size k := by
  intro k; fin_cases k <;> exact ⟨Nat.le_refl _, by first | exact Nat.le_refl _ | exact Nat.le_succ _⟩

/-- The second slot of a column tile lies in its block. -/
theorem off3_in (i : grid0.Coords) : ∀ k, k0_off1 i k ≤ k0_off3 i k ∧ k0_off3 i k + S1x1x8x256.size k ≤ k0_off1 i k + S1x2x8x256.size k := by
  intro k; fin_cases k <;> exact ⟨by first | exact Nat.le_refl _ | exact Nat.zero_le _, by first | exact Nat.le_refl _ | exact Nat.le_succ _⟩

/-- `carryAfter` where the slots are zeroed first. -/
theorem carry_first {i : grid0.Coords} (hc : cond0_1 i) (a : Memref sig .tc .vmem S11x2x8x256 .f32) (f : a.view.ty.Contents (Elt F))
    {h h' : Vec F S1024x1024 .bf16} {x2 x2' x3 x3' : Vec F S1024x256 .bf16} {xs1 : Vec F S11x2x8x256 .f32}
    (hb : ∀ k, k0_off1 i k + S1x2x8x256.size k ≤ S11x2x8x256.size k)
    (h2 : ∀ k, k0_off2 i k + S1x1x8x256.size k ≤ S11x2x8x256.size k)
    (h3 : ∀ k, k0_off3 i k + S1x1x8x256.size k ≤ S11x2x8x256.size k)
    (eh : h = h') (e2 : x2 = x2') (e3 : x3 = x3') (ex : a.view.read (Elt F) f = xs1) :
    a.view.read (Elt F) (a.view.writes (Elt F) f [⟨Rect.unit (s := S11x2x8x256) (k0_off3 i) S1x1x8x256.size h3, k0_pay10 (k0_pay4 h x3)⟩,
      ⟨Rect.unit (s := S11x2x8x256) (k0_off2 i) S1x1x8x256.size h2, k0_pay9 (k0_pay8 h x2)⟩,
      ⟨Rect.unit (s := S11x2x8x256) (k0_off1 i) S1x2x8x256.size hb, k0_pay5 (F := F)⟩]) = carryAfter i h' x2' x3' xs1 := by
  subst eh e2 e3 ex
  rw [View.read_writes_cons_put _ _ _ _ _ rfl, View.read_writes_cons_put _ _ _ _ _ rfl,
    View.read_writes_cons_put _ _ _ _ _ rfl, View.writes_nil, carryAfter, if_pos hc]

/-- `carryAfter` where the slots hold the tile before. -/
theorem carry_later {i : grid0.Coords} (hc : ¬ cond0_1 i) (a : Memref sig .tc .vmem S11x2x8x256 .f32) (f : a.view.ty.Contents (Elt F))
    {h h' : Vec F S1024x1024 .bf16} {x2 x2' x3 x3' : Vec F S1024x256 .bf16} {xs1 : Vec F S11x2x8x256 .f32}
    (h2 : ∀ k, k0_off2 i k + S1x1x8x256.size k ≤ S11x2x8x256.size k)
    (h3 : ∀ k, k0_off3 i k + S1x1x8x256.size k ≤ S11x2x8x256.size k)
    (eh : h = h') (e2 : x2 = x2') (e3 : x3 = x3') (ex : a.view.read (Elt F) f = xs1) :
    a.view.read (Elt F) (a.view.writes (Elt F) f [⟨Rect.unit (s := S11x2x8x256) (k0_off3 i) S1x1x8x256.size h3, k0_pay10 (k0_pay4 h x3)⟩,
      ⟨Rect.unit (s := S11x2x8x256) (k0_off2 i) S1x1x8x256.size h2, k0_pay9 (k0_pay8 h x2)⟩]) = carryAfter i h' x2' x3' xs1 := by
  subst eh e2 e3 ex
  rw [View.read_writes_cons_put _ _ _ _ _ rfl, View.read_writes_cons_put _ _ _ _ _ rfl, View.writes_nil, carryAfter, if_neg hc]

/-- The last share's tile, gated. -/
theorem last_congr {s s' : Vec F S1024x1024 .f32} {x7 x7' : Vec F S1x1024 .f32} {x8 x8' : Vec F S1024x1024 .bf16}
    {x9 x9' : Vec F S1024x256 .f32} {x10 x10' : Vec F S256x1024 .bf16}
    (es : s = s') (e7 : x7 = x7') (e8 : x8 = x8') (e9 : x9 = x9') (e10 : x10 = x10') :
    k0_pay1 s x7 x8 x9 x10 = k0_pay1 s' x7' x8' x9' x10' := by
  subst es e7 e8 e9 e10; rfl

end Cert.Kernel2Ideal.Ffn

end
-- ==== Proof.FfnIdeal.Body.lean ====
/- One grid point of the feed-forward kernel, as a triple: what its buffers hold after the body, from what they held
   before it. -/
module

public import proofs.«01_k».proof.Proof.FfnIdeal.Vals
public import Idealize.ShloMosaic.Lib.VecWindow

@[expose] public section

-- membership in a rectangle of production extents (`View.cover_of_tiled`): the elaborator's structural look
-- recurses once per coordinate of the long axes
set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of a point. -/
theorem body_run (c : Dev nD) (i : grid0.Coords) (h02 : ¬ (cond0_0 i ∧ cond0_2 i)) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S4x256 .f32) (harg6 : arg6.IsWhole) (arg7 : Memref sig .tc .vmem S4x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x256 .f32) (harg11 : arg11.IsWhole) (arg12 : Memref sig .tc .vmem S256x1024 .bf16) (harg12 : arg12.IsWhole) (arg13 : Memref sig .tc .vmem S1024x1024 .f32) (harg13 : arg13.IsWhole) (arg14 : Memref sig .tc .vmem S1x2x256 .f32) (harg14 : arg14.IsWhole) (arg15 : Memref sig .tc .vmem S1x2x256 .f32) (harg15 : arg15.IsWhole) (arg16 : Memref sig .tc .vmem S1024x1024 .bf16) (harg16 : arg16.IsWhole) (arg17 : Memref sig .tc .vmem S11x2x8x256 .f32) (harg17 : arg17.IsWhole)
    (x0 : Vec F S1024x1024 .f32) (x1 : Vec F S1x1024 .f32) (x2 : Vec F S1024x256 .bf16) (x3 : Vec F S1024x256 .bf16) (x4 : Vec F S4x256 .f32) (x5 : Vec F S4x256 .f32) (x6 : Vec F S256x1024 .bf16) (x7 : Vec F S1x1024 .f32) (x8 : Vec F S1024x1024 .bf16) (x9 : Vec F S1024x256 .f32) (x10 : Vec F S256x1024 .bf16) (xo : Vec F S1024x1024 .f32) (xs0 : Vec F S1024x1024 .bf16) (xs1 : Vec F S11x2x8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xo ∗ (∃ d, owns (c : Thread nD τ) arg14 fullShare d) ∗ (∃ d, owns (c : Thread nD τ) arg15 fullShare d) ∗ owns (c : Thread nD τ) arg16 fullShare xs0 ∗ owns (c : Thread nD τ) arg17 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (oAfter i x0 x1 x2 x3 x4 x5 x6 x7 x8 x9 x10 xo xs0 xs1)
          ∗ owns (c : Thread nD τ) arg14 fullShare (k0_pay11 (k0_pay3 (hnAfter i x0 x1 xs0) x2)) ∗ owns (c : Thread nD τ) arg15 fullShare (k0_pay12 (k0_pay4 (hnAfter i x0 x1 xs0) x3))
          ∗ owns (c : Thread nD τ) arg16 fullShare (hnAfter i x0 x1 xs0) ∗ owns (c : Thread nD τ) arg17 fullShare (carryAfter i (hnAfter i x0 x1 xs0) x2 x3 xs1)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_eq_skeleton]; unfold cc0_ffn_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0; obtain rfl := harg17.eq_unread hfs1
  have hs : (cond0_0 i ∧ ¬ cond0_2 i) ∨ (¬ cond0_0 i ∧ ¬ cond0_2 i) ∨ (¬ cond0_0 i ∧ cond0_2 i) := by tauto
  rcases hs with ⟨hc0, hc2⟩ | ⟨hc0, hc2⟩ | ⟨hc0, hc2⟩ <;> by_cases hc1 : cond0_1 i
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr
      swap; · iexact H11
      ipureintro
      refine (View.read_writes_full _ _ _ _ _).trans ?_
      first
        | exact (step_congr (h' := hnAfter i x0 x1 xs0) (x2' := x2) (x3' := x3) (p' := prev i (k0_off2 i) (k0_off2_inb i) xs1)
        (q' := prev i (k0_off3 i) (k0_off3_inb i) xs1) (x4' := x4) (x5' := x5) (o' := if cond0_0 i then x0 else xo) (x6' := x6)
        (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg4 _ _) (readAt_whole_unread harg5 _ _)
        (by (first
        | exact (readCov_zero _ i _ _ _ (off2_in i)).trans (if_pos hc1).symm
        | exact ((View.readAt_unit _ _ (k0_off2_inb i) rfl (k0_off2_inb i)).trans (by rw [harg17.read_unread])).trans (if_neg hc1).symm)) (by (first
        | exact (readCov_zero _ i _ _ _ (off3_in i)).trans (if_pos hc1).symm
        | exact ((View.readAt_unit _ _ (k0_off3_inb i) rfl (k0_off3_inb i)).trans (by rw [harg17.read_unread])).trans (if_neg hc1).symm))
        (readAt_whole_unread harg6 _ _) (readAt_whole_unread harg7 _ _) (by (first
        | exact ((View.readCov_full _ _ _ _ _).trans (readAt_whole_unread harg2 _ _)).trans (if_pos hc0).symm
        | exact (readAt_whole_unread harg13 _ _).trans (if_neg hc0).symm)) (readAt_whole_unread harg8 _ _)).trans (if_neg hc2).symm
        | exact (last_congr ((View.readCov_full _ _ _ _ _).trans (step_congr (h' := hnAfter i x0 x1 xs0) (x2' := x2) (x3' := x3) (p' := prev i (k0_off2 i) (k0_off2_inb i) xs1)
        (q' := prev i (k0_off3 i) (k0_off3_inb i) xs1) (x4' := x4) (x5' := x5) (o' := if cond0_0 i then x0 else xo) (x6' := x6)
        (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg4 _ _) (readAt_whole_unread harg5 _ _)
        (by (first
        | exact (readCov_zero _ i _ _ _ (off2_in i)).trans (if_pos hc1).symm
        | exact ((View.readAt_unit _ _ (k0_off2_inb i) rfl (k0_off2_inb i)).trans (by rw [harg17.read_unread])).trans (if_neg hc1).symm)) (by (first
        | exact (readCov_zero _ i _ _ _ (off3_in i)).trans (if_pos hc1).symm
        | exact ((View.readAt_unit _ _ (k0_off3_inb i) rfl (k0_off3_inb i)).trans (by rw [harg17.read_unread])).trans (if_neg hc1).symm))
        (readAt_whole_unread harg6 _ _) (readAt_whole_unread harg7 _ _) (by (first
        | exact ((View.readCov_full _ _ _ _ _).trans (readAt_whole_unread harg2 _ _)).trans (if_pos hc0).symm
        | exact (readAt_whole_unread harg13 _ _).trans (if_neg hc0).symm)) (readAt_whole_unread harg8 _ _)))
            (readAt_whole_unread harg9 _ _) (readAt_whole_unread harg10 _ _) (readAt_whole_unread harg11 _ _)
            (readAt_whole_unread harg12 _ _)).trans (if_pos hc2).symm
    isplitl [H12]
    · iexists _; isplitr
      swap; · iexact H12
      ipureintro
      exact (View.read_writes_full _ _ _ _ _).trans (congrArg k0_pay11 (congrArg₂ k0_pay3 (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg4 _ _)))
    isplitl [H13]
    · iexists _; isplitr
      swap; · iexact H13
      ipureintro
      exact (View.read_writes_full _ _ _ _ _).trans (congrArg k0_pay12 (congrArg₂ k0_pay4 (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg5 _ _)))
    isplitl [HS0]
    · iexists _; isplitr
      swap; · iexact HS0
      ipureintro
      first
        | exact (harg16.read_unread _).trans (if_neg hc0).symm
        | exact ((View.read_writes_full _ _ _ _ _).trans (congrArg₂ k0_pay2 (readAt_whole_unread harg2 _ _) (readAt_whole_unread harg3 _ _))).trans (if_pos hc0).symm
    iexists _; isplitr
    swap; · iexact HS1
    ipureintro
    first
    | exact carry_first hc1 arg17 _ _ _ _ (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg4 _ _) (readAt_whole_unread harg5 _ _) (harg17.read_unread _)
    | exact carry_later hc1 arg17 _ _ _ (by (first
        | exact ((View.readCov_full _ _ _ _ _).trans (congrArg₂ k0_pay2 (readAt_whole_unread harg2 _ _) (readAt_whole_unread harg3 _ _))).trans (if_pos hc0).symm
        | exact (readAt_whole_unread harg16 _ _).trans (if_neg hc0).symm)) (readAt_whole_unread harg4 _ _) (readAt_whole_unread harg5 _ _) (harg17.read_unread _)

end Cert.Kernel2Ideal.Ffn

end
-- ==== Proof.FfnIdeal.Carry.lean ====
/- What each point of the feed-forward kernel's region leaves, and the rows carried between the points. -/
module

public import proofs.«01_k».proof.Proof.FfnIdeal.Vals
public import Idealize.ShloMosaic.Lib.Claim
public import Idealize.ShloMosaic.Lib.VecWindow

@[expose] public section

-- membership in a rectangle of production extents (`View.cover_of_tiled`): the elaborator's structural look
-- recurses once per coordinate of the long axes
set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The first point of a point's row tile. -/
def row (t : Fin cfg0.N) : Fin cfg0.N := ⟨t.val / 11 * 11, lt_of_le_of_lt (Nat.div_mul_le_self _ _) t.isLt⟩

/-- The normalised rows at a point. -/
def hnAt (c : Dev nD) (t : Fin cfg0.N) : Vec F S1024x1024 .bf16 := k0_pay2 (iblk m c 0 (row t)) (iblk m c 1 (row t))

/-- The last eight rows of the two up products at a point. -/
def tailA (c : Dev nD) (t : Fin cfg0.N) : Vec F S1x1x8x256 .f32 := k0_pay9 (k0_pay8 (hnAt m c t) (iblk m c 2 t))
def tailG (c : Dev nD) (t : Fin cfg0.N) : Vec F S1x1x8x256 .f32 := k0_pay10 (k0_pay4 (hnAt m c t) (iblk m c 3 t))

/-- The same column tile's point of the row tile before. -/
def back (t : Fin cfg0.N) : Fin cfg0.N := ⟨t.val - 11, lt_of_le_of_lt (Nat.sub_le _ _) t.isLt⟩

/-- The eight rows before a point's tile: zeros at the start of a sequence. -/
def prevA (c : Dev nD) (t : Fin cfg0.N) : Vec F S1x1x8x256 .f32 := if t.val / 11 % 2 = 0 then zeroRows else tailA m c (back t)
def prevG (c : Dev nD) (t : Fin cfg0.N) : Vec F S1x1x8x256 .f32 := if t.val / 11 % 2 = 0 then zeroRows else tailG m c (back t)

/-- A point's share added to the tile `o`. -/
def oStep (c : Dev nD) (t : Fin cfg0.N) (o : Vec F S1024x1024 .f32) : Vec F S1024x1024 .f32 :=
  step (hnAt m c t) (iblk m c 2 t) (iblk m c 3 t) (prevA m c t) (prevG m c t) (iblk m c 4 t) (iblk m c 5 t) o (iblk m c 6 t)

/-- The output tile with the shares of the column tiles up to point `n`. -/
def oRaw (c : Dev nD) : (n : ℕ) → n < cfg0.N → Vec F S1024x1024 .f32
  | 0, h => oStep m c ⟨0, h⟩ (iblk m c 0 ⟨0, h⟩)
  | n + 1, h => oStep m c ⟨n + 1, h⟩ (if (n + 1) % 11 = 0 then iblk m c 0 ⟨n + 1, h⟩ else oRaw c n (Nat.lt_of_succ_lt h))

/-- The output tile after a point: gated at the last column tile. -/
def oAt (c : Dev nD) (t : Fin cfg0.N) : Vec F S1024x1024 .f32 :=
  if t.val % 11 = 10 then k0_pay1 (oRaw m c t.val t.isLt) (iblk m c 7 t) (iblk m c 8 t) (iblk m c 9 t) (iblk m c 10 t) else oRaw m c t.val t.isLt

/-! ## The carried rows -/

/-- Before point `n`: the normalised rows are the row tile's, and every slot written in the eleven points before holds
    the tails of its point. -/
def Inv (c : Dev nD) (n : ℕ) (xs0 : Vec F S1024x1024 .bf16) (xs1 : Vec F S11x2x8x256 .f32) : Prop :=
  (∀ t : Fin cfg0.N, t.val + 1 = n → n % 11 ≠ 0 → xs0 = hnAt m c t) ∧
  ∀ t : Fin cfg0.N, t.val < n → n ≤ t.val + 11 →
    VecWindow.window xs1 (k0_off2 (grid0.coords t)) S1x1x8x256.size (k0_off2_inb (grid0.coords t)) = tailA m c t ∧
    VecWindow.window xs1 (k0_off3 (grid0.coords t)) S1x1x8x256.size (k0_off3_inb (grid0.coords t)) = tailG m c t

/-- The column tile of a point. -/
theorem coords_col (t : Fin cfg0.N) : (grid0.coords t 1).val = t.val % 11 := by
  have e1 : (grid0.coords t 1).val = t.val / 1 % 11 := Pipeline.Grid.coords_val t 1 (by decide) rfl
  rw [e1, Nat.div_one]

/-- The column tile as a slot's index. -/
theorem slot_val (i : grid0.Coords) : (Scalar.indexCast (BitVec.ofNat 32 (i 1).val) : Index).toNat = (i 1).val := by
  have h : (i 1).val < 11 := (i 1).isLt
  exact (BitVec.toNat_ofNat _ _).trans (Nat.mod_eq_of_lt (by omega))

theorem off1_eq (i : grid0.Coords) : k0_off1 i = ![(i 1).val, 0, 0, 0] := by rw [← slot_val i]; rfl
theorem off2_eq (i : grid0.Coords) : k0_off2 i = ![(i 1).val, 0, 0, 0] := by rw [← slot_val i]; rfl
theorem off3_eq (i : grid0.Coords) : k0_off3 i = ![(i 1).val, 1, 0, 0] := by rw [← slot_val i]; rfl

/-- Windows at equal offsets. -/
theorem window_congr (x : Vec F S11x2x8x256 .f32) {o o' : Fin 4 → ℕ} (h : o = o')
    (b : ∀ k, o k + S1x1x8x256.size k ≤ S11x2x8x256.size k) (b' : ∀ k, o' k + S1x1x8x256.size k ≤ S11x2x8x256.size k) :
    VecWindow.window x o S1x1x8x256.size b = VecWindow.window x o' S1x1x8x256.size b' := by
  subst h; rfl

/-- A slot of another column tile is kept. -/
theorem carry_other (i : grid0.Coords) (h : Vec F S1024x1024 .bf16) (x2 x3 : Vec F S1024x256 .bf16)
    (xs1 : Vec F S11x2x8x256 .f32) (o : Fin 4 → ℕ) (b : ∀ k, o k + S1x1x8x256.size k ≤ S11x2x8x256.size k) (ne : o 0 ≠ (i 1).val) :
    VecWindow.window (carryAfter i h x2 x3 xs1) o S1x1x8x256.size b = VecWindow.window xs1 o S1x1x8x256.size b := by
  have e1 : k0_off1 i 0 = (i 1).val := by rw [off1_eq]; rfl
  have e2 : k0_off2 i 0 = (i 1).val := by rw [off2_eq]; rfl
  have e3 : k0_off3 i 0 = (i 1).val := by rw [off3_eq]; rfl
  unfold carryAfter
  rw [VecWindow.window_put_of_disjoint _ _ _ _ _ _ _ 0 (by rw [e3]; show o 0 + 1 ≤ _ ∨ _ + 1 ≤ _; omega),
    VecWindow.window_put_of_disjoint _ _ _ _ _ _ _ 0 (by rw [e2]; show o 0 + 1 ≤ _ ∨ _ + 1 ≤ _; omega)]
  by_cases hc : cond0_1 i
  · rw [if_pos hc, VecWindow.window_put_of_disjoint _ _ _ _ _ _ _ 0 (by rw [e1]; show o 0 + 1 ≤ _ ∨ _ + 1 ≤ _; omega)]
  · rw [if_neg hc]

/-- The normalised rows after the body. -/
theorem hn_eq (c : Dev nD) (t : Fin cfg0.N) {xs0 xs1} (hi : Inv m c t.val xs0 xs1) :
    hnAfter (grid0.coords t) (iblk m c 0 t) (iblk m c 1 t) xs0 = hnAt m c t := by
  by_cases h0 : t.val % 11 = 0
  · have e : row t = t := Fin.ext (by show t.val / 11 * 11 = t.val; omega)
    exact (if_pos ((hcond0_0 t).mpr h0)).trans (by unfold hnAt; rw [e])
  · have e : row ⟨t.val - 1, lt_of_le_of_lt (Nat.sub_le _ _) t.isLt⟩ = row t :=
      Fin.ext (by show (t.val - 1) / 11 * 11 = t.val / 11 * 11; omega)
    exact (if_neg (fun h => h0 ((hcond0_0 t).mp h))).trans ((hi.1 ⟨t.val - 1, lt_of_le_of_lt (Nat.sub_le _ _) t.isLt⟩
      (by show t.val - 1 + 1 = t.val; omega) h0).trans (by unfold hnAt; rw [e]))

/-- The column tile of the point before in the column. -/
theorem back_col (t : Fin cfg0.N) (h : ¬ t.val / 11 % 2 = 0) : (grid0.coords t 1).val = (grid0.coords (back t) 1).val := by
  rw [coords_col, coords_col]; show t.val % 11 = (t.val - 11) % 11; omega

/-- The rows before the tile. -/
theorem prevA_eq (c : Dev nD) (t : Fin cfg0.N) {xs0 xs1} (hi : Inv m c t.val xs0 xs1) :
    prev (grid0.coords t) (k0_off2 (grid0.coords t)) (k0_off2_inb (grid0.coords t)) xs1 = prevA m c t := by
  unfold prev prevA
  by_cases h1 : t.val / 11 % 2 = 0
  · rw [if_pos h1, if_pos ((hcond0_1 t).mpr h1)]
  · rw [if_neg h1, if_neg (fun h => h1 ((hcond0_1 t).mp h))]
    exact (window_congr xs1 (o := k0_off2 (grid0.coords t)) (o' := k0_off2 (grid0.coords (back t))) (by rw [off2_eq (grid0.coords t), off2_eq (grid0.coords (back t)), back_col t h1]) _ _).trans
      (hi.2 (back t) (by show t.val - 11 < t.val; omega) (by show t.val ≤ t.val - 11 + 11; omega)).1
theorem prevG_eq (c : Dev nD) (t : Fin cfg0.N) {xs0 xs1} (hi : Inv m c t.val xs0 xs1) :
    prev (grid0.coords t) (k0_off3 (grid0.coords t)) (k0_off3_inb (grid0.coords t)) xs1 = prevG m c t := by
  unfold prev prevG
  by_cases h1 : t.val / 11 % 2 = 0
  · rw [if_pos h1, if_pos ((hcond0_1 t).mpr h1)]
  · rw [if_neg h1, if_neg (fun h => h1 ((hcond0_1 t).mp h))]
    exact (window_congr xs1 (o := k0_off3 (grid0.coords t)) (o' := k0_off3 (grid0.coords (back t))) (by rw [off3_eq (grid0.coords t), off3_eq (grid0.coords (back t)), back_col t h1]) _ _).trans
      (hi.2 (back t) (by show t.val - 11 < t.val; omega) (by show t.val ≤ t.val - 11 + 11; omega)).2

/-- The invariant after a point. -/
theorem inv_succ (c : Dev nD) (t : Fin cfg0.N) {xs0 xs1} (hi : Inv m c t.val xs0 xs1) :
    Inv m c (t.val + 1) (hnAt m c t) (carryAfter (grid0.coords t) (hnAt m c t) (iblk m c 2 t) (iblk m c 3 t) xs1) := by
  refine ⟨fun t' h _ => ?_, fun t' h h' => ?_⟩
  · rw [show t' = t from Fin.ext (by omega)]
  · by_cases e : t'.val = t.val
    · obtain rfl : t' = t := Fin.ext e
      refine ⟨?_, VecWindow.window_put_same _ _ _ _ _⟩
      refine (VecWindow.window_put_of_disjoint _ _ _ _ _ _ _ 1 ?_).trans (VecWindow.window_put_same _ _ _ _ _)
      rw [off2_eq, off3_eq]; exact .inl (Nat.le_refl 1)
    · have hc : (grid0.coords t' 1).val ≠ (grid0.coords t 1).val := by rw [coords_col, coords_col]; omega
      have hk := hi.2 t' (by omega) (by omega)
      exact ⟨(carry_other _ _ _ _ _ _ _ (by rw [off2_eq]; exact hc)).trans hk.1,
        (carry_other _ _ _ _ _ _ _ (by rw [off3_eq]; exact hc)).trans hk.2⟩

/-- `oRaw` at a point, from the tile the point finds. -/
theorem oRaw_eq (c : Dev nD) (t : Fin cfg0.N) (xo : Vec F S1024x1024 .f32)
    (hx : ∀ h : t.val % 11 ≠ 0, xo = oAt m c ⟨t.val - 1, lt_of_le_of_lt (Nat.sub_le _ _) t.isLt⟩) :
    oStep m c t (if cond0_0 (grid0.coords t) then iblk m c 0 t else xo) = oRaw m c t.val t.isLt := by
  obtain ⟨n, hn⟩ := t
  by_cases h0 : n % 11 = 0
  · rw [if_pos ((hcond0_0 ⟨n, hn⟩).mpr h0)]
    cases n with
    | zero => rfl
    | succ n => show _ = oStep m c _ (if (n + 1) % 11 = 0 then _ else _); rw [if_pos h0]
  · rw [if_neg (fun h => h0 ((hcond0_0 ⟨n, hn⟩).mp h)), hx h0]
    cases n with
    | zero => exact absurd rfl h0
    | succ n =>
      show _ = oStep m c _ (if (n + 1) % 11 = 0 then _ else _)
      rw [if_neg h0]
      exact congrArg _ (if_neg (by show ¬ n % 11 = 10; omega))

/-- The output tile after the body. -/
theorem o_eq (c : Dev nD) (t : Fin cfg0.N) {xs0 xs1} (hi : Inv m c t.val xs0 xs1) (xo : Vec F S1024x1024 .f32)
    (hx : ∀ h : t.val % 11 ≠ 0, xo = oAt m c ⟨t.val - 1, lt_of_le_of_lt (Nat.sub_le _ _) t.isLt⟩) :
    oAfter (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) xo xs0 xs1 = oAt m c t := by
  unfold oAfter oAt
  rw [hn_eq m c t hi, prevA_eq m c t hi, prevG_eq m c t hi, ← oRaw_eq m c t xo hx]
  by_cases h2 : t.val % 11 = 10
  · rw [if_pos h2, if_pos ((hcond0_2 t).mpr h2)]; rfl
  · rw [if_neg h2, if_neg (fun h => h2 ((hcond0_2 t).mp h))]; rfl

end Cert.Kernel2Ideal.Ffn

end
-- ==== Proof.FfnIdeal.Frame.lean ====
/- The feed-forward kernel's region: its proof data, the run and the frame. -/
module

public import proofs.«01_k».proof.Proof.FfnIdeal.Body
public import proofs.«01_k».proof.Proof.FfnIdeal.Carry
public import Idealize.ShloMosaic.Lib.Claim
public import Idealize.ShloMosaic.Lib.VecWindow

@[expose] public section

-- membership in a rectangle of production extents (`View.cover_of_tiled`): the elaborator's structural look
-- recurses once per coordinate of the long axes
set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- The invariant before point `n`: the two scratch buffers at some contents related by `Inv`. -/
def PhiS (c : Dev nD) (n : ℕ) : sProp 𝕄 :=
  iprop(∃ xs0 xs1, (owns (c : Thread nD τ) scM0_0 fullShare xs0 ∗ owns (c : Thread nD τ) scM0_1 fullShare xs1)
    ∗ ⌜Inv m c n xs0 xs1⌝ ∗ (∃ r, prngReg c r))

/-- The arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oAt m c t
    | ⟨12, _⟩ => k0_pay11 (k0_pay3 (hnAt m c t) (iblk m c 2 t))
    | ⟨13, _⟩ => k0_pay12 (k0_pay4 (hnAt m c t) (iblk m c 3 t))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's buffer holds its block when the body runs. -/
theorem before0_0 (c : Dev nD) (t : Fin cfg0.N) (d) : (dats m 0 c).before 0 t d = iblk m c 0 t :=
  (Dat.before_in_eq_fetched (dats m 0 c) 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  (Dat.before_in_eq_fetched (dats m 0 c) 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  (Dat.before_in_eq_fetched (dats m 0 c) 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  (Dat.before_in_eq_fetched (dats m 0 c) 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  (Dat.before_in_eq_fetched (dats m 0 c) 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  (Dat.before_in_eq_fetched (dats m 0 c) 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  (Dat.before_in_eq_fetched (dats m 0 c) 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  (Dat.before_in_eq_fetched (dats m 0 c) 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  (Dat.before_in_eq_fetched (dats m 0 c) 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  (Dat.before_in_eq_fetched (dats m 0 c) 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  (Dat.before_in_eq_fetched (dats m 0 c) 10 rfl (fun _ => rfl) (fun _ _ _ => rfl) (fun t => by rw [after0_10]; unfold Dat.blockOf iblk; rw [A_eq]; try rfl) t d).trans
    (by unfold Dat.fetched Dat.blockOf iblk; rw [A_eq]; try rfl)

/-- The output tile's buffer within a row tile holds what the point before left. -/
theorem before0_11 (c : Dev nD) (t : Fin cfg0.N) (d) (h0 : t.val % 11 ≠ 0) :
    (dats m 0 c).before 11 t d = oAt m c ⟨t.val - 1, lt_of_le_of_lt (Nat.sub_le _ _) t.isLt⟩ := by
  have hN : t.val < 352 := lt_of_lt_of_eq t.isLt (show cfg0.N = 352 from N_0)
  rw [Dat.before_out_kept _ 11 rfl t (by omega) (Bool.eq_false_iff.mpr fun h => by have := (flush0_11 _).mp h; dsimp only at this; omega)
    (fun _ => rfl) (fun _ _ => rfl)]
  dsimp only [dats]

set_option maxHeartbeats 4000000 in
/-- The body at a point: from the buffers at their blocks to the buffers at what the point leaves. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t))) := by
  unfold bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨%xs0, %xs1, ⟨HS0, HS1⟩, %hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hb := body_run c (grid0.coords t)
    (fun h => by have h0 := (hcond0_0 t).mp h.1; have h2 := (hcond0_2 t).mp h.2; omega)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) xs0 xs1 Set.univ
  rw [hn_eq m c t hi, o_eq m c t hi _ (before0_11 m c t d11)] at hb
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · iexists _; iexists _
    isplitl [HS0 HS1]
    · isplitl [HS0]; · iexact HS0
      iexact HS1
    isplitr
    · ipureintro; exact inv_succ m c t hi
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, H0⟩, ⟨%d1, H1⟩⟩, Hg⟩
  iexists d0; iexists d1
  isplitl [H0 H1]
  · isplitl [H0]; · iexact H0
    iexact H1
  isplitr
  · ipureintro; exact ⟨fun _ h _ => absurd h (Nat.succ_ne_zero _), fun _ h _ => absurd h (Nat.not_lt_zero _)⟩
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs0, %xs1, ⟨HS0, HS1⟩, -, Hg⟩
  isplitl [HS0 HS1]
  · isplitl [HS0]
    · iexists _; iexact HS0
    iexists _; iexact HS1
  iexact Hg

/-! ## The run and the frame -/

set_option backward.isDefEq.respectTransparency.types false in
/-- The run of the region, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the region. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel2Ideal.Ffn

end
-- ==== Proof.Ffn.Frame.lean ====
/- The feed-forward kernel's frame, from its idealization's: no operation was rewritten, so the two programs are the same, and the
   frame of the one, which holds of any floats, is the frame of the other. -/
module

public import proofs.«01_k».proof.Proof.Gen.Kernel2.Launch
public import proofs.«01_k».proof.Proof.FfnIdeal.Frame

@[expose] public section

set_option maxRecDepth 16384

noncomputable section

namespace Cert.Kernel2.Ffn

open Cert.Kernel2.Gen Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The bodies are the same. -/
theorem body_eq : @Cert.Kernel2.cc0_ffn F _ _ = @Cert.Kernel2Ideal.cc0_ffn F _ _ := rfl

set_option maxHeartbeats 1600000 in
/-- The tables of bodies are the same. -/
theorem bodies_eq : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) =>
    dsimp only
    rw [body_eq]
    congr 1

/-- The tables of bodies and regions are the same. -/
theorem defs_eq : Cert.Kernel2.defs (F := F) = Cert.Kernel2Ideal.defs (F := F) := by
  unfold Cert.Kernel2.defs Cert.Kernel2Ideal.defs
  exact congrArg (Pipeline.defs Cert.Kernel2.pcfgs) bodies_eq

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.Kernel2Ideal.Ffn.frame m ρ

end Cert.Kernel2.Ffn

end
-- ==== Proof.FfnIdeal.Blocks.lean ====
/- The blocks a point reads, as entries of the arguments. -/
module

public import proofs.«01_k».proof.Proof.FfnIdeal.Carry
public import Idealize.ShloMosaic.Lib.Pipeline.ValueKit
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

theorem idxA : ∀ t : Fin cfg0.N, win0_0.index t = ![t.val / 11, 0] ∧ win0_1.index t = ![0, 0]
    ∧ win0_2.index t = ![0, t.val % 11] ∧ win0_3.index t = ![0, t.val % 11 + 11] ∧ win0_4.index t = ![0, t.val % 11]
    ∧ win0_5.index t = ![0, t.val % 11 + 11] :=
  (by decide +kernel : ∀ t : Fin grid0.N, _)

theorem idxB : ∀ t : Fin cfg0.N, win0_6.index t = ![t.val % 11, 0] ∧ win0_7.index t = ![0, 0]
    ∧ win0_8.index t = ![0, 0] ∧ win0_9.index t = ![t.val / 11, 0] ∧ win0_10.index t = ![0, 0] ∧ win0_11.index t = ![t.val / 11, 0] :=
  (by decide +kernel : ∀ t : Fin grid0.N, _)

theorem lt352 (t : Fin cfg0.N) : t.val < 352 := lt_of_lt_of_eq t.isLt N_0

/-- The row of the arguments at row `x` of a point's tile; the columns of the two halves at column `k` of its column tile. -/
def rowOf (t : Fin cfg0.N) (x : Fin 1024) : Fin 32768 := ⟨1024 * (t.val / 11) + x.val, by have := lt352 t; omega⟩
def colOf (t : Fin cfg0.N) (k : Fin 256) : Fin 2816 := ⟨256 * (t.val % 11) + k.val, by omega⟩
def colA (f : Fin 2816) : Fin 5632 := ⟨f.val, by omega⟩
def colG (f : Fin 2816) : Fin 5632 := ⟨2816 + f.val, by omega⟩

variable (t : Fin cfg0.N)

theorem blk0 (x d : Fin 1024) : iblk m c 0 t (ix2 x d) = m ((c.tc : Thread nD τ).loc main_arg0) (ix2 (rowOf t x) d) := by
  obtain ⟨h0, -⟩ := idxA t
  unfold iblk
  entry_read
  exact congrArg (m _) (show (win0_0.blk t).view.emb (ix2 x d) = ix2 (rowOf t x) d from by unfold rowOf; blk_ext [h0])

theorem blk1 (k : Fin 1024) : iblk m c 1 t (ix2 0 k) = m ((c.tc : Thread nD τ).loc main_arg1) (ix1 k) := by
  obtain ⟨-, h0, -⟩ := idxA t
  unfold iblk
  entry_read
  change shapeCast main_v0.ty.shape _ _ ((win0_1.blk t).view.emb (ix2 0 k)) = _
  rw [show (win0_1.blk t).view.emb (ix2 0 k) = ix2 0 k from by blk_ext [h0]]
  pointwise

theorem blk2 (k : Fin 1024) (x : Fin 256) :
    iblk m c 2 t (ix2 k x) = m ((c.tc : Thread nD τ).loc main_arg2) (ix2 k (colA (colOf t x))) := by
  obtain ⟨-, -, h0, -⟩ := idxA t
  unfold iblk
  entry_read
  exact congrArg (m _) (show (win0_2.blk t).view.emb (ix2 k x) = ix2 k (colA (colOf t x)) from by unfold colA colOf; blk_ext [h0])

theorem blk3 (k : Fin 1024) (x : Fin 256) :
    iblk m c 3 t (ix2 k x) = m ((c.tc : Thread nD τ).loc main_arg2) (ix2 k (colG (colOf t x))) := by
  obtain ⟨-, -, -, h0, -⟩ := idxA t
  unfold iblk
  entry_read
  exact congrArg (m _) (show (win0_3.blk t).view.emb (ix2 k x) = ix2 k (colG (colOf t x)) from by unfold colG colOf; blk_ext [h0])

theorem blk4 (k : Fin 4) (x : Fin 256) :
    iblk m c 4 t (ix2 k x) = m ((c.tc : Thread nD τ).loc main_arg3) (ix2 k (colA (colOf t x))) := by
  obtain ⟨-, -, -, -, h0, -⟩ := idxA t
  unfold iblk
  entry_read
  exact congrArg (m _) (show (win0_4.blk t).view.emb (ix2 k x) = ix2 k (colA (colOf t x)) from by unfold colA colOf; blk_ext [h0])

theorem blk5 (k : Fin 4) (x : Fin 256) :
    iblk m c 5 t (ix2 k x) = m ((c.tc : Thread nD τ).loc main_arg3) (ix2 k (colG (colOf t x))) := by
  obtain ⟨-, -, -, -, -, h0⟩ := idxA t
  unfold iblk
  entry_read
  exact congrArg (m _) (show (win0_5.blk t).view.emb (ix2 k x) = ix2 k (colG (colOf t x)) from by unfold colG colOf; blk_ext [h0])

theorem blk6 (x : Fin 256) (d : Fin 1024) :
    iblk m c 6 t (ix2 x d) = m ((c.tc : Thread nD τ).loc main_arg4) (ix2 (colOf t x) d) := by
  obtain ⟨h0, -⟩ := idxB t
  unfold iblk
  entry_read
  exact congrArg (m _) (show (win0_6.blk t).view.emb (ix2 x d) = ix2 (colOf t x) d from by unfold colOf; blk_ext [h0])

theorem blk7 (k : Fin 1024) : iblk m c 7 t (ix2 0 k) = m ((c.tc : Thread nD τ).loc main_arg5) (ix1 k) := by
  obtain ⟨-, h0, -⟩ := idxB t
  unfold iblk
  entry_read
  change shapeCast main_v1.ty.shape _ _ ((win0_7.blk t).view.emb (ix2 0 k)) = _
  rw [show (win0_7.blk t).view.emb (ix2 0 k) = ix2 0 k from by blk_ext [h0]]
  pointwise

theorem blk8 (k d : Fin 1024) : iblk m c 8 t (ix2 k d) = m ((c.tc : Thread nD τ).loc main_arg6) (ix2 k d) := by
  obtain ⟨-, -, h0, -⟩ := idxB t
  unfold iblk
  entry_read
  exact congrArg (m _) (show (win0_8.blk t).view.emb (ix2 k d) = ix2 k d from by blk_ext [h0])

theorem blk9 (x : Fin 1024) (k : Fin 256) :
    iblk m c 9 t (ix2 x k) = m ((c.tc : Thread nD τ).loc main_arg7) (ix2 (rowOf t x) k) := by
  obtain ⟨-, -, -, h0, -⟩ := idxB t
  unfold iblk
  entry_read
  exact congrArg (m _) (show (win0_9.blk t).view.emb (ix2 x k) = ix2 (rowOf t x) k from by unfold rowOf; blk_ext [h0])

theorem blk10 (k : Fin 256) (d : Fin 1024) : iblk m c 10 t (ix2 k d) = m ((c.tc : Thread nD τ).loc main_arg8) (ix2 k d) := by
  obtain ⟨-, -, -, -, h0, -⟩ := idxB t
  unfold iblk
  entry_read
  exact congrArg (m _) (show (win0_10.blk t).view.emb (ix2 k d) = ix2 k d from by blk_ext [h0])

end Cert.Kernel2Ideal.Ffn

end
-- ==== Proof.FfnSpec.lean ====
/- The feed-forward block with its gate, entry by entry. -/
module

public import Idealize.ShloMosaic.Lib.Pointwise

@[expose] public section

noncomputable section

namespace Cert.FfnSpec

open Idealize.ShloMosaic

/-! ### The pieces -/

/-- A row normalised by its root mean square, times `g`. -/
def rmsNorm (x g : Fin 1024 → EReal) (k : Fin 1024) : EReal :=
  x k * Ideal.rsqrt (Ideal.div (∑ a, x a * x a) (Ideal.ofBits .f32 0x44800000#32) + Ideal.ofBits .f32 0x358637BD#32) * g k

def sigmoid (a : EReal) : EReal :=
  Ideal.div (Ideal.ofBits .f32 0x3F800000#32) (Ideal.ofBits .f32 0x3F800000#32 + Ideal.exp (-a))

/-- The gate of two numbers. -/
def gate2 (a g : EReal) : EReal := a * sigmoid a * g

/-- Row `n` of the eight rows `p` and the rows `u` under them. -/
def joined {k : ℕ} (p : Fin 8 → EReal) (u : Fin k → EReal) (n : ℕ) : EReal :=
  if h : n < 8 then p ⟨n, h⟩ else if h' : n - 8 < k then u ⟨n - 8, h'⟩ else 0

/-- The convolution at row `n` of `u`, the rows `p` above. -/
def tapsAt {k : ℕ} (w : Fin 4 → EReal) (p : Fin 8 → EReal) (u : Fin k → EReal) (n : ℕ) : EReal :=
  w 0 * joined p u (n + 6) + w 1 * joined p u (n + 7) + w 2 * joined p u (n + 8) + w 3

/-- A row plus the gated share of its per-layer embedding. -/
def gatedAdd (x g : Fin 1024 → EReal) (w : Fin 1024 → Fin 1024 → EReal) (p : Fin 256 → EReal) (v : Fin 256 → Fin 1024 → EReal)
    (d : Fin 1024) : EReal :=
  x d + sigmoid (∑ k, rmsNorm x g k * w k d) * ∑ k, p k * v k d

/-! ### The whole -/

variable (H : (⟨2, ![32768, 1024]⟩ : Shape).Idx → EReal) (G : (⟨1, ![1024]⟩ : Shape).Idx → EReal)
  (WU : (⟨2, ![1024, 5632]⟩ : Shape).Idx → EReal) (CV : (⟨2, ![4, 5632]⟩ : Shape).Idx → EReal)
  (WD : (⟨2, ![2816, 1024]⟩ : Shape).Idx → EReal) (GP : (⟨1, ![1024]⟩ : Shape).Idx → EReal)
  (WG : (⟨2, ![1024, 1024]⟩ : Shape).Idx → EReal) (PE : (⟨2, ![32768, 256]⟩ : Shape).Idx → EReal)
  (WP : (⟨2, ![256, 1024]⟩ : Shape).Idx → EReal)

/-- The up product. -/
def up (r : Fin 32768) (f : Fin 5632) : EReal :=
  ∑ k : Fin 1024, rmsNorm (fun a => H (ix2 r a)) (fun a => G (ix1 a)) k * WU (ix2 k f)

/-- The value `k` rows before row `r` of its sequence, zero where there is none. -/
def hist (v : Fin 32768 → EReal) (r : Fin 32768) (k : ℕ) : EReal :=
  if r.val % 2048 < k then 0 else v ⟨r.val - k, lt_of_le_of_lt (Nat.sub_le _ _) r.isLt⟩

/-- The causal convolution over three rows, and its bias. -/
def conv (r : Fin 32768) (f : Fin 5632) : EReal :=
  CV (ix2 0 f) * hist (fun r => up H G WU r f) r 2 + CV (ix2 1 f) * hist (fun r => up H G WU r f) r 1
    + CV (ix2 2 f) * hist (fun r => up H G WU r f) r 0 + CV (ix2 3 f)

/-- The gated activation. -/
def actAt (r : Fin 32768) (f : Fin 2816) : EReal :=
  gate2 (conv H G WU CV r ⟨f.val, by omega⟩) (conv H G WU CV r ⟨2816 + f.val, by omega⟩)

/-- The row after the feed-forward product. -/
def res (r : Fin 32768) (d : Fin 1024) : EReal :=
  H (ix2 r d) + ∑ f : Fin 2816, actAt H G WU CV r f * WD (ix2 f d)

/-- The result. -/
def result (r : Fin 32768) (d : Fin 1024) : EReal :=
  gatedAdd (res H G WU CV WD r) (fun a => GP (ix1 a)) (fun k d => WG (ix2 k d)) (fun k => PE (ix2 r k)) (fun k d => WP (ix2 k d)) d

/-- The result of the last layer: every row normalised once more, under the gain `GF`. -/
def lastResult (GF : (⟨1, ![1024]⟩ : Shape).Idx → EReal) (r : Fin 32768) (d : Fin 1024) : EReal :=
  rmsNorm (fun a => result H G WU CV WD GP WG PE WP r a) (fun a => GF (ix1 a)) d

/-- Row `k` of the last two of tile `b`, of 1024 rows, among all the rows. -/
def lastRow (b : Fin 32) (k : Fin 2) : Fin 32768 := ⟨1024 * b.val + 1022 + k.val, by omega⟩

end Cert.FfnSpec

end
-- ==== Proof.FfnIdeal.Act.lean ====
/- The gated activation of a tile, entry by entry. -/
module

public import proofs.«01_k».proof.Proof.FfnIdeal.Vals
public import proofs.«01_k».proof.Proof.FfnSpec
public import Idealize.ShloMosaic.Lib.Pointwise

@[expose] public section

set_option maxRecDepth 16384

noncomputable section

namespace Cert.Kernel2Ideal.Ffn

open Cert.Kernel2Ideal.Gen
open Idealize.ShloMosaic Idealize.ShloMosaic.TcCoe Cert.FfnSpec

/-! ### Sixty-four rows -/

/-- The convolution of sixty-four rows `mid` under the eight rows `top`. -/
def taps (w : Vec Ideal S4x256 .f32) (top : FVec Ideal S8x256 .f32) (mid : FVec Ideal S64x256 .f32) : FVec Ideal S64x256 .f32 :=
  let x := concatenate S72x256 0 [⟨S8x256, top⟩, ⟨S64x256, mid⟩] concatenates_S8x256_S64x256_S72x256_d0
  addf (addf (addf
    (mulf (broadcastTo S64x256 (extractStridedSlice S1x256 ![0, 0] w slices_S4x256_o0_0_S1x256) broadcasts_S1x256_S64x256)
      (extractStridedSlice S64x256 ![8, 0] (dynamicRotate 0 2#32 none x rotates_S72x256_d0) slices_S72x256_o8_0_S64x256))
    (mulf (broadcastTo S64x256 (extractStridedSlice S1x256 ![1, 0] w slices_S4x256_o1_0_S1x256) broadcasts_S1x256_S64x256)
      (extractStridedSlice S64x256 ![8, 0] (dynamicRotate 0 1#32 none x rotates_S72x256_d0) slices_S72x256_o8_0_S64x256)))
    (mulf (broadcastTo S64x256 (extractStridedSlice S1x256 ![2, 0] w slices_S4x256_o2_0_S1x256) broadcasts_S1x256_S64x256) mid))
    (broadcastTo S64x256 (extractStridedSlice S1x256 ![3, 0] w slices_S4x256_o3_0_S1x256) broadcasts_S1x256_S64x256)

/-- The gate of sixty-four rows. -/
def gated (a g : FVec Ideal S64x256 .f32) : FVec Ideal S64x256 .bf16 :=
  truncf .bf16 (mulf (mulf a (divf (broadcast S64x256 (Scalar.ofBits .f32 0x3F800000#32))
    (addf (broadcast S64x256 (Scalar.ofBits .f32 0x3F800000#32)) (exp (subf (broadcast S64x256 (Scalar.ofBits .f32 0x00000000#32)) a))))) g) bitsLt_bf16_f32

theorem taps_apply (w : Vec Ideal S4x256 .f32) (top : FVec Ideal S8x256 .f32) (mid : FVec Ideal S64x256 .f32) (x : Fin 64) (c : Fin 256) :
    taps w top mid (ix2 x c) = tapsAt (fun a => w (ix2 a c)) (fun a => top (ix2 a c)) (fun a => mid (ix2 a c)) x.val := by
  unfold tapsAt joined
  pointwise [taps]
  have e2 : (8 + x.val + 72 - 2) % 72 = x.val + 6 := by omega
  have e1 : (8 + x.val + 72 - 1) % 72 = x.val + 7 := by omega
  simp only [e1, e2, Nat.add_sub_cancel, Nat.not_lt.mpr (Nat.le_add_left 8 x.val), x.isLt, dite_true, dite_false, Fin.eta,
    show x.val + 6 - 8 < 64 by omega, show x.val + 7 - 8 < 64 by omega]

theorem gated_apply (a g : FVec Ideal S64x256 .f32) (x : Fin 64) (c : Fin 256) :
    gated a g (ix2 x c) = gate2 (a (ix2 x c)) (g (ix2 x c)) := by
  unfold gate2 sigmoid
  pointwise [gated]
  rw [sub_eq_add_neg, zero_add]

/-! ### The whole tile -/

theorem slices64 (n : Fin 16) : Shape.Slices S1024x256 ![64 * n.val, 0] S64x256 := by
  revert n; decide

theorem slices8 (n : Fin 15) : Shape.Slices S1024x256 ![64 * n.val + 56, 0] S8x256 := by
  revert n; decide

/-- The rows above a chunk. -/
def above (p : FVec Ideal S8x256 .f32) (v : FVec Ideal S1024x256 .f32) : Fin 16 → FVec Ideal S8x256 .f32
  | ⟨0, _⟩ => p
  | ⟨n + 1, h⟩ => extractStridedSlice S8x256 ![64 * n + 56, 0] v (slices8 ⟨n, by omega⟩)

/-- A chunk of the activation. -/
def chunk (v5 v7 : FVec Ideal S1024x256 .f32) (v23 v26 : FVec Ideal S8x256 .f32) (v49 v50 : Vec Ideal S4x256 .f32) (n : Fin 16) :
    FVec Ideal S64x256 .bf16 :=
  gated (taps v49 (above v23 v5 n) (extractStridedSlice S64x256 ![64 * n.val, 0] v5 (slices64 n)))
    (taps v50 (above v26 v7 n) (extractStridedSlice S64x256 ![64 * n.val, 0] v7 (slices64 n)))

theorem act_eq (v5 v7 : FVec Ideal S1024x256 .f32) (v23 v26 : FVec Ideal S8x256 .f32) (v49 v50 : Vec Ideal S4x256 .f32) :
    act v5 v7 v23 v26 v49 v50 = concatenate S1024x256 0 (List.ofFn fun n : Fin 16 => ⟨S64x256, chunk v5 v7 v23 v26 v49 v50 n⟩)
      concatenates_S64x256_S64x256_S64x256_S64x256_S64x256_S64x256_S64x256_S64x256_S64x256_S64x256_S64x256_S64x256_S64x256_S64x256_S64x256_S64x256_S1024x256_d0 := rfl

/-- The rows above a chunk are the rows above the tile, then the tile's. -/
theorem joined_chunk (p : FVec Ideal S8x256 .f32) (v : FVec Ideal S1024x256 .f32) (n : Fin 16) (c : Fin 256) (a : ℕ) (ha : a < 72) :
    joined (fun b => above p v n (ix2 b c)) (fun b : Fin 64 => extractStridedSlice S64x256 ![64 * n.val, 0] v (slices64 n) (ix2 b c)) a
      = joined (fun b => p (ix2 b c)) (fun b => v (ix2 b c)) (64 * n.val + a) := by
  have em : ∀ b : Fin 64, extractStridedSlice S64x256 ![64 * n.val, 0] v (slices64 n) (ix2 b c) = v (ix2 (⟨64 * n.val + b.val, by omega⟩ : Fin 1024) c) := by
    intro b
    pointwise
  unfold joined
  by_cases h : a < 8
  · rw [dif_pos h]
    match n, em with
    | ⟨0, _⟩, _ =>
      have e : 64 * (0 : ℕ) + a = a := by omega
      simp only [e, dif_pos h]
      rfl
    | ⟨k + 1, hk⟩, _ =>
      rw [dif_neg (show ¬ 64 * (k + 1) + a < 8 by omega), dif_pos (show 64 * (k + 1) + a - 8 < 1024 by omega)]
      change extractStridedSlice S8x256 ![64 * k + 56, 0] v (slices8 ⟨k, by omega⟩) (ix2 ⟨a, h⟩ c) = _
      pointwise
      congr 2
      exact Fin.ext (by change 64 * k + 56 + a = 64 * (k + 1) + a - 8; omega)
  · rw [dif_neg h, dif_pos (show a - 8 < 64 by omega), dif_neg (show ¬ 64 * n.val + a < 8 by omega),
      dif_pos (show 64 * n.val + a - 8 < 1024 by omega)]
    refine (em _).trans ?_
    congr 2
    exact Fin.ext (by change 64 * n.val + (a - 8) = 64 * n.val + a - 8; omega)

theorem tapsAt_chunk (w : Fin 4 → EReal) (p : FVec Ideal S8x256 .f32) (v : FVec Ideal S1024x256 .f32) (n : Fin 16) (c : Fin 256) (x : Fin 64) :
    tapsAt w (fun b => above p v n (ix2 b c)) (fun b : Fin 64 => extractStridedSlice S64x256 ![64 * n.val, 0] v (slices64 n) (ix2 b c)) x.val
      = tapsAt w (fun b => p (ix2 b c)) (fun b => v (ix2 b c)) (64 * n.val + x.val) := by
  unfold tapsAt
  rw [joined_chunk _ _ _ _ _ (by omega), joined_chunk _ _ _ _ _ (by omega), joined_chunk _ _ _ _ _ (by omega)]
  rfl

/-- The activation at an entry. -/
theorem act_apply (v5 v7 : FVec Ideal S1024x256 .f32) (v23 v26 : FVec Ideal S8x256 .f32) (v49 v50 : Vec Ideal S4x256 .f32) (r : Fin 1024) (c : Fin 256) :
    act v5 v7 v23 v26 v49 v50 (ix2 r c)
      = gate2 (tapsAt (fun a => v49 (ix2 a c)) (fun b => v23 (ix2 b c)) (fun b => v5 (ix2 b c)) r.val)
          (tapsAt (fun a => v50 (ix2 a c)) (fun b => v26 (ix2 b c)) (fun b => v7 (ix2 b c)) r.val) := by
  rw [act_eq]
  refine (concatenate_ofFn_apply (t := S1024x256) (s₁ := S64x256) 0 _ _ rfl 64 rfl (ix2 r c) (⟨r.val / 64, by omega⟩ : Fin 16) rfl
    (ix2 (⟨r.val % 64, by omega⟩ : Fin 64) c) rfl ?_).trans ?_
  · intro b hb
    match b, hb with
    | ⟨0, _⟩, hb => exact absurd rfl hb
    | ⟨1, _⟩, _ => rfl
  · have e : 64 * (r.val / 64) + r.val % 64 = r.val := by omega
    rw [chunk, gated_apply, taps_apply, taps_apply, tapsAt_chunk, tapsAt_chunk]
    simp only [e]

end Cert.Kernel2Ideal.Ffn

end
-- ==== Proof.FfnIdeal.Pay.lean ====
/- The other arithmetic of a point, entry by entry. -/
module

public import proofs.«01_k».proof.Proof.FfnIdeal.Act

@[expose] public section

set_option maxRecDepth 16384

noncomputable section

namespace Cert.Kernel2Ideal.Ffn

open Cert.Kernel2Ideal.Gen
open Idealize.ShloMosaic Idealize.ShloMosaic.TcCoe Cert.FfnSpec

theorem pay2_apply (h : Vec Ideal S1024x1024 .f32) (g : Vec Ideal S1x1024 .f32) (r k : Fin 1024) :
    k0_pay2 (F := Ideal) h g (ix2 r k) = rmsNorm (fun a => h (ix2 r a)) (fun a => g (ix2 0 a)) k := by
  unfold rmsNorm
  pointwise [k0_pay2]

theorem pay3_apply (h : Vec Ideal S1024x1024 .bf16) (w : Vec Ideal S1024x256 .bf16) (r : Fin 1024) (c : Fin 256) :
    k0_pay3 (F := Ideal) h w (ix2 r c) = ∑ k : Fin 1024, (h (ix2 r k) : EReal) * w (ix2 k c) := by
  pointwise [k0_pay3]

theorem pay4_apply (h : Vec Ideal S1024x1024 .bf16) (w : Vec Ideal S1024x256 .bf16) (r : Fin 1024) (c : Fin 256) :
    k0_pay4 (F := Ideal) h w (ix2 r c) = ∑ k : Fin 1024, (h (ix2 r k) : EReal) * w (ix2 k c) := by
  pointwise [k0_pay4]

theorem pay6_apply (p : Vec Ideal S1x1x8x256 .f32) (a : Fin 8) (c : Fin 256) :
    k0_pay6 (F := Ideal) p (ix2 a c) = p (ix4 0 0 a c) := by
  pointwise [k0_pay6]

theorem pay7_apply (p : Vec Ideal S1x1x8x256 .f32) (a : Fin 8) (c : Fin 256) :
    k0_pay7 (F := Ideal) p (ix2 a c) = p (ix4 0 0 a c) := by
  pointwise [k0_pay7]

theorem tailA_apply (h : Vec Ideal S1024x1024 .bf16) (w : Vec Ideal S1024x256 .bf16) (a : Fin 8) (c : Fin 256) :
    k0_pay9 (F := Ideal) (k0_pay8 (F := Ideal) h w) (ix4 0 0 a c) = k0_pay3 (F := Ideal) h w (ix2 ⟨1016 + a.val, by omega⟩ c) := by
  pointwise [k0_pay9, k0_pay8]

theorem tailG_apply (v : Vec Ideal S1024x256 .f32) (a : Fin 8) (c : Fin 256) :
    k0_pay10 (F := Ideal) v (ix4 0 0 a c) = v (ix2 ⟨1016 + a.val, by omega⟩ c) := by
  pointwise [k0_pay10]

theorem pay90_apply (a : Vec Ideal S1024x256 .bf16) (o : Vec Ideal S1024x1024 .f32) (w : Vec Ideal S256x1024 .bf16) (r d : Fin 1024) :
    k0_pay90 (F := Ideal) a o w (ix2 r d) = (o (ix2 r d) : EReal) + ∑ k : Fin 256, (a (ix2 r k) : EReal) * w (ix2 k d) := by
  pointwise [k0_pay90]

theorem pay1_apply (o : Vec Ideal S1024x1024 .f32) (g : Vec Ideal S1x1024 .f32) (w : Vec Ideal S1024x1024 .bf16)
    (p : Vec Ideal S1024x256 .f32) (v : Vec Ideal S256x1024 .bf16) (r d : Fin 1024) :
    k0_pay1 (F := Ideal) o g w p v (ix2 r d) = gatedAdd (fun a => o (ix2 r a)) (fun a => g (ix2 0 a)) (fun k d => w (ix2 k d))
      (fun k => p (ix2 r k)) (fun k d => v (ix2 k d)) d := by
  unfold gatedAdd rmsNorm sigmoid
  pointwise [k0_pay1]
  rw [sub_eq_add_neg, zero_add]

end Cert.Kernel2Ideal.Ffn

end
-- ==== Proof.FfnIdeal.Value.lean ====
/- What the feed-forward kernel's points compute, as entries of the arguments. -/
module

public import proofs.«01_k».proof.Proof.FfnIdeal.Blocks
public import proofs.«01_k».proof.Proof.FfnIdeal.Pay

@[expose] public section

set_option maxRecDepth 16384

noncomputable section

namespace Cert.Kernel2Ideal.Ffn

open Cert.Kernel2Ideal Cert.Kernel2Ideal.Gen Cert.FfnSpec
open Idealize.ShloMosaic Idealize.ShloMosaic.TcCoe Idealize.SL.Sem

variable (m : (ℓ : Loc nD τ sig) → Buf (Elt Ideal) ℓ) (c : Dev nD)

/-- The nine arguments. -/
abbrev a0 : (⟨2, ![32768, 1024]⟩ : Shape).Idx → EReal := m ((c.tc : Thread nD τ).loc main_arg0)
abbrev a1 : (⟨1, ![1024]⟩ : Shape).Idx → EReal := m ((c.tc : Thread nD τ).loc main_arg1)
abbrev a2 : (⟨2, ![1024, 5632]⟩ : Shape).Idx → EReal := m ((c.tc : Thread nD τ).loc main_arg2)
abbrev a3 : (⟨2, ![4, 5632]⟩ : Shape).Idx → EReal := m ((c.tc : Thread nD τ).loc main_arg3)
abbrev a4 : (⟨2, ![2816, 1024]⟩ : Shape).Idx → EReal := m ((c.tc : Thread nD τ).loc main_arg4)
abbrev a5 : (⟨1, ![1024]⟩ : Shape).Idx → EReal := m ((c.tc : Thread nD τ).loc main_arg5)
abbrev a6 : (⟨2, ![1024, 1024]⟩ : Shape).Idx → EReal := m ((c.tc : Thread nD τ).loc main_arg6)
abbrev a7 : (⟨2, ![32768, 256]⟩ : Shape).Idx → EReal := m ((c.tc : Thread nD τ).loc main_arg7)
abbrev a8 : (⟨2, ![256, 1024]⟩ : Shape).Idx → EReal := m ((c.tc : Thread nD τ).loc main_arg8)

variable (t : Fin cfg0.N)

/-! ### The up products -/

theorem hnAt_apply (x k : Fin 1024) :
    hnAt m c t (ix2 x k) = rmsNorm (fun a => a0 m c (ix2 (rowOf t x) a)) (fun a => a1 m c (ix1 a)) k := by
  have e : rowOf (row t) x = rowOf t x := Fin.ext (by
    change 1024 * (t.val / 11 * 11 / 11) + x.val = 1024 * (t.val / 11) + x.val
    rw [Nat.mul_div_cancel _ (by decide)])
  unfold hnAt
  rw [pay2_apply]
  refine congrArg₂ (fun f g => rmsNorm f g k) (funext fun a => ?_) (funext fun a => ?_)
  · refine (blk0 m c (row t) x a).trans ?_
    rw [e]
  · exact blk1 m c (row t) a

theorem upA (x : Fin 1024) (y : Fin 256) :
    k0_pay3 (F := Ideal) (hnAt m c t) (iblk m c 2 t) (ix2 x y) = up (a0 m c) (a1 m c) (a2 m c) (rowOf t x) (colA (colOf t y)) := by
  rw [pay3_apply]
  exact Finset.sum_congr rfl fun k _ => congrArg₂ (· * ·) (hnAt_apply m c t x k) (blk2 m c t k y)

theorem upG (x : Fin 1024) (y : Fin 256) :
    k0_pay4 (F := Ideal) (hnAt m c t) (iblk m c 3 t) (ix2 x y) = up (a0 m c) (a1 m c) (a2 m c) (rowOf t x) (colG (colOf t y)) := by
  rw [pay4_apply]
  exact Finset.sum_congr rfl fun k _ => congrArg₂ (· * ·) (hnAt_apply m c t x k) (blk3 m c t k y)

/-- The row of the arguments that is row `a` of the eight before a point's tile. -/
def rowBefore (a : Fin 8) : Fin 32768 := ⟨1024 * (t.val / 11 - 1) + (1016 + a.val), by have := lt352 t; omega⟩

theorem rowOf_back (a : Fin 8) : rowOf (back t) ⟨1016 + a.val, by omega⟩ = rowBefore t a :=
  Fin.ext (by change 1024 * ((t.val - 11) / 11) + (1016 + a.val) = 1024 * (t.val / 11 - 1) + (1016 + a.val); omega)

theorem colOf_back (h : ¬ t.val / 11 % 2 = 0) (y : Fin 256) : colOf (back t) y = colOf t y :=
  Fin.ext (by change 256 * ((t.val - 11) % 11) + y.val = 256 * (t.val % 11) + y.val; omega)

theorem prevA_apply (a : Fin 8) (y : Fin 256) : k0_pay6 (F := Ideal) (prevA m c t) (ix2 a y)
    = if t.val / 11 % 2 = 0 then 0 else up (a0 m c) (a1 m c) (a2 m c) (rowBefore t a) (colA (colOf t y)) := by
  rw [pay6_apply]
  unfold prevA
  by_cases h : t.val / 11 % 2 = 0
  · rw [if_pos h, if_pos h]; exact Ideal.ofBits_zero_f32
  · rw [if_neg h, if_neg h]; unfold tailA; rw [tailA_apply, upA, rowOf_back, colOf_back t h]

theorem prevG_apply (a : Fin 8) (y : Fin 256) : k0_pay7 (F := Ideal) (prevG m c t) (ix2 a y)
    = if t.val / 11 % 2 = 0 then 0 else up (a0 m c) (a1 m c) (a2 m c) (rowBefore t a) (colG (colOf t y)) := by
  rw [pay7_apply]
  unfold prevG
  by_cases h : t.val / 11 % 2 = 0
  · rw [if_pos h, if_pos h]; exact Ideal.ofBits_zero_f32
  · rw [if_neg h, if_neg h]; unfold tailG; rw [tailG_apply, upG, rowOf_back, colOf_back t h]

/-! ### The convolution -/

/-- A tile under its eight rows before, read `k` rows up. -/
theorem joined_eq (v : Fin 32768 → EReal) (x : Fin 1024) (k n : ℕ) (hn : n + k = x.val + 8) (hk : k ≤ 8) :
    joined (fun a => if t.val / 11 % 2 = 0 then 0 else v (rowBefore t a)) (fun b : Fin 1024 => v (rowOf t b)) n
      = hist v (rowOf t x) k := by
  have ht := lt352 t
  have er : (rowOf t x).val = 1024 * (t.val / 11) + x.val := rfl
  unfold joined hist
  by_cases h : n < 8
  · rw [dif_pos h]
    by_cases h2 : t.val / 11 % 2 = 0
    · exact (if_pos h2).trans (if_pos (by rw [er]; omega)).symm
    · refine (if_neg h2).trans (Eq.trans ?_ (if_neg (by rw [er]; omega)).symm)
      exact congrArg v (Fin.ext (by change 1024 * (t.val / 11 - 1) + (1016 + n) = 1024 * (t.val / 11) + x.val - k; omega))
  · rw [dif_neg h, dif_pos (by omega), if_neg (by rw [er]; omega)]
    exact congrArg v (Fin.ext (by change 1024 * (t.val / 11) + (n - 8) = 1024 * (t.val / 11) + x.val - k; omega))

theorem tapsAt_eq (w : Fin 4 → EReal) (v : Fin 32768 → EReal) (x : Fin 1024) :
    tapsAt w (fun a => if t.val / 11 % 2 = 0 then 0 else v (rowBefore t a)) (fun b : Fin 1024 => v (rowOf t b)) x.val
      = w 0 * hist v (rowOf t x) 2 + w 1 * hist v (rowOf t x) 1 + w 2 * hist v (rowOf t x) 0 + w 3 := by
  unfold tapsAt
  rw [joined_eq t v x 2 (x.val + 6) (by omega) (by omega), joined_eq t v x 1 (x.val + 7) (by omega) (by omega),
    joined_eq t v x 0 (x.val + 8) (by omega) (by omega)]

/-- The activation of a point. -/
theorem act_eq_spec (x : Fin 1024) (y : Fin 256) :
    act (k0_pay3 (F := Ideal) (hnAt m c t) (iblk m c 2 t)) (k0_pay4 (F := Ideal) (hnAt m c t) (iblk m c 3 t))
        (k0_pay6 (F := Ideal) (prevA m c t)) (k0_pay7 (F := Ideal) (prevG m c t)) (iblk m c 4 t) (iblk m c 5 t) (ix2 x y)
      = actAt (a0 m c) (a1 m c) (a2 m c) (a3 m c) (rowOf t x) (colOf t y) := by
  rw [act_apply]
  unfold actAt
  refine congrArg₂ gate2 ?_ ?_
  · rw [show (fun a => k0_pay6 (F := Ideal) (prevA m c t) (ix2 a y)) = _ from funext fun a => prevA_apply m c t a y,
      show (fun b => k0_pay3 (F := Ideal) (hnAt m c t) (iblk m c 2 t) (ix2 b y)) = _ from funext fun b => upA m c t b y,
      show (fun a => iblk m c 4 t (ix2 a y)) = _ from funext fun a => blk4 m c t a y]
    exact tapsAt_eq t _ (fun r => up (a0 m c) (a1 m c) (a2 m c) r (colA (colOf t y))) x
  · rw [show (fun a => k0_pay7 (F := Ideal) (prevG m c t) (ix2 a y)) = _ from funext fun a => prevG_apply m c t a y,
      show (fun b => k0_pay4 (F := Ideal) (hnAt m c t) (iblk m c 3 t) (ix2 b y)) = _ from funext fun b => upG m c t b y,
      show (fun a => iblk m c 5 t (ix2 a y)) = _ from funext fun a => blk5 m c t a y]
    exact tapsAt_eq t _ (fun r => up (a0 m c) (a1 m c) (a2 m c) r (colG (colOf t y))) x

/-! ### The sum over the column tiles -/

/-- The share of column tile `j` in a row of the down product. -/
def share (r : Fin 32768) (d : Fin 1024) (j : ℕ) : EReal :=
  ∑ k : Fin 256, actAt (a0 m c) (a1 m c) (a2 m c) (a3 m c) r ⟨256 * (j % 11) + k.val, by omega⟩
    * a4 m c (ix2 (⟨256 * (j % 11) + k.val, by omega⟩ : Fin 2816) d)

theorem oStep_apply (o : Vec Ideal S1024x1024 .f32) (x d : Fin 1024) :
    oStep m c t o (ix2 x d) = (o (ix2 x d) : EReal) + share m c (rowOf t x) d t.val := by
  unfold oStep step
  rw [pay90_apply]
  exact congrArg _ (Finset.sum_congr rfl fun k _ => congrArg₂ (· * ·) (act_eq_spec m c t x k) (blk6 m c t k d))

/-- The shares up to a point. -/
theorem oRaw_apply (x d : Fin 1024) : ∀ (n : ℕ) (h : n < cfg0.N), oRaw m c n h (ix2 x d)
    = a0 m c (ix2 (rowOf ⟨n, h⟩ x) d) + ∑ j ∈ Finset.range (n % 11 + 1), share m c (rowOf ⟨n, h⟩ x) d j
  | 0, h => by
    refine (oStep_apply m c ⟨0, h⟩ _ x d).trans ?_
    rw [show iblk m c 0 ⟨0, h⟩ (ix2 x d) = _ from blk0 m c ⟨0, h⟩ x d]
    exact congrArg _ (Finset.sum_range_one _).symm
  | n + 1, h => by
    have hs : share m c (rowOf ⟨n + 1, h⟩ x) d (n + 1) = share m c (rowOf ⟨n + 1, h⟩ x) d ((n + 1) % 11) := by
      unfold share; simp only [Nat.mod_mod]
    refine (oStep_apply m c ⟨n + 1, h⟩ _ x d).trans ?_
    change _ + share m c (rowOf ⟨n + 1, h⟩ x) d (n + 1) = _
    rw [hs]
    by_cases h0 : (n + 1) % 11 = 0
    · rw [if_pos h0, h0, show iblk m c 0 ⟨n + 1, h⟩ (ix2 x d) = _ from blk0 m c ⟨n + 1, h⟩ x d]
      exact congrArg _ (Finset.sum_range_one _).symm
    · have er : rowOf ⟨n, Nat.lt_of_succ_lt h⟩ x = rowOf ⟨n + 1, h⟩ x :=
        Fin.ext (by change 1024 * (n / 11) + x.val = 1024 * ((n + 1) / 11) + x.val; omega)
      rw [if_neg h0, oRaw_apply x d n (Nat.lt_of_succ_lt h), er, show n % 11 + 1 = (n + 1) % 11 by omega,
        Finset.sum_range_succ, add_assoc]

/-- All the shares of a row are the down product. -/
theorem shares (r : Fin 32768) (d : Fin 1024) :
    (∑ j ∈ Finset.range 11, share m c r d j) = ∑ f : Fin 2816, actAt (a0 m c) (a1 m c) (a2 m c) (a3 m c) r f * a4 m c (ix2 f d) := by
  rw [Finset.sum_range, ← Equiv.sum_comp (finProdFinEquiv (m := 11) (n := 256)), Fintype.sum_prod_type]
  refine Finset.sum_congr rfl fun j _ => Finset.sum_congr rfl fun k _ => ?_
  have e : (⟨256 * (j.val % 11) + k.val, by omega⟩ : Fin 2816) = finProdFinEquiv (m := 11) (n := 256) (j, k) :=
    Fin.ext (by change 256 * (j.val % 11) + k.val = k.val + 256 * j.val; omega)
  rw [e]

/-- The tile a row tile's last point leaves. -/
theorem oAt_apply (h : t.val % 11 = 10) (x d : Fin 1024) : oAt m c t (ix2 x d)
    = result (a0 m c) (a1 m c) (a2 m c) (a3 m c) (a4 m c) (a5 m c) (a6 m c) (a7 m c) (a8 m c) (rowOf t x) d := by
  unfold oAt
  rw [if_pos h, pay1_apply]
  unfold result
  rw [show (fun a => oRaw m c t.val t.isLt (ix2 x a)) = res (a0 m c) (a1 m c) (a2 m c) (a3 m c) (a4 m c) (rowOf t x) from
      funext fun a => (oRaw_apply m c x a t.val t.isLt).trans (by rw [h, shares]; rfl),
    show (fun a => iblk m c 7 t (ix2 0 a)) = _ from funext fun a => blk7 m c t a,
    show (fun k d => iblk m c 8 t (ix2 k d)) = _ from funext fun k => funext fun d => blk8 m c t k d,
    show (fun k => iblk m c 9 t (ix2 x k)) = _ from funext fun k => blk9 m c t x k,
    show (fun k d => iblk m c 10 t (ix2 k d)) = _ from funext fun k => funext fun d => blk10 m c t k d]

end Cert.Kernel2Ideal.Ffn

end
-- ==== Proof.FfnIdeal.Result.lean ====
/- The array the feed-forward kernel leaves. -/
module

public import proofs.«01_k».proof.Proof.FfnIdeal.Frame
public import proofs.«01_k».proof.Proof.FfnIdeal.Value

@[expose] public section

set_option maxRecDepth 16384

noncomputable section

namespace Cert.Kernel2Ideal.Ffn

open Cert.Kernel2Ideal Cert.Kernel2Ideal.Gen Cert.FfnSpec
open Idealize.ShloMosaic Idealize.ShloMosaic.TcCoe Idealize.SL.Sem

variable (m : (ℓ : Loc nD τ sig) → Buf (Elt Ideal) ℓ) (ρ : Dev nD → PrngReg) (c : Dev nD)

/-- The result, as an array. -/
def out : Buf (Elt Ideal) ((c : Thread nD τ).loc main_v2_0) := fun i : S32768x1024.Idx =>
  result (a0 m c) (a1 m c) (a2 m c) (a3 m c) (a4 m c) (a5 m c) (a6 m c) (a7 m c) (a8 m c) (i 0) (i 1)

/-- The points that write the output tile back. -/
theorem flush_iff : ∀ t : Fin cfg0.N, (cfg0.win 11).flush t = true ↔ t.val % 11 = 10 :=
  (by decide +kernel : ∀ t : Fin grid0.N, win0_11.flush t = true ↔ t.val % 11 = 10)

theorem flushed_eq (t : Fin cfg0.N) (hf : (cfg0.win 11).flush t = true) :
    (dats m 0 c).flushed 11 t = ((cfg0.win 11).blk t).view.read (Elt Ideal) (out m c) := by
  have h := (flush_iff t).mp hf
  obtain ⟨-, -, -, -, -, h0⟩ := idxB t
  show (cfg0.win 11).cut (grid0.coords t) (oAt m c t) = _
  funext y
  obtain ⟨x, d, rfl⟩ : ∃ (x : Fin 1024) (d : Fin 1024), y = ix2 x d := ⟨y 0, y 1, eq_ix2 y⟩
  have e : (win0_11.blk t).view.emb (ix2 x d) = ix2 (rowOf t x) d := by unfold rowOf; blk_ext [h0]
  show oAt m c t (ix2 x d) = out m c ((win0_11.blk t).view.emb (ix2 x d))
  rw [e]
  exact oAt_apply m c t h x d

theorem mem_blk (t : Fin cfg0.N) (i : S32768x1024.Idx) :
    i ∈ ((cfg0.win 11).blk t).view.set ↔ ∀ a : Fin 2, win0_11.index t a * S1024x1024.size a ≤ (i a).val
      ∧ (i a).val < win0_11.index t a * S1024x1024.size a + S1024x1024.size a := by
  show i ∈ ((View.whole main_v2_0).slice (win0_11.rect t)).set ↔ _
  rw [View.set_slice_whole, Rect.mem_set_unit]
  exact Iff.rfl

theorem covered (i : S32768x1024.Idx) : ∃ t : Fin cfg0.N, (cfg0.win 11).flush t = true ∧ i ∈ ((cfg0.win 11).blk t).view.set := by
  have hi0 : (i 0).val < 32768 := (i 0).isLt
  have hi1 : (i 1).val < 1024 := (i 1).isLt
  have hN : 11 * ((i 0).val / 1024) + 10 < cfg0.N := lt_of_lt_of_eq (by omega) N_0.symm
  obtain ⟨-, -, -, -, -, h0⟩ := idxB ⟨_, hN⟩
  have q0 : win0_11.index ⟨_, hN⟩ (0 : Fin 2) = (11 * ((i 0).val / 1024) + 10) / 11 := congrFun h0 0
  have q1 : win0_11.index ⟨_, hN⟩ (1 : Fin 2) = 0 := congrFun h0 1
  refine ⟨⟨_, hN⟩, (flush_iff _).mpr (by show (11 * ((i 0).val / 1024) + 10) % 11 = 10; omega), ?_⟩
  rw [mem_blk]
  intro a
  match a with
  | ⟨0, _⟩ => rw [show win0_11.index ⟨_, hN⟩ ⟨0, _⟩ = _ from q0]; show _ * 1024 ≤ (i 0).val ∧ (i 0).val < _ * 1024 + 1024; omega
  | ⟨1, _⟩ => rw [show win0_11.index ⟨_, hN⟩ ⟨1, _⟩ = _ from q1]; show 0 * 1024 ≤ (i 1).val ∧ (i 1).val < 0 * 1024 + 1024; omega

theorem final : (dats m 0 c).arrAt 11 cfg0.N = out m c :=
  (dats m 0 c).arrAt_eq_of_cover 11 _ (fun t hf => flushed_eq m c t hf) covered

end Cert.Kernel2Ideal.Ffn

end
-- ==== Proof.FfnIdeal.States.lean ====
/- The last rows of the up product that the feed-forward kernel leaves beside its result. -/
module

public import proofs.«01_k».proof.Proof.FfnIdeal.Result

@[expose] public section

set_option maxRecDepth 16384

noncomputable section

namespace Cert.Kernel2Ideal.Ffn

open Cert.Kernel2Ideal Cert.Kernel2Ideal.Gen Cert.FfnSpec
open Idealize.ShloMosaic Idealize.ShloMosaic.TcCoe Idealize.SL.Sem

variable (m : (ℓ : Loc nD τ sig) → Buf (Elt Ideal) ℓ) (c : Dev nD)

theorem last2A (v : Vec Ideal S1024x256 .f32) (k : Fin 2) (y : Fin 256) :
    k0_pay11 (F := Ideal) v (ix3 0 k y) = v (ix2 ⟨1022 + k.val, by omega⟩ y) := by
  pointwise [k0_pay11]
  congr 1
  exact congrArg (fun r : Fin 1024 => ix2 r y) (Fin.ext (by fin_cases k <;> rfl))

theorem last2G (v : Vec Ideal S1024x256 .f32) (k : Fin 2) (y : Fin 256) :
    k0_pay12 (F := Ideal) v (ix3 0 k y) = v (ix2 ⟨1022 + k.val, by omega⟩ y) := by
  pointwise [k0_pay12]
  congr 1
  exact congrArg (fun r : Fin 1024 => ix2 r y) (Fin.ext (by fin_cases k <;> rfl))

/-- The up product's last two rows of every tile, of the first half of its columns and of the second. -/
def outA : Buf (Elt Ideal) ((c : Thread nD τ).loc main_v2_1) := fun i : S32x2x2816.Idx =>
  up (a0 m c) (a1 m c) (a2 m c) (lastRow (i 0) (i 1)) (colA (i 2))
def outG : Buf (Elt Ideal) ((c : Thread nD τ).loc main_v2_2) := fun i : S32x2x2816.Idx =>
  up (a0 m c) (a1 m c) (a2 m c) (lastRow (i 0) (i 1)) (colG (i 2))

theorem idxC : ∀ t : Fin cfg0.N, win0_12.index t = ![t.val / 11, 0, t.val % 11] ∧ win0_13.index t = ![t.val / 11, 0, t.val % 11] :=
  (by decide +kernel : ∀ t : Fin grid0.N, _)

theorem flushA : ∀ t : Fin cfg0.N, (cfg0.win 12).flush t = true := (by decide +kernel : ∀ t : Fin grid0.N, win0_12.flush t = true)
theorem flushG : ∀ t : Fin cfg0.N, (cfg0.win 13).flush t = true := (by decide +kernel : ∀ t : Fin grid0.N, win0_13.flush t = true)

/-- The tile of a point. -/
def tileOf (t : Fin cfg0.N) : Fin 32 := ⟨t.val / 11, by have := lt352 t; omega⟩

theorem lastRow_tileOf (t : Fin cfg0.N) (k : Fin 2) : lastRow (tileOf t) k = rowOf t ⟨1022 + k.val, by omega⟩ :=
  Fin.ext (by change 1024 * (t.val / 11) + 1022 + k.val = 1024 * (t.val / 11) + (1022 + k.val); omega)

theorem flushedA (t : Fin cfg0.N) : (dats m 0 c).flushed 12 t = ((cfg0.win 12).blk t).view.read (Elt Ideal) (outA m c) := by
  obtain ⟨h0, -⟩ := idxC t
  show (cfg0.win 12).cut (grid0.coords t) (k0_pay11 (k0_pay3 (hnAt m c t) (iblk m c 2 t))) = _
  funext y
  obtain ⟨z, k, x, rfl⟩ : ∃ (z : Fin 1) (k : Fin 2) (x : Fin 256), y = ix3 z k x := ⟨y 0, y 1, y 2, eq_ix3 y⟩
  obtain rfl : z = 0 := Subsingleton.elim _ _
  have e : (win0_12.blk t).view.emb (ix3 0 k x) = ix3 (tileOf t) k (colOf t x) := by unfold tileOf colOf; blk_ext [h0]
  show k0_pay11 (k0_pay3 (hnAt m c t) (iblk m c 2 t)) (ix3 0 k x) = outA m c ((win0_12.blk t).view.emb (ix3 0 k x))
  rw [e, last2A, upA, ← lastRow_tileOf]
  rfl

theorem flushedG (t : Fin cfg0.N) : (dats m 0 c).flushed 13 t = ((cfg0.win 13).blk t).view.read (Elt Ideal) (outG m c) := by
  obtain ⟨-, h0⟩ := idxC t
  show (cfg0.win 13).cut (grid0.coords t) (k0_pay12 (k0_pay4 (hnAt m c t) (iblk m c 3 t))) = _
  funext y
  obtain ⟨z, k, x, rfl⟩ : ∃ (z : Fin 1) (k : Fin 2) (x : Fin 256), y = ix3 z k x := ⟨y 0, y 1, y 2, eq_ix3 y⟩
  obtain rfl : z = 0 := Subsingleton.elim _ _
  have e : (win0_13.blk t).view.emb (ix3 0 k x) = ix3 (tileOf t) k (colOf t x) := by unfold tileOf colOf; blk_ext [h0]
  show k0_pay12 (k0_pay4 (hnAt m c t) (iblk m c 3 t)) (ix3 0 k x) = outG m c ((win0_13.blk t).view.emb (ix3 0 k x))
  rw [e, last2G, upG, ← lastRow_tileOf]
  rfl

/-- Every entry of the two arrays lies in the block of one point. -/
theorem in_blk (i : S32x2x2816.Idx) : ∃ t : Fin cfg0.N, ∀ a : Fin 3, (![t.val / 11, 0, t.val % 11] : Fin 3 → ℕ) a * S1x2x256.size a ≤ (i a).val
    ∧ (i a).val < (![t.val / 11, 0, t.val % 11] : Fin 3 → ℕ) a * S1x2x256.size a + S1x2x256.size a := by
  have hi0 : (i 0).val < 32 := (i 0).isLt
  have hi1 : (i 1).val < 2 := (i 1).isLt
  have hi2 : (i 2).val < 2816 := (i 2).isLt
  refine ⟨⟨11 * (i 0).val + (i 2).val / 256, lt_of_lt_of_eq (by omega) N_0.symm⟩, fun a => ?_⟩
  match a with
  | ⟨0, _⟩ =>
    show (11 * (i 0).val + (i 2).val / 256) / 11 * 1 ≤ (i 0).val ∧ (i 0).val < (11 * (i 0).val + (i 2).val / 256) / 11 * 1 + 1; omega
  | ⟨1, _⟩ => show 0 * 2 ≤ (i 1).val ∧ (i 1).val < 0 * 2 + 2; omega
  | ⟨2, _⟩ =>
    show (11 * (i 0).val + (i 2).val / 256) % 11 * 256 ≤ (i 2).val ∧ (i 2).val < (11 * (i 0).val + (i 2).val / 256) % 11 * 256 + 256; omega

theorem coveredA (i : S32x2x2816.Idx) : ∃ t : Fin cfg0.N, (cfg0.win 12).flush t = true ∧ i ∈ ((cfg0.win 12).blk t).view.set := by
  obtain ⟨t, ht⟩ := in_blk i
  refine ⟨t, flushA t, ?_⟩
  show i ∈ ((View.whole main_v2_1).slice (win0_12.rect t)).set
  rw [View.set_slice_whole, Rect.mem_set_unit]
  rw [← (idxC t).1] at ht
  exact ht

theorem coveredG (i : S32x2x2816.Idx) : ∃ t : Fin cfg0.N, (cfg0.win 13).flush t = true ∧ i ∈ ((cfg0.win 13).blk t).view.set := by
  obtain ⟨t, ht⟩ := in_blk i
  refine ⟨t, flushG t, ?_⟩
  show i ∈ ((View.whole main_v2_2).slice (win0_13.rect t)).set
  rw [View.set_slice_whole, Rect.mem_set_unit]
  rw [← (idxC t).2] at ht
  exact ht

theorem finalA : (dats m 0 c).arrAt 12 cfg0.N = outA m c :=
  (dats m 0 c).arrAt_eq_of_cover 12 _ (fun t _ => flushedA m c t) coveredA

theorem finalG : (dats m 0 c).arrAt 13 cfg0.N = outG m c :=
  (dats m 0 c).arrAt_eq_of_cover 13 _ (fun t _ => flushedG m c t) coveredG

end Cert.Kernel2Ideal.Ffn

end
-- ==== Proof.FfnReference.lean ====
/- The feed-forward reference's stages, entry by entry. -/
module

public import proofs.«01_k».proof.Proof.Gen.Reference2Ideal.Read
public import proofs.«01_k».proof.Proof.FfnSpec

@[expose] public section

noncomputable section

namespace Cert.Reference2Ideal.Ffn

open Cert.Reference2Ideal Cert.Reference2Ideal.Gen Cert.Reference2Ideal.Read Idealize.ShloMosaic Idealize.ShloMosaic.TcCoe Idealize.SL.Sem
open Cert.FfnSpec

variable (H : (⟨S32768x1024, .f32⟩ : BufTy).Contents (Elt Ideal)) (G : (⟨S1024, .f32⟩ : BufTy).Contents (Elt Ideal))
  (WU : (⟨S1024x5632, .bf16⟩ : BufTy).Contents (Elt Ideal)) (CV : (⟨S4x5632, .f32⟩ : BufTy).Contents (Elt Ideal))
  (WD : (⟨S2816x1024, .bf16⟩ : BufTy).Contents (Elt Ideal)) (GP : (⟨S1024, .f32⟩ : BufTy).Contents (Elt Ideal))
  (WG : (⟨S1024x1024, .bf16⟩ : BufTy).Contents (Elt Ideal)) (PE : (⟨S32768x256, .f32⟩ : BufTy).Contents (Elt Ideal))
  (WP : (⟨S256x1024, .bf16⟩ : BufTy).Contents (Elt Ideal))

/-- Position `s` of sequence `b` among all the rows. -/
def rowAt (b : Fin 16) (s : Fin 2048) : Fin 32768 := ⟨2048 * b.val + s.val, by omega⟩

variable (b : Fin 16) (s : Fin 2048)

theorem rows_apply (k : Fin 1024) : val_main_v0 (F := Ideal) H (ix3 b s k) = H (ix2 (rowAt b s) k) := by
  rw [val_main_v0_apply]
  congr 1
  funext a
  apply Fin.ext
  match a with
  | ⟨0, _⟩ => change ((b.val * 2048 + s.val) * 1024 + k.val) / 1024 = 2048 * b.val + s.val; omega
  | ⟨1, _⟩ => change ((b.val * 2048 + s.val) * 1024 + k.val) % 1024 = k.val; omega

theorem embed_apply (k : Fin 256) : val_main_v77 (F := Ideal) PE (ix3 b s k) = PE (ix2 (rowAt b s) k) := by
  rw [val_main_v77_apply]
  congr 1
  funext a
  apply Fin.ext
  match a with
  | ⟨0, _⟩ => change ((b.val * 2048 + s.val) * 256 + k.val) / 256 = 2048 * b.val + s.val; omega
  | ⟨1, _⟩ => change ((b.val * 2048 + s.val) * 256 + k.val) % 256 = k.val; omega

/-! ### The up product -/

theorem square_apply : val_main_v2 (F := Ideal) H (ix2 b s) = ∑ k : Fin 1024, H (ix2 (rowAt b s) k) * H (ix2 (rowAt b s) k) := by
  rw [val_main_v2_apply, val_main_cst_apply, Ideal.ofBits_def, Ideal.ofBits_zero_f32, zero_add]
  refine Finset.sum_congr rfl fun k _ => ?_
  rw [show idx_main_v2 (ix2 b s) k = ix3 b s k from eq_ix3 _, val_main_v1_apply, rows_apply]
  rfl

theorem norm_apply (k : Fin 1024) : val_main_v13 (F := Ideal) H G (ix3 b s k)
    = rmsNorm (fun a => H (ix2 (rowAt b s) a)) (fun a => G (ix1 a)) k := by
  rw [val_main_v13_apply, val_main_v10_apply, rows_apply, val_main_v9_apply, val_main_v8_apply, val_main_v7_apply, val_main_v5_apply,
    val_main_v3_apply, show idx_main_v3 (idx_main_v9 (ix3 b s k)) = ix2 b s from eq_ix2 _, square_apply, val_main_v4_apply,
    val_main_cst_0_apply, val_main_v6_apply, val_main_cst_1_apply, val_main_v12_apply, val_main_v11_apply,
    show idx_main_v11 (idx_main_v12 (ix3 b s k)) = ix1 k from eq_ix1 _]
  rfl

theorem up_apply (f : Fin 5632) : val_main_v15 (F := Ideal) H G WU (ix3 b s f) = up H G WU (rowAt b s) f := by
  rw [val_main_v15_apply]
  refine Finset.sum_congr rfl fun k _ => ?_
  rw [show lidx_main_v15 (ix3 b s f) k = ix3 b s k from eq_ix3 _, show ridx_main_v15 (ix3 b s f) k = ix2 k f from eq_ix2 _, norm_apply,
    val_main_v14_apply]
  rfl

/-! ### The convolution -/

/-- The up product under two rows of zeros, `k` rows before position `s`. -/
theorem padded_apply (p : Fin 2050) (k : ℕ) (hk : k ≤ 2) (hp : p.val + k = s.val + 2) (f : Fin 5632) :
    val_main_v17 (F := Ideal) H G WU (ix3 b p f) = hist (fun r => up H G WU r f) (rowAt b s) k := by
  have er : (rowAt b s).val = 2048 * b.val + s.val := rfl
  have hz : ∀ j : S16x2x5632.Idx, val_main_v16 (F := Ideal) j = (0 : EReal) := fun j => by
    rw [val_main_v16_apply, val_main_cst_2_apply]; exact Ideal.ofBits_zero_f32
  have hu := fun s => up_apply H G WU b s f
  unfold val_main_v17
  generalize val_main_v15 (F := Ideal) H G WU = y at hu
  generalize val_main_v16 (F := Ideal) = z at hz
  pointwise
  unfold hist
  by_cases h : p.val < 2
  · have hm : (rowAt b s).val % 2048 < k := by rw [er]; omega
    exact ((dif_pos h).trans (hz _)).trans (if_pos hm).symm
  · have hm : ¬ (rowAt b s).val % 2048 < k := by rw [er]; omega
    refine ((dif_neg h).trans (hu ⟨p.val - 2, by omega⟩)).trans ((congrArg (fun r => up H G WU r f) (Fin.ext ?_)).trans (if_neg hm).symm)
    change 2048 * b.val + (p.val - 2) = 2048 * b.val + s.val - k
    omega

theorem tap0 (f : Fin 5632) : val_main_v22 (F := Ideal) CV (ix3 b s f) = CV (ix2 0 f) := by
  rw [val_main_v22_apply, val_main_v21_apply, val_main_v20_apply, val_main_v19_apply]
  congr 1
  funext a
  apply Fin.ext
  match a with
  | ⟨0, _⟩ => rfl
  | ⟨1, _⟩ => change f.val % 5632 = f.val; omega

theorem tap1 (f : Fin 5632) : val_main_v28 (F := Ideal) CV (ix3 b s f) = CV (ix2 1 f) := by
  rw [val_main_v28_apply, val_main_v27_apply, val_main_v26_apply, val_main_v25_apply]
  congr 1
  funext a
  apply Fin.ext
  match a with
  | ⟨0, _⟩ => rfl
  | ⟨1, _⟩ => change f.val % 5632 = f.val; omega

theorem tap2 (f : Fin 5632) : val_main_v35 (F := Ideal) CV (ix3 b s f) = CV (ix2 2 f) := by
  rw [val_main_v35_apply, val_main_v34_apply, val_main_v33_apply, val_main_v32_apply]
  congr 1
  funext a
  apply Fin.ext
  match a with
  | ⟨0, _⟩ => rfl
  | ⟨1, _⟩ => change f.val % 5632 = f.val; omega

theorem tap3 (f : Fin 5632) : val_main_v41 (F := Ideal) CV (ix3 b s f) = CV (ix2 3 f) := by
  rw [val_main_v41_apply, val_main_v40_apply, val_main_v39_apply, val_main_v38_apply]
  congr 1
  funext a
  apply Fin.ext
  match a with
  | ⟨0, _⟩ => rfl
  | ⟨1, _⟩ => change f.val % 5632 = f.val; omega

theorem conv_apply (f : Fin 5632) : val_main_v42 (F := Ideal) H G WU CV (ix3 b s f) = conv H G WU CV (rowAt b s) f := by
  have e2 : val_main_v18 (F := Ideal) H G WU (ix3 b s f) = hist (fun r => up H G WU r f) (rowAt b s) 2 := by
    rw [val_main_v18_apply, show idx_main_v18 (ix3 b s f) = ix3 b ⟨s.val, by omega⟩ f from eq_ix3 _]
    exact padded_apply H G WU b s _ 2 (by omega) rfl f
  have e1 : val_main_v24 (F := Ideal) H G WU (ix3 b s f) = hist (fun r => up H G WU r f) (rowAt b s) 1 := by
    rw [val_main_v24_apply, show idx_main_v24 (ix3 b s f) = ix3 b ⟨1 + s.val, by omega⟩ f from eq_ix3 _]
    exact padded_apply H G WU b s _ 1 (by omega) (by change 1 + s.val + 1 = s.val + 2; omega) f
  have e0 : val_main_v31 (F := Ideal) H G WU (ix3 b s f) = hist (fun r => up H G WU r f) (rowAt b s) 0 := by
    rw [val_main_v31_apply, show idx_main_v31 (ix3 b s f) = ix3 b ⟨2 + s.val, by omega⟩ f from eq_ix3 _]
    exact padded_apply H G WU b s _ 0 (by omega) (by change 2 + s.val + 0 = s.val + 2; omega) f
  rw [val_main_v42_apply, val_main_v37_apply, val_main_v30_apply, val_main_v23_apply, val_main_v29_apply, val_main_v36_apply,
    e0, e1, e2, tap0, tap1, tap2, tap3]
  unfold conv
  rw [mul_comm (CV (ix2 0 f)), mul_comm (CV (ix2 1 f)), mul_comm (CV (ix2 2 f))]
  rfl

/-! ### The activation and the down product -/

theorem act_apply (f : Fin 2816) : val_main_v52 (F := Ideal) H G WU CV (ix3 b s f) = actAt H G WU CV (rowAt b s) f := by
  rw [val_main_v52_apply, val_main_v51_apply, val_main_v50_apply, val_main_v49_apply, val_main_cst_4_apply, val_main_v48_apply,
    val_main_v47_apply, val_main_cst_3_apply, val_main_v46_apply, val_main_v45_apply, val_main_v44_apply, val_main_v43_apply,
    show idx_main_v43 (ix3 b s f) = ix3 b s (⟨f.val, by omega⟩ : Fin 5632) from eq_ix3 _,
    show idx_main_v44 (ix3 b s f) = ix3 b s (⟨2816 + f.val, by omega⟩ : Fin 5632) from eq_ix3 _, conv_apply, conv_apply]
  rfl

theorem res_apply (d : Fin 1024) : val_main_v55 (F := Ideal) H G WU CV WD (ix3 b s d) = res H G WU CV WD (rowAt b s) d := by
  rw [val_main_v55_apply, rows_apply, val_main_v54_apply]
  refine congrArg (fun z : EReal => H (ix2 (rowAt b s) d) + z) (Finset.sum_congr rfl fun f _ => ?_)
  rw [show lidx_main_v54 (ix3 b s d) f = ix3 b s f from eq_ix3 _, show ridx_main_v54 (ix3 b s d) f = ix2 f d from eq_ix2 _, act_apply,
    val_main_v53_apply]
  rfl

/-! ### The gate -/

theorem square2_apply : val_main_v57 (F := Ideal) H G WU CV WD (ix2 b s)
    = ∑ k : Fin 1024, res H G WU CV WD (rowAt b s) k * res H G WU CV WD (rowAt b s) k := by
  rw [val_main_v57_apply, val_main_cst_5_apply, Ideal.ofBits_def, Ideal.ofBits_zero_f32, zero_add]
  refine Finset.sum_congr rfl fun k _ => ?_
  rw [show idx_main_v57 (ix2 b s) k = ix3 b s k from eq_ix3 _, val_main_v56_apply, res_apply]
  rfl

theorem norm2_apply (k : Fin 1024) : val_main_v68 (F := Ideal) H G WU CV WD GP (ix3 b s k)
    = rmsNorm (res H G WU CV WD (rowAt b s)) (fun a => GP (ix1 a)) k := by
  rw [val_main_v68_apply, val_main_v65_apply, res_apply, val_main_v64_apply, val_main_v63_apply, val_main_v62_apply, val_main_v60_apply,
    val_main_v58_apply, show idx_main_v58 (idx_main_v64 (ix3 b s k)) = ix2 b s from eq_ix2 _, square2_apply, val_main_v59_apply,
    val_main_cst_6_apply, val_main_v61_apply, val_main_cst_7_apply, val_main_v67_apply, val_main_v66_apply,
    show idx_main_v66 (idx_main_v67 (ix3 b s k)) = ix1 k from eq_ix1 _]
  rfl

theorem gate_apply (d : Fin 1024) : val_main_v70 (F := Ideal) H G WU CV WD GP WG (ix3 b s d)
    = ∑ k : Fin 1024, rmsNorm (res H G WU CV WD (rowAt b s)) (fun a => GP (ix1 a)) k * WG (ix2 k d) := by
  rw [val_main_v70_apply]
  refine Finset.sum_congr rfl fun k _ => ?_
  rw [show lidx_main_v70 (ix3 b s d) k = ix3 b s k from eq_ix3 _, show ridx_main_v70 (ix3 b s d) k = ix2 k d from eq_ix2 _, norm2_apply,
    val_main_v69_apply]
  rfl

theorem project_apply (d : Fin 1024) : val_main_v79 (F := Ideal) PE WP (ix3 b s d)
    = ∑ k : Fin 256, PE (ix2 (rowAt b s) k) * WP (ix2 k d) := by
  rw [val_main_v79_apply]
  refine Finset.sum_congr rfl fun k _ => ?_
  rw [show lidx_main_v79 (ix3 b s d) k = ix3 b s k from eq_ix3 _, show ridx_main_v79 (ix3 b s d) k = ix2 k d from eq_ix2 _, embed_apply,
    val_main_v78_apply]
  rfl

/-- The gated rows. -/
theorem gated_apply (d : Fin 1024) : val_main_v81 (F := Ideal) H G WU CV WD GP WG PE WP (ix3 b s d)
    = result H G WU CV WD GP WG PE WP (rowAt b s) d := by
  rw [val_main_v81_apply, val_main_v80_apply, val_main_v76_apply, val_main_v75_apply, val_main_cst_9_apply, val_main_v74_apply,
    val_main_v73_apply, val_main_cst_8_apply, val_main_v72_apply, val_main_v71_apply, res_apply, gate_apply, project_apply]
  rfl

/-- The reference's result. -/
theorem result_apply (r : Fin 32768) (d : Fin 1024) : val_main_v86 (F := Ideal) H G WU CV WD GP WG PE WP (ix2 r d)
    = result H G WU CV WD GP WG PE WP r d := by
  have e : rowAt ⟨r.val / 2048, by omega⟩ ⟨r.val % 2048, by omega⟩ = r :=
    Fin.ext (by change 2048 * (r.val / 2048) + r.val % 2048 = r.val; omega)
  rw [val_main_v86_apply, show idx_main_v86 (ix2 r d) = ix3 ⟨r.val / 2048, by omega⟩ ⟨r.val % 2048, by omega⟩ d from by
    funext a
    apply Fin.ext
    match a with
    | ⟨0, _⟩ => change (r.val * 1024 + d.val) / 2097152 = r.val / 2048; omega
    | ⟨1, _⟩ => change (r.val * 1024 + d.val) / 1024 % 2048 = r.val % 2048; omega
    | ⟨2, _⟩ => change (r.val * 1024 + d.val) % 1024 = d.val; omega]
  rw [gated_apply, e]

/-- The reference's last two rows of each tile's up product. -/
theorem last_apply (q : Fin 32) (k : Fin 2) (f : Fin 5632) :
    val_main_v83 (F := Ideal) H G WU (ix3 q k f) = up H G WU (lastRow q k) f := by
  have e : rowAt ⟨q.val / 2, by omega⟩ ⟨1024 * (q.val % 2) + 1022 + k.val, by omega⟩ = lastRow q k :=
    Fin.ext (by change 2048 * (q.val / 2) + (1024 * (q.val % 2) + 1022 + k.val) = 1024 * q.val + 1022 + k.val; omega)
  rw [val_main_v83_apply, val_main_v82_apply, show idx_main_v82 (idx_main_v83 (ix3 q k f))
      = ix3 ⟨q.val / 2, by omega⟩ ⟨1024 * (q.val % 2) + 1022 + k.val, by omega⟩ f from by
    funext a
    apply Fin.ext
    match a with
    | ⟨0, _⟩ => change ((q.val * 1024 + (1022 + k.val)) * 5632 + f.val) / 11534336 = q.val / 2; omega
    | ⟨1, _⟩ => change ((q.val * 1024 + (1022 + k.val)) * 5632 + f.val) / 5632 % 2048 = 1024 * (q.val % 2) + 1022 + k.val; omega
    | ⟨2, _⟩ => change ((q.val * 1024 + (1022 + k.val)) * 5632 + f.val) % 5632 = f.val; omega, up_apply, e]

theorem lastA_apply (q : Fin 32) (k : Fin 2) (f : Fin 2816) :
    val_main_v84 (F := Ideal) H G WU (ix3 q k f) = up H G WU (lastRow q k) ⟨f.val, by omega⟩ := by
  rw [val_main_v84_apply, show idx_main_v84 (ix3 q k f) = ix3 q k (⟨f.val, by omega⟩ : Fin 5632) from eq_ix3 _, last_apply]

theorem lastG_apply (q : Fin 32) (k : Fin 2) (f : Fin 2816) :
    val_main_v85 (F := Ideal) H G WU (ix3 q k f) = up H G WU (lastRow q k) ⟨2816 + f.val, by omega⟩ := by
  rw [val_main_v85_apply, show idx_main_v85 (ix3 q k f) = ix3 q k (⟨2816 + f.val, by omega⟩ : Fin 5632) from eq_ix3 _, last_apply]

end Cert.Reference2Ideal.Ffn

end
-- ==== Proof.FfnLastIdeal.Setup.lean ====
/- What the runs of the last layer's feed-forward kernel share: the buffers the region finds, the windows' blocks, the conditions of
   the body's branches over the points, the staging and scratch buffers, and the frame claim read off the run. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers of core `c` when the region is entered: after the three reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no reshape writes reaches the region as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- The frame claim from a run of the region: every argument array ends as it was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_of_ne m c main_arg0 (by decide) (by decide) (by decide)))),
      ((h c).2 main_arg1 (Pipeline.mem_restRefs_of main_arg1 (by decide) (by decide))).trans (V_of_ne m c main_arg1 (by decide) (by decide) (by decide)),
      ((h c).1 3).trans (((dats 0 c).arrAt_in 3 rfl _).trans ((hA c 3).trans (V_of_ne m c main_arg2 (by decide) (by decide) (by decide)))),
      ((h c).1 5).trans (((dats 0 c).arrAt_in 5 rfl _).trans ((hA c 5).trans (V_of_ne m c main_arg3 (by decide) (by decide) (by decide)))),
      ((h c).1 6).trans (((dats 0 c).arrAt_in 6 rfl _).trans ((hA c 6).trans (V_of_ne m c main_arg4 (by decide) (by decide) (by decide)))),
      ((h c).2 main_arg5 (Pipeline.mem_restRefs_of main_arg5 (by decide) (by decide))).trans (V_of_ne m c main_arg5 (by decide) (by decide) (by decide)),
      ((h c).1 8).trans (((dats 0 c).arrAt_in 8 rfl _).trans ((hA c 8).trans (V_of_ne m c main_arg6 (by decide) (by decide) (by decide)))),
      ((h c).1 9).trans (((dats 0 c).arrAt_in 9 rfl _).trans ((hA c 9).trans (V_of_ne m c main_arg7 (by decide) (by decide) (by decide)))),
      ((h c).1 10).trans (((dats 0 c).arrAt_in 10 rfl _).trans ((hA c 10).trans (V_of_ne m c main_arg8 (by decide) (by decide) (by decide)))),
      ((h c).2 main_arg9 (Pipeline.mem_restRefs_of main_arg9 (by decide) (by decide))).trans (V_of_ne m c main_arg9 (by decide) (by decide) (by decide))⟩) h

/-! ## The body's branch conditions -/

/-- The first column tile of a row tile. -/
abbrev cond0_0 (i : grid0.Coords) : Prop := (Scalar.cmpi .ne (Scalar.extui (Scalar.cmpi .eq (BitVec.ofNat 32 (i 1).val) 0#32)) 0#32) = 1#1
/-- It holds at the points ≡ 0 (mod 11). -/
theorem hcond0_0 : ∀ t : Fin cfg0.N, cond0_0 (grid0.coords t) ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The first row tile of a sequence. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- It holds at the row tiles of even number. -/
theorem hcond0_1 : ∀ t : Fin cfg0.N, cond0_1 (grid0.coords t) ↔ t.val / 11 % 2 = 0 :=
  (by decide +kernel : ∀ t : Fin grid0.N, cond0_1 (grid0.coords t) ↔ t.val / 11 % 2 = 0)

/-- The last column tile of a row tile. -/
abbrev cond0_2 (i : grid0.Coords) : Prop := (Scalar.cmpi .ne (Scalar.extui (Scalar.cmpi .eq (BitVec.ofNat 32 (i 1).val) 10#32)) 0#32) = 1#1
/-- It holds at the points ≡ 10 (mod 11). -/
theorem hcond0_2 : ∀ t : Fin cfg0.N, cond0_2 (grid0.coords t) ↔ t.val % 11 = 10 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_2, e0, e1]
    word_cmp
   : ∀ t : Fin grid0.N, cond0_2 (grid0.coords t) ↔ t.val % 11 = 10)

/-! ## The buffers of a point -/

/-- Each window's staging buffer at a point, and that it is whole. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x256 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1024x1024 .bf16 := Memref.whole cc0_scratch0
abbrev scM0_1 : Memref sig .tc .vmem S11x2x8x256 .f32 := Memref.whole cc0_scratch1
/-- The scoped buffers and the generator register, with the two scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Ffn

end
-- ==== Proof.FfnLastIdeal.Vals.lean ====
/- The values one grid point of the last layer's feed-forward kernel leaves, from those it finds. -/
module

public import proofs.«01_k».proof.Proof.FfnLastIdeal.Setup
public import Idealize.ShloMosaic.Lib.VecWindow

@[expose] public section

-- membership in a rectangle of production extents (`View.cover_of_tiled`): the elaborator's structural look
-- recurses once per coordinate of the long axes
set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of a point -/

/-- A block of eight rows of zeros: the rows before a sequence's first. -/
def zeroRows : Vec F S1x1x8x256 .f32 := fun _ => Scalar.ofBits .f32 0x00000000#32

/-- The gated activation of a row tile at a column tile: `v5` and `v7` the two halves of the up product, `v23` and `v26`
    the eight rows before them, `v49` and `v50` the taps of the convolution and its bias. Sixty-four rows at a time. -/
def act (v5 v7 : FVec F S1024x256 .f32) (v23 v26 : FVec F S8x256 .f32) (v49 v50 : Vec F S4x256 .f32) :
    FVec F S1024x256 .bf16 :=
  k0_pay93 (k0_pay18 v7 v26 v49 v50 (k0_pay17 v5 v23 v49))
    (k0_pay21 v7 v50 (k0_pay19 v5 v49) (k0_pay20 v49))
    (k0_pay23 v7 v50 (k0_pay22 v5 v49))
    (k0_pay26 v7 v50 (k0_pay24 v5 v49) (k0_pay25 v7))
    (k0_pay30 v50 (k0_pay27 v5 v49) (k0_pay28 v7) (k0_pay29 v7))
    (k0_pay34 v50 (k0_pay31 v5 v49) (k0_pay32 v7) (k0_pay33 v7))
    (k0_pay38 v50 (k0_pay35 v5 v49) (k0_pay36 v7) (k0_pay37 v7) 1#32)
    (k0_pay43 v50 (k0_pay39 v5 v49) (k0_pay40 v7) (k0_pay41 v7) (k0_pay42 v7))
    (k0_pay48 v50 (k0_pay44 v5 v49) (k0_pay45 v7) (k0_pay46 v7) (k0_pay47 v7))
    (k0_pay53 v50 (k0_pay49 v5 v49) (k0_pay50 v7) (k0_pay51 v7) (k0_pay52 v7) 2#32)
    (k0_pay59 v50 (k0_pay54 v5 v49) (k0_pay55 v7) (k0_pay57 v7) (k0_pay58 v7))
    (k0_pay65 v50 (k0_pay60 v5 v49) (k0_pay61 v7) (k0_pay63 v7) (k0_pay64 v7))
    (k0_pay72 v50 (k0_pay66 v5 v49) (k0_pay67 v7) (k0_pay69 v7) (k0_pay70 v7) (k0_pay71 v50))
    (k0_pay79 v50 (k0_pay73 v5 v49) (k0_pay74 v7) (k0_pay76 v7) (k0_pay77 v7) (k0_pay78 v50))
    (k0_pay85 v50 (k0_pay80 v5 v49) (k0_pay81 v7) (k0_pay83 v7) (k0_pay84 v7 v50))
    (k0_pay92 v50 (k0_pay86 v5 v49) (k0_pay87 v7) (k0_pay89 v7) (k0_pay90 v7 v50) (k0_pay91 v50))

/-- The output tile after a column tile's share is added: `h` the normalised rows, `o` the tile before. -/
def step (h : Vec F S1024x1024 .bf16) (x2 x3 : Vec F S1024x256 .bf16) (p q : Vec F S1x1x8x256 .f32)
    (x4 x5 : Vec F S4x256 .f32) (o : Vec F S1024x1024 .f32) (x6 : Vec F S256x1024 .bf16) : Vec F S1024x1024 .f32 :=
  k0_pay94 (act (k0_pay7 h x2) (k0_pay8 h x3) (k0_pay10 p) (k0_pay11 q) x4 x5) o x6

/-- The normalised rows after the body. -/
def hnAfter (i : grid0.Coords) (x0 : Vec F S1024x1024 .f32) (x1 : Vec F S1x1024 .f32) (xs0 : Vec F S1024x1024 .bf16) :
    Vec F S1024x1024 .bf16 := if cond0_0 i then k0_pay6 x0 x1 else xs0

/-- The rows before the tile: zeros at the start of a sequence, else what is carried in slot `o`. -/
def prev (i : grid0.Coords) (o : Fin 4 → ℕ) (ho : ∀ a, o a + S1x1x8x256.size a ≤ S11x2x8x256.size a)
    (xs1 : Vec F S11x2x8x256 .f32) : Vec F S1x1x8x256 .f32 :=
  if cond0_1 i then zeroRows else VecWindow.window xs1 o S1x1x8x256.size ho

/-- The finished tile: `s` gated, and every row of that normalised under the last gain. -/
def last (s : Vec F S1024x1024 .f32) (x7 : Vec F S1x1024 .f32) (x8 : Vec F S1024x1024 .bf16) (x9 : Vec F S1024x256 .f32)
    (x10 : Vec F S256x1024 .bf16) (x11 : Vec F S1x1024 .f32) : Vec F S1024x1024 .f32 :=
  k0_pay1 (k0_pay2 s x7 x8 x9 x10) (k0_pay3 x11) (k0_pay4 s x7 x8 x9 x10) k0_pay5

/-- The output tile after the body. -/
def oAfter (i : grid0.Coords) (x0 : Vec F S1024x1024 .f32) (x1 : Vec F S1x1024 .f32) (x2 : Vec F S1024x256 .bf16) (x3 : Vec F S1024x256 .bf16) (x4 : Vec F S4x256 .f32) (x5 : Vec F S4x256 .f32) (x6 : Vec F S256x1024 .bf16) (x7 : Vec F S1x1024 .f32) (x8 : Vec F S1024x1024 .bf16) (x9 : Vec F S1024x256 .f32) (x10 : Vec F S256x1024 .bf16) (x11 : Vec F S1x1024 .f32) (xo : Vec F S1024x1024 .f32) (xs0 : Vec F S1024x1024 .bf16)
    (xs1 : Vec F S11x2x8x256 .f32) : Vec F S1024x1024 .f32 :=
  let s := step (hnAfter i x0 x1 xs0) x2 x3 (prev i (k0_off2 i) (k0_off2_inb i) xs1)
    (prev i (k0_off3 i) (k0_off3_inb i) xs1) x4 x5 (if cond0_0 i then x0 else xo) x6
  if cond0_2 i then last s x7 x8 x9 x10 x11 else s

/-- The carried rows after the body: the last eight rows of the two up products put in the column tile's slots. -/
def carryAfter (i : grid0.Coords) (h : Vec F S1024x1024 .bf16) (x2 x3 : Vec F S1024x256 .bf16)
    (xs1 : Vec F S11x2x8x256 .f32) : Vec F S11x2x8x256 .f32 :=
  VecWindow.put (VecWindow.put (if cond0_1 i then VecWindow.put xs1 (k0_off1 i) S1x2x8x256.size (k0_pay9 (F := F)) else xs1)
    (k0_off2 i) S1x1x8x256.size (k0_pay13 (k0_pay12 h x2))) (k0_off3 i) S1x1x8x256.size (k0_pay14 (k0_pay8 h x3))

/-- `step` at equal arguments. -/
theorem step_congr {h h' : Vec F S1024x1024 .bf16} {x2 x2' x3 x3' : Vec F S1024x256 .bf16} {p p' q q' : Vec F S1x1x8x256 .f32}
    {x4 x4' x5 x5' : Vec F S4x256 .f32} {o o' : Vec F S1024x1024 .f32} {x6 x6' : Vec F S256x1024 .bf16}
    (eh : h = h') (e2 : x2 = x2') (e3 : x3 = x3') (ep : p = p') (eq : q = q') (e4 : x4 = x4') (e5 : x5 = x5')
    (eo : o = o') (e6 : x6 = x6') :
    k0_pay94 (act (k0_pay7 h x2) (k0_pay8 h x3) (k0_pay10 p) (k0_pay11 q) x4 x5) o x6 = step h' x2' x3' p' q' x4' x5' o' x6' := by
  subst eh e2 e3 ep eq e4 e5 eo e6; rfl

/-- A whole load of a whole buffer. -/
theorem readAt_whole_unread {s : Shape} {e : EltTy} {a : Memref sig .tc .vmem s e} (ha : a.IsWhole) {off : Fin s.rank → ℕ}
    (inb : ∀ k, off k + s.size k ≤ s.size k) (x : Vec F s e) :
    a.view.readAt (Elt F) (Rect.unit off s.size inb).toLoadRect (ha.unread x) = x :=
  (View.readAt_full _ _ inb).trans (ha.read_unread x)

/-- The block of zeros. -/
theorem pay9_apply (y : S1x2x8x256.Idx) : k0_pay9 (F := F) y = Scalar.ofBits .f32 0x00000000#32 := rfl

/-- A load of a slot from the zeroed slots is zeros. -/
theorem readCov_zero (a : Memref sig .tc .vmem S11x2x8x256 .f32) (i : grid0.Coords) (o : Fin 4 → ℕ)
    (hb : ∀ k, k0_off1 i k + S1x2x8x256.size k ≤ S11x2x8x256.size k) (ho : ∀ k, o k + S1x1x8x256.size k ≤ S11x2x8x256.size k)
    (hin : ∀ k, k0_off1 i k ≤ o k ∧ o k + S1x1x8x256.size k ≤ k0_off1 i k + S1x2x8x256.size k) :
    a.view.readCov [(⟨Rect.unit (k0_off1 i) S1x2x8x256.size hb, k0_pay9 (F := F)⟩ : View.Piece (Elt F) S11x2x8x256 .f32)]
      (Rect.unit (s := S11x2x8x256) o S1x1x8x256.size ho).toLoadRect = zeroRows := by
  refine (View.readAt_unit _ _ ho rfl ho).trans ?_
  rw [View.read_writes_cons_put _ _ _ _ _ rfl, VecWindow.window_put_of_inside _ _ _ _ _ _ _ hin]
  funext y
  exact pay9_apply _

/-- The first slot of a column tile lies in its block. -/
theorem off2_in (i : grid0.Coords) : ∀ k, k0_off1 i k ≤ k0_off2 i k ∧ k0_off2 i k + S1x1x8x256.size k ≤ k0_off1 i k + S1x2x8x256.size k := by
  intro k; fin_cases k <;> exact ⟨Nat.le_refl _, by first | exact Nat.le_refl _ | exact Nat.le_succ _⟩

/-- The second slot of a column tile lies in its block. -/
theorem off3_in (i : grid0.Coords) : ∀ k, k0_off1 i k ≤ k0_off3 i k ∧ k0_off3 i k + S1x1x8x256.size k ≤ k0_off1 i k + S1x2x8x256.size k := by
  intro k; fin_cases k <;> exact ⟨by first | exact Nat.le_refl _ | exact Nat.zero_le _, by first | exact Nat.le_refl _ | exact Nat.le_succ _⟩

/-- `carryAfter` where the slots are zeroed first. -/
theorem carry_first {i : grid0.Coords} (hc : cond0_1 i) (a : Memref sig .tc .vmem S11x2x8x256 .f32) (f : a.view.ty.Contents (Elt F))
    {h h' : Vec F S1024x1024 .bf16} {x2 x2' x3 x3' : Vec F S1024x256 .bf16} {xs1 : Vec F S11x2x8x256 .f32}
    (hb : ∀ k, k0_off1 i k + S1x2x8x256.size k ≤ S11x2x8x256.size k)
    (h2 : ∀ k, k0_off2 i k + S1x1x8x256.size k ≤ S11x2x8x256.size k)
    (h3 : ∀ k, k0_off3 i k + S1x1x8x256.size k ≤ S11x2x8x256.size k)
    (eh : h = h') (e2 : x2 = x2') (e3 : x3 = x3') (ex : a.view.read (Elt F) f = xs1) :
    a.view.read (Elt F) (a.view.writes (Elt F) f [⟨Rect.unit (s := S11x2x8x256) (k0_off3 i) S1x1x8x256.size h3, k0_pay14 (k0_pay8 h x3)⟩,
      ⟨Rect.unit (s := S11x2x8x256) (k0_off2 i) S1x1x8x256.size h2, k0_pay13 (k0_pay12 h x2)⟩,
      ⟨Rect.unit (s := S11x2x8x256) (k0_off1 i) S1x2x8x256.size hb, k0_pay9 (F := F)⟩]) = carryAfter i h' x2' x3' xs1 := by
  subst eh e2 e3 ex
  rw [View.read_writes_cons_put _ _ _ _ _ rfl, View.read_writes_cons_put _ _ _ _ _ rfl,
    View.read_writes_cons_put _ _ _ _ _ rfl, View.writes_nil, carryAfter, if_pos hc]

/-- `carryAfter` where the slots hold the tile before. -/
theorem carry_later {i : grid0.Coords} (hc : ¬ cond0_1 i) (a : Memref sig .tc .vmem S11x2x8x256 .f32) (f : a.view.ty.Contents (Elt F))
    {h h' : Vec F S1024x1024 .bf16} {x2 x2' x3 x3' : Vec F S1024x256 .bf16} {xs1 : Vec F S11x2x8x256 .f32}
    (h2 : ∀ k, k0_off2 i k + S1x1x8x256.size k ≤ S11x2x8x256.size k)
    (h3 : ∀ k, k0_off3 i k + S1x1x8x256.size k ≤ S11x2x8x256.size k)
    (eh : h = h') (e2 : x2 = x2') (e3 : x3 = x3') (ex : a.view.read (Elt F) f = xs1) :
    a.view.read (Elt F) (a.view.writes (Elt F) f [⟨Rect.unit (s := S11x2x8x256) (k0_off3 i) S1x1x8x256.size h3, k0_pay14 (k0_pay8 h x3)⟩,
      ⟨Rect.unit (s := S11x2x8x256) (k0_off2 i) S1x1x8x256.size h2, k0_pay13 (k0_pay12 h x2)⟩]) = carryAfter i h' x2' x3' xs1 := by
  subst eh e2 e3 ex
  rw [View.read_writes_cons_put _ _ _ _ _ rfl, View.read_writes_cons_put _ _ _ _ _ rfl, View.writes_nil, carryAfter, if_neg hc]

/-- The finished tile at equal arguments. -/
theorem last_congr {s s' : Vec F S1024x1024 .f32} {x7 x7' : Vec F S1x1024 .f32} {x8 x8' : Vec F S1024x1024 .bf16}
    {x9 x9' : Vec F S1024x256 .f32} {x10 x10' : Vec F S256x1024 .bf16} {x11 x11' : Vec F S1x1024 .f32}
    (es : s = s') (e7 : x7 = x7') (e8 : x8 = x8') (e9 : x9 = x9') (e10 : x10 = x10') (e11 : x11 = x11') :
    k0_pay1 (k0_pay2 s x7 x8 x9 x10) (k0_pay3 x11) (k0_pay4 s x7 x8 x9 x10) k0_pay5 = last s' x7' x8' x9' x10' x11' := by
  subst es e7 e8 e9 e10 e11; rfl

end Cert.Kernel3Ideal.Ffn

end
-- ==== Proof.FfnLastIdeal.Body.lean ====
/- One grid point of the last layer's feed-forward kernel, as a triple: what its buffers hold after the body, from what they held
   before it. -/
module

public import proofs.«01_k».proof.Proof.FfnLastIdeal.Vals
public import Idealize.ShloMosaic.Lib.VecWindow

@[expose] public section

-- membership in a rectangle of production extents (`View.cover_of_tiled`): the elaborator's structural look
-- recurses once per coordinate of the long axes
set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of a point. -/
theorem body_run (c : Dev nD) (i : grid0.Coords) (h02 : ¬ (cond0_0 i ∧ cond0_2 i)) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S4x256 .f32) (harg6 : arg6.IsWhole) (arg7 : Memref sig .tc .vmem S4x256 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x256 .f32) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1x2x256 .f32) (harg15 : arg15.IsWhole) (arg16 : Memref sig .tc .vmem S1x2x256 .f32) (harg16 : arg16.IsWhole) (arg17 : Memref sig .tc .vmem S1024x1024 .bf16) (harg17 : arg17.IsWhole) (arg18 : Memref sig .tc .vmem S11x2x8x256 .f32) (harg18 : arg18.IsWhole)
    (x0 : Vec F S1024x1024 .f32) (x1 : Vec F S1x1024 .f32) (x2 : Vec F S1024x256 .bf16) (x3 : Vec F S1024x256 .bf16) (x4 : Vec F S4x256 .f32) (x5 : Vec F S4x256 .f32) (x6 : Vec F S256x1024 .bf16) (x7 : Vec F S1x1024 .f32) (x8 : Vec F S1024x1024 .bf16) (x9 : Vec F S1024x256 .f32) (x10 : Vec F S256x1024 .bf16) (x11 : Vec F S1x1024 .f32) (xo : Vec F S1024x1024 .f32) (xs0 : Vec F S1024x1024 .bf16) (xs1 : Vec F S11x2x8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo ∗ (∃ d, owns (c : Thread nD τ) arg15 fullShare d) ∗ (∃ d, owns (c : Thread nD τ) arg16 fullShare d) ∗ owns (c : Thread nD τ) arg17 fullShare xs0 ∗ owns (c : Thread nD τ) arg18 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (oAfter i x0 x1 x2 x3 x4 x5 x6 x7 x8 x9 x10 x11 xo xs0 xs1)
          ∗ owns (c : Thread nD τ) arg15 fullShare (k0_pay15 (k0_pay7 (hnAfter i x0 x1 xs0) x2)) ∗ owns (c : Thread nD τ) arg16 fullShare (k0_pay16 (k0_pay8 (hnAfter i x0 x1 xs0) x3))
          ∗ owns (c : Thread nD τ) arg17 fullShare (hnAfter i x0 x1 xs0) ∗ owns (c : Thread nD τ) arg18 fullShare (carryAfter i (hnAfter i x0 x1 xs0) x2 x3 xs1)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_eq_skeleton]; unfold cc0_ffn_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
  have hs : (cond0_0 i ∧ ¬ cond0_2 i) ∨ (¬ cond0_0 i ∧ ¬ cond0_2 i) ∨ (¬ cond0_0 i ∧ cond0_2 i) := by tauto
  rcases hs with ⟨hc0, hc2⟩ | ⟨hc0, hc2⟩ | ⟨hc0, hc2⟩ <;> by_cases hc1 : cond0_1 i
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr
      swap; · iexact H12
      ipureintro
      refine (View.read_writes_full _ _ _ _ _).trans ?_
      first
        | exact (step_congr (h' := hnAfter i x0 x1 xs0) (x2' := x2) (x3' := x3) (p' := prev i (k0_off2 i) (k0_off2_inb i) xs1)
        (q' := prev i (k0_off3 i) (k0_off3_inb i) xs1) (x4' := x4) (x5' := x5) (o' := if cond0_0 i then x0 else xo) (x6' := x6)
        (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg4 _ _) (readAt_whole_unread harg5 _ _)
        (by (first
        | exact (readCov_zero _ i _ _ _ (off2_in i)).trans (if_pos hc1).symm
        | exact ((View.readAt_unit _ _ (k0_off2_inb i) rfl (k0_off2_inb i)).trans (by rw [harg18.read_unread])).trans (if_neg hc1).symm)) (by (first
        | exact (readCov_zero _ i _ _ _ (off3_in i)).trans (if_pos hc1).symm
        | exact ((View.readAt_unit _ _ (k0_off3_inb i) rfl (k0_off3_inb i)).trans (by rw [harg18.read_unread])).trans (if_neg hc1).symm))
        (readAt_whole_unread harg6 _ _) (readAt_whole_unread harg7 _ _) (by (first
        | exact ((View.readCov_full _ _ _ _ _).trans (readAt_whole_unread harg2 _ _)).trans (if_pos hc0).symm
        | exact (readAt_whole_unread harg14 _ _).trans (if_neg hc0).symm)) (readAt_whole_unread harg8 _ _)).trans (if_neg hc2).symm
        | exact (last_congr ((View.readCov_full _ _ _ _ _).trans (step_congr (h' := hnAfter i x0 x1 xs0) (x2' := x2) (x3' := x3) (p' := prev i (k0_off2 i) (k0_off2_inb i) xs1)
        (q' := prev i (k0_off3 i) (k0_off3_inb i) xs1) (x4' := x4) (x5' := x5) (o' := if cond0_0 i then x0 else xo) (x6' := x6)
        (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg4 _ _) (readAt_whole_unread harg5 _ _)
        (by (first
        | exact (readCov_zero _ i _ _ _ (off2_in i)).trans (if_pos hc1).symm
        | exact ((View.readAt_unit _ _ (k0_off2_inb i) rfl (k0_off2_inb i)).trans (by rw [harg18.read_unread])).trans (if_neg hc1).symm)) (by (first
        | exact (readCov_zero _ i _ _ _ (off3_in i)).trans (if_pos hc1).symm
        | exact ((View.readAt_unit _ _ (k0_off3_inb i) rfl (k0_off3_inb i)).trans (by rw [harg18.read_unread])).trans (if_neg hc1).symm))
        (readAt_whole_unread harg6 _ _) (readAt_whole_unread harg7 _ _) (by (first
        | exact ((View.readCov_full _ _ _ _ _).trans (readAt_whole_unread harg2 _ _)).trans (if_pos hc0).symm
        | exact (readAt_whole_unread harg14 _ _).trans (if_neg hc0).symm)) (readAt_whole_unread harg8 _ _)))
            (readAt_whole_unread harg9 _ _) (readAt_whole_unread harg10 _ _) (readAt_whole_unread harg11 _ _)
            (readAt_whole_unread harg12 _ _) (readAt_whole_unread harg13 _ _)).trans (if_pos hc2).symm
    isplitl [H13]
    · iexists _; isplitr
      swap; · iexact H13
      ipureintro
      exact (View.read_writes_full _ _ _ _ _).trans (congrArg k0_pay15 (congrArg₂ k0_pay7 (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg4 _ _)))
    isplitl [H14]
    · iexists _; isplitr
      swap; · iexact H14
      ipureintro
      exact (View.read_writes_full _ _ _ _ _).trans (congrArg k0_pay16 (congrArg₂ k0_pay8 (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg5 _ _)))
    isplitl [HS0]
    · iexists _; isplitr
      swap; · iexact HS0
      ipureintro
      first
        | exact (harg17.read_unread _).trans (if_neg hc0).symm
        | exact ((View.read_writes_full _ _ _ _ _).trans (congrArg₂ k0_pay6 (readAt_whole_unread harg2 _ _) (readAt_whole_unread harg3 _ _))).trans (if_pos hc0).symm
    iexists _; isplitr
    swap; · iexact HS1
    ipureintro
    first
    | exact carry_first hc1 arg18 _ _ _ _ (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg4 _ _) (readAt_whole_unread harg5 _ _) (harg18.read_unread _)
    | exact carry_later hc1 arg18 _ _ _ (by (first
        | exact ((View.readCov_full _ _ _ _ _).trans (congrArg₂ k0_pay6 (readAt_whole_unread harg2 _ _) (readAt_whole_unread harg3 _ _))).trans (if_pos hc0).symm
        | exact (readAt_whole_unread harg17 _ _).trans (if_neg hc0).symm)) (readAt_whole_unread harg4 _ _) (readAt_whole_unread harg5 _ _) (harg18.read_unread _)

end Cert.Kernel3Ideal.Ffn

end
-- ==== Proof.FfnLastIdeal.Carry.lean ====
/- What each point of the last layer's feed-forward kernel's region leaves, and the rows carried between the points. -/
module

public import proofs.«01_k».proof.Proof.FfnLastIdeal.Vals
public import Idealize.ShloMosaic.Lib.Claim
public import Idealize.ShloMosaic.Lib.VecWindow

@[expose] public section

-- membership in a rectangle of production extents (`View.cover_of_tiled`): the elaborator's structural look
-- recurses once per coordinate of the long axes
set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The first point of a point's row tile. -/
def row (t : Fin cfg0.N) : Fin cfg0.N := ⟨t.val / 11 * 11, lt_of_le_of_lt (Nat.div_mul_le_self _ _) t.isLt⟩

/-- The normalised rows at a point. -/
def hnAt (c : Dev nD) (t : Fin cfg0.N) : Vec F S1024x1024 .bf16 := k0_pay6 (iblk m c 0 (row t)) (iblk m c 1 (row t))

/-- The last eight rows of the two up products at a point. -/
def tailA (c : Dev nD) (t : Fin cfg0.N) : Vec F S1x1x8x256 .f32 := k0_pay13 (k0_pay12 (hnAt m c t) (iblk m c 2 t))
def tailG (c : Dev nD) (t : Fin cfg0.N) : Vec F S1x1x8x256 .f32 := k0_pay14 (k0_pay8 (hnAt m c t) (iblk m c 3 t))

/-- The same column tile's point of the row tile before. -/
def back (t : Fin cfg0.N) : Fin cfg0.N := ⟨t.val - 11, lt_of_le_of_lt (Nat.sub_le _ _) t.isLt⟩

/-- The eight rows before a point's tile: zeros at the start of a sequence. -/
def prevA (c : Dev nD) (t : Fin cfg0.N) : Vec F S1x1x8x256 .f32 := if t.val / 11 % 2 = 0 then zeroRows else tailA m c (back t)
def prevG (c : Dev nD) (t : Fin cfg0.N) : Vec F S1x1x8x256 .f32 := if t.val / 11 % 2 = 0 then zeroRows else tailG m c (back t)

/-- A point's share added to the tile `o`. -/
def oStep (c : Dev nD) (t : Fin cfg0.N) (o : Vec F S1024x1024 .f32) : Vec F S1024x1024 .f32 :=
  step (hnAt m c t) (iblk m c 2 t) (iblk m c 3 t) (prevA m c t) (prevG m c t) (iblk m c 4 t) (iblk m c 5 t) o (iblk m c 6 t)

/-- The output tile with the shares of the column tiles up to point `n`. -/
def oRaw (c : Dev nD) : (n : ℕ) → n < cfg0.N → Vec F S1024x1024 .f32
  | 0, h => oStep m c ⟨0, h⟩ (iblk m c 0 ⟨0, h⟩)
  | n + 1, h => oStep m c ⟨n + 1, h⟩ (if (n + 1) % 11 = 0 then iblk m c 0 ⟨n + 1, h⟩ else oRaw c n (Nat.lt_of_succ_lt h))

/-- The output tile after a point: finished at the last column tile. -/
def oAt (c : Dev nD) (t : Fin cfg0.N) : Vec F S1024x1024 .f32 :=
  if t.val % 11 = 10 then last (oRaw m c t.val t.isLt) (iblk m c 7 t) (iblk m c 8 t) (iblk m c 9 t) (iblk m c 10 t) (iblk m c 11 t) else oRaw m c t.val t.isLt

/-! ## The carried rows -/

/-- Before point `n`: the normalised rows are the row tile's, and every slot written in the eleven points before holds
    the tails of its point. -/
def Inv (c : Dev nD) (n : ℕ) (xs0 : Vec F S1024x1024 .bf16) (xs1 : Vec F S11x2x8x256 .f32) : Prop :=
  (∀ t : Fin cfg0.N, t.val + 1 = n → n % 11 ≠ 0 → xs0 = hnAt m c t) ∧
  ∀ t : Fin cfg0.N, t.val < n → n ≤ t.val + 11 →
    VecWindow.window xs1 (k0_off2 (grid0.coords t)) S1x1x8x256.size (k0_off2_inb (grid0.coords t)) = tailA m c t ∧
    VecWindow.window xs1 (k0_off3 (grid0.coords t)) S1x1x8x256.size (k0_off3_inb (grid0.coords t)) = tailG m c t

/-- The column tile of a point. -/
theorem coords_col (t : Fin cfg0.N) : (grid0.coords t 1).val = t.val % 11 := by
  have e1 : (grid0.coords t 1).val = t.val / 1 % 11 := Pipeline.Grid.coords_val t 1 (by decide) rfl
  rw [e1, Nat.div_one]

/-- The column tile as a slot's index. -/
theorem slot_val (i : grid0.Coords) : (Scalar.indexCast (BitVec.ofNat 32 (i 1).val) : Index).toNat = (i 1).val := by
  have h : (i 1).val < 11 := (i 1).isLt
  exact (BitVec.toNat_ofNat _ _).trans (Nat.mod_eq_of_lt (by omega))

theorem off1_eq (i : grid0.Coords) : k0_off1 i = ![(i 1).val, 0, 0, 0] := by rw [← slot_val i]; rfl
theorem off2_eq (i : grid0.Coords) : k0_off2 i = ![(i 1).val, 0, 0, 0] := by rw [← slot_val i]; rfl
theorem off3_eq (i : grid0.Coords) : k0_off3 i = ![(i 1).val, 1, 0, 0] := by rw [← slot_val i]; rfl

/-- Windows at equal offsets. -/
theorem window_congr (x : Vec F S11x2x8x256 .f32) {o o' : Fin 4 → ℕ} (h : o = o')
    (b : ∀ k, o k + S1x1x8x256.size k ≤ S11x2x8x256.size k) (b' : ∀ k, o' k + S1x1x8x256.size k ≤ S11x2x8x256.size k) :
    VecWindow.window x o S1x1x8x256.size b = VecWindow.window x o' S1x1x8x256.size b' := by
  subst h; rfl

/-- A slot of another column tile is kept. -/
theorem carry_other (i : grid0.Coords) (h : Vec F S1024x1024 .bf16) (x2 x3 : Vec F S1024x256 .bf16)
    (xs1 : Vec F S11x2x8x256 .f32) (o : Fin 4 → ℕ) (b : ∀ k, o k + S1x1x8x256.size k ≤ S11x2x8x256.size k) (ne : o 0 ≠ (i 1).val) :
    VecWindow.window (carryAfter i h x2 x3 xs1) o S1x1x8x256.size b = VecWindow.window xs1 o S1x1x8x256.size b := by
  have e1 : k0_off1 i 0 = (i 1).val := by rw [off1_eq]; rfl
  have e2 : k0_off2 i 0 = (i 1).val := by rw [off2_eq]; rfl
  have e3 : k0_off3 i 0 = (i 1).val := by rw [off3_eq]; rfl
  unfold carryAfter
  rw [VecWindow.window_put_of_disjoint _ _ _ _ _ _ _ 0 (by rw [e3]; show o 0 + 1 ≤ _ ∨ _ + 1 ≤ _; omega),
    VecWindow.window_put_of_disjoint _ _ _ _ _ _ _ 0 (by rw [e2]; show o 0 + 1 ≤ _ ∨ _ + 1 ≤ _; omega)]
  by_cases hc : cond0_1 i
  · rw [if_pos hc, VecWindow.window_put_of_disjoint _ _ _ _ _ _ _ 0 (by rw [e1]; show o 0 + 1 ≤ _ ∨ _ + 1 ≤ _; omega)]
  · rw [if_neg hc]

/-- The normalised rows after the body. -/
theorem hn_eq (c : Dev nD) (t : Fin cfg0.N) {xs0 xs1} (hi : Inv m c t.val xs0 xs1) :
    hnAfter (grid0.coords t) (iblk m c 0 t) (iblk m c 1 t) xs0 = hnAt m c t := by
  by_cases h0 : t.val % 11 = 0
  · have e : row t = t := Fin.ext (by show t.val / 11 * 11 = t.val; omega)
    exact (if_pos ((hcond0_0 t).mpr h0)).trans (by unfold hnAt; rw [e])
  · have e : row ⟨t.val - 1, lt_of_le_of_lt (Nat.sub_le _ _) t.isLt⟩ = row t :=
      Fin.ext (by show (t.val - 1) / 11 * 11 = t.val / 11 * 11; omega)
    exact (if_neg (fun h => h0 ((hcond0_0 t).mp h))).trans ((hi.1 ⟨t.val - 1, lt_of_le_of_lt (Nat.sub_le _ _) t.isLt⟩
      (by show t.val - 1 + 1 = t.val; omega) h0).trans (by unfold hnAt; rw [e]))

/-- The column tile of the point before in the column. -/
theorem back_col (t : Fin cfg0.N) (h : ¬ t.val / 11 % 2 = 0) : (grid0.coords t 1).val = (grid0.coords (back t) 1).val := by
  rw [coords_col, coords_col]; show t.val % 11 = (t.val - 11) % 11; omega

/-- The rows before the tile. -/
theorem prevA_eq (c : Dev nD) (t : Fin cfg0.N) {xs0 xs1} (hi : Inv m c t.val xs0 xs1) :
    prev (grid0.coords t) (k0_off2 (grid0.coords t)) (k0_off2_inb (grid0.coords t)) xs1 = prevA m c t := by
  unfold prev prevA
  by_cases h1 : t.val / 11 % 2 = 0
  · rw [if_pos h1, if_pos ((hcond0_1 t).mpr h1)]
  · rw [if_neg h1, if_neg (fun h => h1 ((hcond0_1 t).mp h))]
    exact (window_congr xs1 (o := k0_off2 (grid0.coords t)) (o' := k0_off2 (grid0.coords (back t))) (by rw [off2_eq (grid0.coords t), off2_eq (grid0.coords (back t)), back_col t h1]) _ _).trans
      (hi.2 (back t) (by show t.val - 11 < t.val; omega) (by show t.val ≤ t.val - 11 + 11; omega)).1
theorem prevG_eq (c : Dev nD) (t : Fin cfg0.N) {xs0 xs1} (hi : Inv m c t.val xs0 xs1) :
    prev (grid0.coords t) (k0_off3 (grid0.coords t)) (k0_off3_inb (grid0.coords t)) xs1 = prevG m c t := by
  unfold prev prevG
  by_cases h1 : t.val / 11 % 2 = 0
  · rw [if_pos h1, if_pos ((hcond0_1 t).mpr h1)]
  · rw [if_neg h1, if_neg (fun h => h1 ((hcond0_1 t).mp h))]
    exact (window_congr xs1 (o := k0_off3 (grid0.coords t)) (o' := k0_off3 (grid0.coords (back t))) (by rw [off3_eq (grid0.coords t), off3_eq (grid0.coords (back t)), back_col t h1]) _ _).trans
      (hi.2 (back t) (by show t.val - 11 < t.val; omega) (by show t.val ≤ t.val - 11 + 11; omega)).2

/-- The invariant after a point. -/
theorem inv_succ (c : Dev nD) (t : Fin cfg0.N) {xs0 xs1} (hi : Inv m c t.val xs0 xs1) :
    Inv m c (t.val + 1) (hnAt m c t) (carryAfter (grid0.coords t) (hnAt m c t) (iblk m c 2 t) (iblk m c 3 t) xs1) := by
  refine ⟨fun t' h _ => ?_, fun t' h h' => ?_⟩
  · rw [show t' = t from Fin.ext (by omega)]
  · by_cases e : t'.val = t.val
    · obtain rfl : t' = t := Fin.ext e
      refine ⟨?_, VecWindow.window_put_same _ _ _ _ _⟩
      refine (VecWindow.window_put_of_disjoint _ _ _ _ _ _ _ 1 ?_).trans (VecWindow.window_put_same _ _ _ _ _)
      rw [off2_eq, off3_eq]; exact .inl (Nat.le_refl 1)
    · have hc : (grid0.coords t' 1).val ≠ (grid0.coords t 1).val := by rw [coords_col, coords_col]; omega
      have hk := hi.2 t' (by omega) (by omega)
      exact ⟨(carry_other _ _ _ _ _ _ _ (by rw [off2_eq]; exact hc)).trans hk.1,
        (carry_other _ _ _ _ _ _ _ (by rw [off3_eq]; exact hc)).trans hk.2⟩

/-- `oRaw` at a point, from the tile the point finds. -/
theorem oRaw_eq (c : Dev nD) (t : Fin cfg0.N) (xo : Vec F S1024x1024 .f32)
    (hx : ∀ h : t.val % 11 ≠ 0, xo = oAt m c ⟨t.val - 1, lt_of_le_of_lt (Nat.sub_le _ _) t.isLt⟩) :
    oStep m c t (if cond0_0 (grid0.coords t) then iblk m c 0 t else xo) = oRaw m c t.val t.isLt := by
  obtain ⟨n, hn⟩ := t
  by_cases h0 : n % 11 = 0
  · rw [if_pos ((hcond0_0 ⟨n, hn⟩).mpr h0)]
    cases n with
    | zero => rfl
    | succ n => show _ = oStep m c _ (if (n + 1) % 11 = 0 then _ else _); rw [if_pos h0]
  · rw [if_neg (fun h => h0 ((hcond0_0 ⟨n, hn⟩).mp h)), hx h0]
    cases n with
    | zero => exact absurd rfl h0
    | succ n =>
      show _ = oStep m c _ (if (n + 1) % 11 = 0 then _ else _)
      rw [if_neg h0]
      exact congrArg _ (if_neg (by show ¬ n % 11 = 10; omega))

/-- The output tile after the body. -/
theorem o_eq (c : Dev nD) (t : Fin cfg0.N) {xs0 xs1} (hi : Inv m c t.val xs0 xs1) (xo : Vec F S1024x1024 .f32)
    (hx : ∀ h : t.val % 11 ≠ 0, xo = oAt m c ⟨t.val - 1, lt_of_le_of_lt (Nat.sub_le _ _) t.isLt⟩) :
    oAfter (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xo xs0 xs1 = oAt m c t := by
  unfold oAfter oAt
  rw [hn_eq m c t hi, prevA_eq m c t hi, prevG_eq m c t hi, ← oRaw_eq m c t xo hx]
  by_cases h2 : t.val % 11 = 10
  · rw [if_pos h2, if_pos ((hcond0_2 t).mpr h2)]; rfl
  · rw [if_neg h2, if_neg (fun h => h2 ((hcond0_2 t).mp h))]; rfl

end Cert.Kernel3Ideal.Ffn

end
-- ==== Proof.FfnLastIdeal.Frame.lean ====
/- The region of the last layer's feed-forward kernel: its proof data, the run and the frame. -/
module

public import proofs.«01_k».proof.Proof.FfnLastIdeal.Body
public import proofs.«01_k».proof.Proof.FfnLastIdeal.Carry
public import Idealize.ShloMosaic.Lib.Claim
public import Idealize.ShloMosaic.Lib.VecWindow

@[expose] public section

-- membership in a rectangle of production extents (`View.cover_of_tiled`): the elaborator's structural look
-- recurses once per coordinate of the long axes
set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- The invariant before point `n`: the two scratch buffers at some contents related by `Inv`. -/
def PhiS (c : Dev nD) (n : ℕ) : sProp 𝕄 :=
  iprop(∃ xs0 xs1, (owns (c : Thread nD τ) scM0_0 fullShare xs0 ∗ owns (c : Thread nD τ) scM0_1 fullShare xs1)
    ∗ ⌜Inv m c n xs0 xs1⌝ ∗ (∃ r, prngReg c r))

/-- The arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oAt m c t
    | ⟨13, _⟩ => k0_pay15 (k0_pay7 (hnAt m c t) (iblk m c 2 t))
    | ⟨14, _⟩ => k0_pay16 (k0_pay8 (hnAt m c t) (iblk m c 3 t))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's buffer holds its block when the body runs. -/
theorem before0_0 (c : Dev nD) (t : Fin cfg0.N) (d) : (dats m 0 c).before 0 t d = iblk m c 0 t :=
  (Dat.before_in_eq_fetched (dats m 0 c) 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  (Dat.before_in_eq_fetched (dats m 0 c) 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  (Dat.before_in_eq_fetched (dats m 0 c) 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  (Dat.before_in_eq_fetched (dats m 0 c) 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  (Dat.before_in_eq_fetched (dats m 0 c) 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  (Dat.before_in_eq_fetched (dats m 0 c) 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  (Dat.before_in_eq_fetched (dats m 0 c) 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  (Dat.before_in_eq_fetched (dats m 0 c) 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  (Dat.before_in_eq_fetched (dats m 0 c) 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  (Dat.before_in_eq_fetched (dats m 0 c) 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  (Dat.before_in_eq_fetched (dats m 0 c) 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  (Dat.before_in_eq_fetched (dats m 0 c) 11 rfl (fun _ => rfl) (fun _ _ _ => rfl) (fun t => by rw [after0_11]; unfold Dat.blockOf iblk; rw [A_eq]; try rfl) t d).trans
    (by unfold Dat.fetched Dat.blockOf iblk; rw [A_eq]; try rfl)

/-- The output tile's buffer within a row tile holds what the point before left. -/
theorem before0_12 (c : Dev nD) (t : Fin cfg0.N) (d) (h0 : t.val % 11 ≠ 0) :
    (dats m 0 c).before 12 t d = oAt m c ⟨t.val - 1, lt_of_le_of_lt (Nat.sub_le _ _) t.isLt⟩ := by
  have hN : t.val < 352 := lt_of_lt_of_eq t.isLt (show cfg0.N = 352 from N_0)
  rw [Dat.before_out_kept _ 12 rfl t (by omega) (Bool.eq_false_iff.mpr fun h => by have := (flush0_12 _).mp h; dsimp only at this; omega)
    (fun _ => rfl) (fun _ _ => rfl)]
  dsimp only [dats]

set_option maxHeartbeats 4000000 in
/-- The body at a point: from the buffers at their blocks to the buffers at what the point leaves. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t))) := by
  unfold bodyAt0
  simp only [before0_0, before0_1, before0_2, before0_3, before0_4, before0_5, before0_6, before0_7, before0_8, before0_9, before0_10, before0_11]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨%xs0, %xs1, ⟨HS0, HS1⟩, %hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hb := body_run c (grid0.coords t)
    (fun h => by have h0 := (hcond0_0 t).mp h.1; have h2 := (hcond0_2 t).mp h.2; omega)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) xs0 xs1 Set.univ
  rw [hn_eq m c t hi, o_eq m c t hi _ (before0_12 m c t d12)] at hb
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · iexists _; iexists _
    isplitl [HS0 HS1]
    · isplitl [HS0]; · iexact HS0
      iexact HS1
    isplitr
    · ipureintro; exact inv_succ m c t hi
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, H0⟩, ⟨%d1, H1⟩⟩, Hg⟩
  iexists d0; iexists d1
  isplitl [H0 H1]
  · isplitl [H0]; · iexact H0
    iexact H1
  isplitr
  · ipureintro; exact ⟨fun _ h _ => absurd h (Nat.succ_ne_zero _), fun _ h _ => absurd h (Nat.not_lt_zero _)⟩
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs0, %xs1, ⟨HS0, HS1⟩, -, Hg⟩
  isplitl [HS0 HS1]
  · isplitl [HS0]
    · iexists _; iexact HS0
    iexists _; iexact HS1
  iexact Hg

/-! ## The run and the frame -/

set_option backward.isDefEq.respectTransparency.types false in
/-- The run of the region, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the region. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Ffn

end
-- ==== Proof.FfnLast.Frame.lean ====
/- The last layer's feed-forward kernel's frame, from its idealization's: no operation was rewritten, so the two programs are the same, and the
   frame of the one, which holds of any floats, is the frame of the other. -/
module

public import proofs.«01_k».proof.Proof.Gen.Kernel3.Launch
public import proofs.«01_k».proof.Proof.FfnLastIdeal.Frame

@[expose] public section

set_option maxRecDepth 16384

noncomputable section

namespace Cert.Kernel3.Ffn

open Cert.Kernel3.Gen Cert.Kernel3Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The bodies are the same. -/
theorem body_eq : @Cert.Kernel3.cc0_ffn F _ _ = @Cert.Kernel3Ideal.cc0_ffn F _ _ := rfl

set_option maxHeartbeats 1600000 in
/-- The tables of bodies are the same. -/
theorem bodies_eq : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) =>
    dsimp only
    rw [body_eq]
    congr 1

/-- The tables of bodies and regions are the same. -/
theorem defs_eq : Cert.Kernel3.defs (F := F) = Cert.Kernel3Ideal.defs (F := F) := by
  unfold Cert.Kernel3.defs Cert.Kernel3Ideal.defs
  exact congrArg (Pipeline.defs Cert.Kernel3.pcfgs) bodies_eq

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  rw [defs_eq]
  exact Cert.Kernel3Ideal.Ffn.frame m ρ

end Cert.Kernel3.Ffn

end
-- ==== Proof.FfnLastIdeal.Blocks.lean ====
/- The blocks a point of the last layer's kernel reads, as entries of the arguments. -/
module

public import proofs.«01_k».proof.Proof.FfnLastIdeal.Carry
public import Idealize.ShloMosaic.Lib.Pipeline.ValueKit
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem idxA : ∀ t : Fin cfg0.N, win0_0.index t = ![t.val / 11, 0] ∧ win0_1.index t = ![0, 0]
    ∧ win0_2.index t = ![0, t.val % 11] ∧ win0_3.index t = ![0, t.val % 11 + 11] ∧ win0_4.index t = ![0, t.val % 11]
    ∧ win0_5.index t = ![0, t.val % 11 + 11] :=
  (by decide +kernel : ∀ t : Fin grid0.N, _)

theorem idxB : ∀ t : Fin cfg0.N, win0_6.index t = ![t.val % 11, 0] ∧ win0_7.index t = ![0, 0]
    ∧ win0_8.index t = ![0, 0] ∧ win0_9.index t = ![t.val / 11, 0] ∧ win0_10.index t = ![0, 0] ∧ win0_11.index t = ![0, 0] ∧ win0_12.index t = ![t.val / 11, 0] :=
  (by decide +kernel : ∀ t : Fin grid0.N, _)

theorem lt352 (t : Fin cfg0.N) : t.val < 352 := lt_of_lt_of_eq t.isLt N_0

/-- The row of the arguments at row `x` of a point's tile; the columns of the two halves at column `k` of its column tile. -/
def rowOf (t : Fin cfg0.N) (x : Fin 1024) : Fin 32768 := ⟨1024 * (t.val / 11) + x.val, by have := lt352 t; omega⟩
def colOf (t : Fin cfg0.N) (k : Fin 256) : Fin 2816 := ⟨256 * (t.val % 11) + k.val, by omega⟩
def colA (f : Fin 2816) : Fin 5632 := ⟨f.val, by omega⟩
def colG (f : Fin 2816) : Fin 5632 := ⟨2816 + f.val, by omega⟩

variable (t : Fin cfg0.N)

theorem blk0 (x d : Fin 1024) : iblk m c 0 t (ix2 x d) = m ((c.tc : Thread nD τ).loc main_arg0) (ix2 (rowOf t x) d) := by
  obtain ⟨h0, -⟩ := idxA t
  unfold iblk
  entry_read
  exact congrArg (m _) (show (win0_0.blk t).view.emb (ix2 x d) = ix2 (rowOf t x) d from by unfold rowOf; blk_ext [h0])

theorem blk1 (k : Fin 1024) : iblk m c 1 t (ix2 0 k) = m ((c.tc : Thread nD τ).loc main_arg1) (ix1 k) := by
  obtain ⟨-, h0, -⟩ := idxA t
  unfold iblk
  entry_read
  change shapeCast main_v0.ty.shape _ _ ((win0_1.blk t).view.emb (ix2 0 k)) = _
  rw [show (win0_1.blk t).view.emb (ix2 0 k) = ix2 0 k from by blk_ext [h0]]
  pointwise

theorem blk2 (k : Fin 1024) (x : Fin 256) :
    iblk m c 2 t (ix2 k x) = m ((c.tc : Thread nD τ).loc main_arg2) (ix2 k (colA (colOf t x))) := by
  obtain ⟨-, -, h0, -⟩ := idxA t
  unfold iblk
  entry_read
  exact congrArg (m _) (show (win0_2.blk t).view.emb (ix2 k x) = ix2 k (colA (colOf t x)) from by unfold colA colOf; blk_ext [h0])

theorem blk3 (k : Fin 1024) (x : Fin 256) :
    iblk m c 3 t (ix2 k x) = m ((c.tc : Thread nD τ).loc main_arg2) (ix2 k (colG (colOf t x))) := by
  obtain ⟨-, -, -, h0, -⟩ := idxA t
  unfold iblk
  entry_read
  exact congrArg (m _) (show (win0_3.blk t).view.emb (ix2 k x) = ix2 k (colG (colOf t x)) from by unfold colG colOf; blk_ext [h0])

theorem blk4 (k : Fin 4) (x : Fin 256) :
    iblk m c 4 t (ix2 k x) = m ((c.tc : Thread nD τ).loc main_arg3) (ix2 k (colA (colOf t x))) := by
  obtain ⟨-, -, -, -, h0, -⟩ := idxA t
  unfold iblk
  entry_read
  exact congrArg (m _) (show (win0_4.blk t).view.emb (ix2 k x) = ix2 k (colA (colOf t x)) from by unfold colA colOf; blk_ext [h0])

theorem blk5 (k : Fin 4) (x : Fin 256) :
    iblk m c 5 t (ix2 k x) = m ((c.tc : Thread nD τ).loc main_arg3) (ix2 k (colG (colOf t x))) := by
  obtain ⟨-, -, -, -, -, h0⟩ := idxA t
  unfold iblk
  entry_read
  exact congrArg (m _) (show (win0_5.blk t).view.emb (ix2 k x) = ix2 k (colG (colOf t x)) from by unfold colG colOf; blk_ext [h0])

theorem blk6 (x : Fin 256) (d : Fin 1024) :
    iblk m c 6 t (ix2 x d) = m ((c.tc : Thread nD τ).loc main_arg4) (ix2 (colOf t x) d) := by
  obtain ⟨h0, -⟩ := idxB t
  unfold iblk
  entry_read
  exact congrArg (m _) (show (win0_6.blk t).view.emb (ix2 x d) = ix2 (colOf t x) d from by unfold colOf; blk_ext [h0])

theorem blk7 (k : Fin 1024) : iblk m c 7 t (ix2 0 k) = m ((c.tc : Thread nD τ).loc main_arg5) (ix1 k) := by
  obtain ⟨-, h0, -⟩ := idxB t
  unfold iblk
  entry_read
  change shapeCast main_v1.ty.shape _ _ ((win0_7.blk t).view.emb (ix2 0 k)) = _
  rw [show (win0_7.blk t).view.emb (ix2 0 k) = ix2 0 k from by blk_ext [h0]]
  pointwise

theorem blk8 (k d : Fin 1024) : iblk m c 8 t (ix2 k d) = m ((c.tc : Thread nD τ).loc main_arg6) (ix2 k d) := by
  obtain ⟨-, -, h0, -⟩ := idxB t
  unfold iblk
  entry_read
  exact congrArg (m _) (show (win0_8.blk t).view.emb (ix2 k d) = ix2 k d from by blk_ext [h0])

theorem blk9 (x : Fin 1024) (k : Fin 256) :
    iblk m c 9 t (ix2 x k) = m ((c.tc : Thread nD τ).loc main_arg7) (ix2 (rowOf t x) k) := by
  obtain ⟨-, -, -, h0, -⟩ := idxB t
  unfold iblk
  entry_read
  exact congrArg (m _) (show (win0_9.blk t).view.emb (ix2 x k) = ix2 (rowOf t x) k from by unfold rowOf; blk_ext [h0])

theorem blk10 (k : Fin 256) (d : Fin 1024) : iblk m c 10 t (ix2 k d) = m ((c.tc : Thread nD τ).loc main_arg8) (ix2 k d) := by
  obtain ⟨-, -, -, -, h0, -⟩ := idxB t
  unfold iblk
  entry_read
  exact congrArg (m _) (show (win0_10.blk t).view.emb (ix2 k d) = ix2 k d from by blk_ext [h0])

theorem blk11 (k : Fin 1024) : iblk m c 11 t (ix2 0 k) = m ((c.tc : Thread nD τ).loc main_arg9) (ix1 k) := by
  obtain ⟨-, -, -, -, -, h0, -⟩ := idxB t
  unfold iblk
  entry_read
  change shapeCast main_v2.ty.shape _ _ ((win0_11.blk t).view.emb (ix2 0 k)) = _
  rw [show (win0_11.blk t).view.emb (ix2 0 k) = ix2 0 k from by blk_ext [h0]]
  pointwise

end Cert.Kernel3Ideal.Ffn

end
-- ==== Proof.FfnLastIdeal.Pay.lean ====
/- The arithmetic of a point of the last layer's kernel, entry by entry. What it shares with the other layers' kernel is
   that kernel's, and only the last normalisation is new. -/
module

public import proofs.«01_k».proof.Proof.FfnIdeal.Pay
public import proofs.«01_k».proof.Proof.FfnLastIdeal.Vals

@[expose] public section

set_option maxRecDepth 16384

noncomputable section

namespace Cert.Kernel3Ideal.Ffn

open Cert.Kernel3Ideal.Gen
open Idealize.ShloMosaic Idealize.ShloMosaic.TcCoe Cert.FfnSpec

theorem pay6_apply (h : Vec Ideal S1024x1024 .f32) (g : Vec Ideal S1x1024 .f32) (r k : Fin 1024) :
    k0_pay6 (F := Ideal) h g (ix2 r k) = rmsNorm (fun a => h (ix2 r a)) (fun a => g (ix2 0 a)) k :=
  Cert.Kernel2Ideal.Ffn.pay2_apply h g r k

theorem pay7_apply (h : Vec Ideal S1024x1024 .bf16) (w : Vec Ideal S1024x256 .bf16) (r : Fin 1024) (c : Fin 256) :
    k0_pay7 (F := Ideal) h w (ix2 r c) = ∑ k : Fin 1024, (h (ix2 r k) : EReal) * w (ix2 k c) :=
  Cert.Kernel2Ideal.Ffn.pay3_apply h w r c

theorem pay8_apply (h : Vec Ideal S1024x1024 .bf16) (w : Vec Ideal S1024x256 .bf16) (r : Fin 1024) (c : Fin 256) :
    k0_pay8 (F := Ideal) h w (ix2 r c) = ∑ k : Fin 1024, (h (ix2 r k) : EReal) * w (ix2 k c) :=
  Cert.Kernel2Ideal.Ffn.pay4_apply h w r c

theorem pay10_apply (p : Vec Ideal S1x1x8x256 .f32) (a : Fin 8) (c : Fin 256) :
    k0_pay10 (F := Ideal) p (ix2 a c) = p (ix4 0 0 a c) := Cert.Kernel2Ideal.Ffn.pay6_apply p a c

theorem pay11_apply (p : Vec Ideal S1x1x8x256 .f32) (a : Fin 8) (c : Fin 256) :
    k0_pay11 (F := Ideal) p (ix2 a c) = p (ix4 0 0 a c) := Cert.Kernel2Ideal.Ffn.pay7_apply p a c

theorem tailA_apply (h : Vec Ideal S1024x1024 .bf16) (w : Vec Ideal S1024x256 .bf16) (a : Fin 8) (c : Fin 256) :
    k0_pay13 (F := Ideal) (k0_pay12 (F := Ideal) h w) (ix4 0 0 a c) = k0_pay7 (F := Ideal) h w (ix2 ⟨1016 + a.val, by omega⟩ c) :=
  Cert.Kernel2Ideal.Ffn.tailA_apply h w a c

theorem tailG_apply (v : Vec Ideal S1024x256 .f32) (a : Fin 8) (c : Fin 256) :
    k0_pay14 (F := Ideal) v (ix4 0 0 a c) = v (ix2 ⟨1016 + a.val, by omega⟩ c) := Cert.Kernel2Ideal.Ffn.tailG_apply v a c

theorem pay94_apply (a : Vec Ideal S1024x256 .bf16) (o : Vec Ideal S1024x1024 .f32) (w : Vec Ideal S256x1024 .bf16) (r d : Fin 1024) :
    k0_pay94 (F := Ideal) a o w (ix2 r d) = (o (ix2 r d) : EReal) + ∑ k : Fin 256, (a (ix2 r k) : EReal) * w (ix2 k d) :=
  Cert.Kernel2Ideal.Ffn.pay90_apply a o w r d

/-- The activation is the other layers'. -/
theorem act_eq (v5 v7 : FVec Ideal S1024x256 .f32) (v23 v26 : FVec Ideal S8x256 .f32) (v49 v50 : Vec Ideal S4x256 .f32) :
    act v5 v7 v23 v26 v49 v50 = Cert.Kernel2Ideal.Ffn.act v5 v7 v23 v26 v49 v50 := rfl

theorem act_apply (v5 v7 : FVec Ideal S1024x256 .f32) (v23 v26 : FVec Ideal S8x256 .f32) (v49 v50 : Vec Ideal S4x256 .f32) (r : Fin 1024) (c : Fin 256) :
    act v5 v7 v23 v26 v49 v50 (ix2 r c)
      = gate2 (tapsAt (fun a => v49 (ix2 a c)) (fun b => v23 (ix2 b c)) (fun b => v5 (ix2 b c)) r.val)
          (tapsAt (fun a => v50 (ix2 a c)) (fun b => v26 (ix2 b c)) (fun b => v7 (ix2 b c)) r.val) :=
  (congrFun (act_eq v5 v7 v23 v26 v49 v50) _).trans (Cert.Kernel2Ideal.Ffn.act_apply v5 v7 v23 v26 v49 v50 r c)

/-- The gated tile. -/
theorem pay2_apply (o : Vec Ideal S1024x1024 .f32) (g : Vec Ideal S1x1024 .f32) (w : Vec Ideal S1024x1024 .bf16)
    (p : Vec Ideal S1024x256 .f32) (v : Vec Ideal S256x1024 .bf16) (r d : Fin 1024) :
    k0_pay2 (F := Ideal) o g w p v (ix2 r d) = gatedAdd (fun a => o (ix2 r a)) (fun a => g (ix2 0 a)) (fun k d => w (ix2 k d))
      (fun k => p (ix2 r k)) (fun k d => v (ix2 k d)) d := Cert.Kernel2Ideal.Ffn.pay1_apply o g w p v r d

/-- The finished tile. -/
theorem last_apply (o : Vec Ideal S1024x1024 .f32) (g : Vec Ideal S1x1024 .f32) (w : Vec Ideal S1024x1024 .bf16)
    (p : Vec Ideal S1024x256 .f32) (v : Vec Ideal S256x1024 .bf16) (n : Vec Ideal S1x1024 .f32) (r d : Fin 1024) :
    last (F := Ideal) o g w p v n (ix2 r d) = rmsNorm (gatedAdd (fun a => o (ix2 r a)) (fun a => g (ix2 0 a)) (fun k d => w (ix2 k d))
      (fun k => p (ix2 r k)) (fun k d => v (ix2 k d))) (fun a => n (ix2 0 a)) d := by
  have hy : (fun a : Fin 1024 => k0_pay2 (F := Ideal) o g w p v (ix2 r a)) = _ := funext fun a => pay2_apply o g w p v r a
  rw [← hy]
  unfold last k0_pay4
  generalize k0_pay2 (F := Ideal) o g w p v = y
  unfold rmsNorm
  pointwise [k0_pay1, k0_pay3, k0_pay5]

end Cert.Kernel3Ideal.Ffn

end
-- ==== Proof.FfnLastIdeal.Value.lean ====
/- What the points of the last layer's feed-forward kernel compute, as entries of the arguments. -/
module

public import proofs.«01_k».proof.Proof.FfnLastIdeal.Blocks
public import proofs.«01_k».proof.Proof.FfnLastIdeal.Pay

@[expose] public section

set_option maxRecDepth 16384

noncomputable section

namespace Cert.Kernel3Ideal.Ffn

open Cert.Kernel3Ideal Cert.Kernel3Ideal.Gen Cert.FfnSpec
open Idealize.ShloMosaic Idealize.ShloMosaic.TcCoe Idealize.SL.Sem

variable (m : (ℓ : Loc nD τ sig) → Buf (Elt Ideal) ℓ) (c : Dev nD)

/-- The ten arguments. -/
abbrev a0 : (⟨2, ![32768, 1024]⟩ : Shape).Idx → EReal := m ((c.tc : Thread nD τ).loc main_arg0)
abbrev a1 : (⟨1, ![1024]⟩ : Shape).Idx → EReal := m ((c.tc : Thread nD τ).loc main_arg1)
abbrev a2 : (⟨2, ![1024, 5632]⟩ : Shape).Idx → EReal := m ((c.tc : Thread nD τ).loc main_arg2)
abbrev a3 : (⟨2, ![4, 5632]⟩ : Shape).Idx → EReal := m ((c.tc : Thread nD τ).loc main_arg3)
abbrev a4 : (⟨2, ![2816, 1024]⟩ : Shape).Idx → EReal := m ((c.tc : Thread nD τ).loc main_arg4)
abbrev a5 : (⟨1, ![1024]⟩ : Shape).Idx → EReal := m ((c.tc : Thread nD τ).loc main_arg5)
abbrev a6 : (⟨2, ![1024, 1024]⟩ : Shape).Idx → EReal := m ((c.tc : Thread nD τ).loc main_arg6)
abbrev a7 : (⟨2, ![32768, 256]⟩ : Shape).Idx → EReal := m ((c.tc : Thread nD τ).loc main_arg7)
abbrev a8 : (⟨2, ![256, 1024]⟩ : Shape).Idx → EReal := m ((c.tc : Thread nD τ).loc main_arg8)
abbrev a9 : (⟨1, ![1024]⟩ : Shape).Idx → EReal := m ((c.tc : Thread nD τ).loc main_arg9)

variable (t : Fin cfg0.N)

/-! ### The up products -/

theorem hnAt_apply (x k : Fin 1024) :
    hnAt m c t (ix2 x k) = rmsNorm (fun a => a0 m c (ix2 (rowOf t x) a)) (fun a => a1 m c (ix1 a)) k := by
  have e : rowOf (row t) x = rowOf t x := Fin.ext (by
    change 1024 * (t.val / 11 * 11 / 11) + x.val = 1024 * (t.val / 11) + x.val
    rw [Nat.mul_div_cancel _ (by decide)])
  unfold hnAt
  rw [pay6_apply]
  refine congrArg₂ (fun f g => rmsNorm f g k) (funext fun a => ?_) (funext fun a => ?_)
  · refine (blk0 m c (row t) x a).trans ?_
    rw [e]
  · exact blk1 m c (row t) a

theorem upA (x : Fin 1024) (y : Fin 256) :
    k0_pay7 (F := Ideal) (hnAt m c t) (iblk m c 2 t) (ix2 x y) = up (a0 m c) (a1 m c) (a2 m c) (rowOf t x) (colA (colOf t y)) := by
  rw [pay7_apply]
  exact Finset.sum_congr rfl fun k _ => congrArg₂ (· * ·) (hnAt_apply m c t x k) (blk2 m c t k y)

theorem upG (x : Fin 1024) (y : Fin 256) :
    k0_pay8 (F := Ideal) (hnAt m c t) (iblk m c 3 t) (ix2 x y) = up (a0 m c) (a1 m c) (a2 m c) (rowOf t x) (colG (colOf t y)) := by
  rw [pay8_apply]
  exact Finset.sum_congr rfl fun k _ => congrArg₂ (· * ·) (hnAt_apply m c t x k) (blk3 m c t k y)

/-- The row of the arguments that is row `a` of the eight before a point's tile. -/
def rowBefore (a : Fin 8) : Fin 32768 := ⟨1024 * (t.val / 11 - 1) + (1016 + a.val), by have := lt352 t; omega⟩

theorem rowOf_back (a : Fin 8) : rowOf (back t) ⟨1016 + a.val, by omega⟩ = rowBefore t a :=
  Fin.ext (by change 1024 * ((t.val - 11) / 11) + (1016 + a.val) = 1024 * (t.val / 11 - 1) + (1016 + a.val); omega)

theorem colOf_back (h : ¬ t.val / 11 % 2 = 0) (y : Fin 256) : colOf (back t) y = colOf t y :=
  Fin.ext (by change 256 * ((t.val - 11) % 11) + y.val = 256 * (t.val % 11) + y.val; omega)

theorem prevA_apply (a : Fin 8) (y : Fin 256) : k0_pay10 (F := Ideal) (prevA m c t) (ix2 a y)
    = if t.val / 11 % 2 = 0 then 0 else up (a0 m c) (a1 m c) (a2 m c) (rowBefore t a) (colA (colOf t y)) := by
  rw [pay10_apply]
  unfold prevA
  by_cases h : t.val / 11 % 2 = 0
  · rw [if_pos h, if_pos h]; exact Ideal.ofBits_zero_f32
  · rw [if_neg h, if_neg h]; unfold tailA; rw [tailA_apply, upA, rowOf_back, colOf_back t h]

theorem prevG_apply (a : Fin 8) (y : Fin 256) : k0_pay11 (F := Ideal) (prevG m c t) (ix2 a y)
    = if t.val / 11 % 2 = 0 then 0 else up (a0 m c) (a1 m c) (a2 m c) (rowBefore t a) (colG (colOf t y)) := by
  rw [pay11_apply]
  unfold prevG
  by_cases h : t.val / 11 % 2 = 0
  · rw [if_pos h, if_pos h]; exact Ideal.ofBits_zero_f32
  · rw [if_neg h, if_neg h]; unfold tailG; rw [tailG_apply, upG, rowOf_back, colOf_back t h]

/-! ### The convolution -/

/-- A tile under its eight rows before, read `k` rows up. -/
theorem joined_eq (v : Fin 32768 → EReal) (x : Fin 1024) (k n : ℕ) (hn : n + k = x.val + 8) (hk : k ≤ 8) :
    joined (fun a => if t.val / 11 % 2 = 0 then 0 else v (rowBefore t a)) (fun b : Fin 1024 => v (rowOf t b)) n
      = hist v (rowOf t x) k := by
  have ht := lt352 t
  have er : (rowOf t x).val = 1024 * (t.val / 11) + x.val := rfl
  unfold joined hist
  by_cases h : n < 8
  · rw [dif_pos h]
    by_cases h2 : t.val / 11 % 2 = 0
    · exact (if_pos h2).trans (if_pos (by rw [er]; omega)).symm
    · refine (if_neg h2).trans (Eq.trans ?_ (if_neg (by rw [er]; omega)).symm)
      exact congrArg v (Fin.ext (by change 1024 * (t.val / 11 - 1) + (1016 + n) = 1024 * (t.val / 11) + x.val - k; omega))
  · rw [dif_neg h, dif_pos (by omega), if_neg (by rw [er]; omega)]
    exact congrArg v (Fin.ext (by change 1024 * (t.val / 11) + (n - 8) = 1024 * (t.val / 11) + x.val - k; omega))

theorem tapsAt_eq (w : Fin 4 → EReal) (v : Fin 32768 → EReal) (x : Fin 1024) :
    tapsAt w (fun a => if t.val / 11 % 2 = 0 then 0 else v (rowBefore t a)) (fun b : Fin 1024 => v (rowOf t b)) x.val
      = w 0 * hist v (rowOf t x) 2 + w 1 * hist v (rowOf t x) 1 + w 2 * hist v (rowOf t x) 0 + w 3 := by
  unfold tapsAt
  rw [joined_eq t v x 2 (x.val + 6) (by omega) (by omega), joined_eq t v x 1 (x.val + 7) (by omega) (by omega),
    joined_eq t v x 0 (x.val + 8) (by omega) (by omega)]

/-- The activation of a point. -/
theorem act_eq_spec (x : Fin 1024) (y : Fin 256) :
    act (k0_pay7 (F := Ideal) (hnAt m c t) (iblk m c 2 t)) (k0_pay8 (F := Ideal) (hnAt m c t) (iblk m c 3 t))
        (k0_pay10 (F := Ideal) (prevA m c t)) (k0_pay11 (F := Ideal) (prevG m c t)) (iblk m c 4 t) (iblk m c 5 t) (ix2 x y)
      = actAt (a0 m c) (a1 m c) (a2 m c) (a3 m c) (rowOf t x) (colOf t y) := by
  rw [act_apply]
  unfold actAt
  refine congrArg₂ gate2 ?_ ?_
  · rw [show (fun a => k0_pay10 (F := Ideal) (prevA m c t) (ix2 a y)) = _ from funext fun a => prevA_apply m c t a y,
      show (fun b => k0_pay7 (F := Ideal) (hnAt m c t) (iblk m c 2 t) (ix2 b y)) = _ from funext fun b => upA m c t b y,
      show (fun a => iblk m c 4 t (ix2 a y)) = _ from funext fun a => blk4 m c t a y]
    exact tapsAt_eq t _ (fun r => up (a0 m c) (a1 m c) (a2 m c) r (colA (colOf t y))) x
  · rw [show (fun a => k0_pay11 (F := Ideal) (prevG m c t) (ix2 a y)) = _ from funext fun a => prevG_apply m c t a y,
      show (fun b => k0_pay8 (F := Ideal) (hnAt m c t) (iblk m c 3 t) (ix2 b y)) = _ from funext fun b => upG m c t b y,
      show (fun a => iblk m c 5 t (ix2 a y)) = _ from funext fun a => blk5 m c t a y]
    exact tapsAt_eq t _ (fun r => up (a0 m c) (a1 m c) (a2 m c) r (colG (colOf t y))) x

/-! ### The sum over the column tiles -/

/-- The share of column tile `j` in a row of the down product. -/
def share (r : Fin 32768) (d : Fin 1024) (j : ℕ) : EReal :=
  ∑ k : Fin 256, actAt (a0 m c) (a1 m c) (a2 m c) (a3 m c) r ⟨256 * (j % 11) + k.val, by omega⟩
    * a4 m c (ix2 (⟨256 * (j % 11) + k.val, by omega⟩ : Fin 2816) d)

theorem oStep_apply (o : Vec Ideal S1024x1024 .f32) (x d : Fin 1024) :
    oStep m c t o (ix2 x d) = (o (ix2 x d) : EReal) + share m c (rowOf t x) d t.val := by
  unfold oStep step
  rw [pay94_apply]
  exact congrArg _ (Finset.sum_congr rfl fun k _ => congrArg₂ (· * ·) (act_eq_spec m c t x k) (blk6 m c t k d))

/-- The shares up to a point. -/
theorem oRaw_apply (x d : Fin 1024) : ∀ (n : ℕ) (h : n < cfg0.N), oRaw m c n h (ix2 x d)
    = a0 m c (ix2 (rowOf ⟨n, h⟩ x) d) + ∑ j ∈ Finset.range (n % 11 + 1), share m c (rowOf ⟨n, h⟩ x) d j
  | 0, h => by
    refine (oStep_apply m c ⟨0, h⟩ _ x d).trans ?_
    rw [show iblk m c 0 ⟨0, h⟩ (ix2 x d) = _ from blk0 m c ⟨0, h⟩ x d]
    exact congrArg _ (Finset.sum_range_one _).symm
  | n + 1, h => by
    have hs : share m c (rowOf ⟨n + 1, h⟩ x) d (n + 1) = share m c (rowOf ⟨n + 1, h⟩ x) d ((n + 1) % 11) := by
      unfold share; simp only [Nat.mod_mod]
    refine (oStep_apply m c ⟨n + 1, h⟩ _ x d).trans ?_
    change _ + share m c (rowOf ⟨n + 1, h⟩ x) d (n + 1) = _
    rw [hs]
    by_cases h0 : (n + 1) % 11 = 0
    · rw [if_pos h0, h0, show iblk m c 0 ⟨n + 1, h⟩ (ix2 x d) = _ from blk0 m c ⟨n + 1, h⟩ x d]
      exact congrArg _ (Finset.sum_range_one _).symm
    · have er : rowOf ⟨n, Nat.lt_of_succ_lt h⟩ x = rowOf ⟨n + 1, h⟩ x :=
        Fin.ext (by change 1024 * (n / 11) + x.val = 1024 * ((n + 1) / 11) + x.val; omega)
      rw [if_neg h0, oRaw_apply x d n (Nat.lt_of_succ_lt h), er, show n % 11 + 1 = (n + 1) % 11 by omega,
        Finset.sum_range_succ, add_assoc]

/-- All the shares of a row are the down product. -/
theorem shares (r : Fin 32768) (d : Fin 1024) :
    (∑ j ∈ Finset.range 11, share m c r d j) = ∑ f : Fin 2816, actAt (a0 m c) (a1 m c) (a2 m c) (a3 m c) r f * a4 m c (ix2 f d) := by
  rw [Finset.sum_range, ← Equiv.sum_comp (finProdFinEquiv (m := 11) (n := 256)), Fintype.sum_prod_type]
  refine Finset.sum_congr rfl fun j _ => Finset.sum_congr rfl fun k _ => ?_
  have e : (⟨256 * (j.val % 11) + k.val, by omega⟩ : Fin 2816) = finProdFinEquiv (m := 11) (n := 256) (j, k) :=
    Fin.ext (by change 256 * (j.val % 11) + k.val = k.val + 256 * j.val; omega)
  rw [e]

/-- The tile a row tile's last point leaves. -/
theorem oAt_apply (h : t.val % 11 = 10) (x d : Fin 1024) : oAt m c t (ix2 x d)
    = lastResult (a0 m c) (a1 m c) (a2 m c) (a3 m c) (a4 m c) (a5 m c) (a6 m c) (a7 m c) (a8 m c) (a9 m c) (rowOf t x) d := by
  unfold oAt
  rw [if_pos h, last_apply]
  unfold lastResult result
  rw [show (fun a => oRaw m c t.val t.isLt (ix2 x a)) = res (a0 m c) (a1 m c) (a2 m c) (a3 m c) (a4 m c) (rowOf t x) from
      funext fun a => (oRaw_apply m c x a t.val t.isLt).trans (by rw [h, shares]; rfl),
    show (fun a => iblk m c 7 t (ix2 0 a)) = _ from funext fun a => blk7 m c t a,
    show (fun k d => iblk m c 8 t (ix2 k d)) = _ from funext fun k => funext fun d => blk8 m c t k d,
    show (fun k => iblk m c 9 t (ix2 x k)) = _ from funext fun k => blk9 m c t x k,
    show (fun k d => iblk m c 10 t (ix2 k d)) = _ from funext fun k => funext fun d => blk10 m c t k d,
    show (fun a => iblk m c 11 t (ix2 0 a)) = _ from funext fun a => blk11 m c t a]

end Cert.Kernel3Ideal.Ffn

end
-- ==== Proof.FfnLastIdeal.Result.lean ====
/- The array the last layer's feed-forward kernel leaves. -/
module

public import proofs.«01_k».proof.Proof.FfnLastIdeal.Frame
public import proofs.«01_k».proof.Proof.FfnLastIdeal.Value

@[expose] public section

set_option maxRecDepth 16384

noncomputable section

namespace Cert.Kernel3Ideal.Ffn

open Cert.Kernel3Ideal Cert.Kernel3Ideal.Gen Cert.FfnSpec
open Idealize.ShloMosaic Idealize.ShloMosaic.TcCoe Idealize.SL.Sem

variable (m : (ℓ : Loc nD τ sig) → Buf (Elt Ideal) ℓ) (ρ : Dev nD → PrngReg) (c : Dev nD)

/-- The result, as an array. -/
def out : Buf (Elt Ideal) ((c : Thread nD τ).loc main_v3_0) := fun i : S32768x1024.Idx =>
  lastResult (a0 m c) (a1 m c) (a2 m c) (a3 m c) (a4 m c) (a5 m c) (a6 m c) (a7 m c) (a8 m c) (a9 m c) (i 0) (i 1)

/-- The points that write the output tile back. -/
theorem flush_iff : ∀ t : Fin cfg0.N, (cfg0.win 12).flush t = true ↔ t.val % 11 = 10 :=
  (by decide +kernel : ∀ t : Fin grid0.N, win0_12.flush t = true ↔ t.val % 11 = 10)

theorem flushed_eq (t : Fin cfg0.N) (hf : (cfg0.win 12).flush t = true) :
    (dats m 0 c).flushed 12 t = ((cfg0.win 12).blk t).view.read (Elt Ideal) (out m c) := by
  have h := (flush_iff t).mp hf
  obtain ⟨-, -, -, -, -, -, h0⟩ := idxB t
  show (cfg0.win 12).cut (grid0.coords t) (oAt m c t) = _
  funext y
  obtain ⟨x, d, rfl⟩ : ∃ (x : Fin 1024) (d : Fin 1024), y = ix2 x d := ⟨y 0, y 1, eq_ix2 y⟩
  have e : (win0_12.blk t).view.emb (ix2 x d) = ix2 (rowOf t x) d := by unfold rowOf; blk_ext [h0]
  show oAt m c t (ix2 x d) = out m c ((win0_12.blk t).view.emb (ix2 x d))
  rw [e]
  exact oAt_apply m c t h x d

theorem mem_blk (t : Fin cfg0.N) (i : S32768x1024.Idx) :
    i ∈ ((cfg0.win 12).blk t).view.set ↔ ∀ a : Fin 2, win0_12.index t a * S1024x1024.size a ≤ (i a).val
      ∧ (i a).val < win0_12.index t a * S1024x1024.size a + S1024x1024.size a := by
  show i ∈ ((View.whole main_v3_0).slice (win0_12.rect t)).set ↔ _
  rw [View.set_slice_whole, Rect.mem_set_unit]
  exact Iff.rfl

theorem covered (i : S32768x1024.Idx) : ∃ t : Fin cfg0.N, (cfg0.win 12).flush t = true ∧ i ∈ ((cfg0.win 12).blk t).view.set := by
  have hi0 : (i 0).val < 32768 := (i 0).isLt
  have hi1 : (i 1).val < 1024 := (i 1).isLt
  have hN : 11 * ((i 0).val / 1024) + 10 < cfg0.N := lt_of_lt_of_eq (by omega) N_0.symm
  obtain ⟨-, -, -, -, -, -, h0⟩ := idxB ⟨_, hN⟩
  have q0 : win0_12.index ⟨_, hN⟩ (0 : Fin 2) = (11 * ((i 0).val / 1024) + 10) / 11 := congrFun h0 0
  have q1 : win0_12.index ⟨_, hN⟩ (1 : Fin 2) = 0 := congrFun h0 1
  refine ⟨⟨_, hN⟩, (flush_iff _).mpr (by show (11 * ((i 0).val / 1024) + 10) % 11 = 10; omega), ?_⟩
  rw [mem_blk]
  intro a
  match a with
  | ⟨0, _⟩ => rw [show win0_12.index ⟨_, hN⟩ ⟨0, _⟩ = _ from q0]; show _ * 1024 ≤ (i 0).val ∧ (i 0).val < _ * 1024 + 1024; omega
  | ⟨1, _⟩ => rw [show win0_12.index ⟨_, hN⟩ ⟨1, _⟩ = _ from q1]; show 0 * 1024 ≤ (i 1).val ∧ (i 1).val < 0 * 1024 + 1024; omega

theorem final : (dats m 0 c).arrAt 12 cfg0.N = out m c :=
  (dats m 0 c).arrAt_eq_of_cover 12 _ (fun t hf => flushed_eq m c t hf) covered

end Cert.Kernel3Ideal.Ffn

end
-- ==== Proof.FfnLastIdeal.States.lean ====
/- The last rows of the up product that the last layer's feed-forward kernel leaves beside its result. -/
module

public import proofs.«01_k».proof.Proof.FfnLastIdeal.Result
public import proofs.«01_k».proof.Proof.FfnIdeal.States

@[expose] public section

set_option maxRecDepth 16384

noncomputable section

namespace Cert.Kernel3Ideal.Ffn

open Cert.Kernel3Ideal Cert.Kernel3Ideal.Gen Cert.FfnSpec
open Idealize.ShloMosaic Idealize.ShloMosaic.TcCoe Idealize.SL.Sem

variable (m : (ℓ : Loc nD τ sig) → Buf (Elt Ideal) ℓ) (c : Dev nD)

theorem last2A (v : Vec Ideal S1024x256 .f32) (k : Fin 2) (y : Fin 256) :
    k0_pay15 (F := Ideal) v (ix3 0 k y) = v (ix2 ⟨1022 + k.val, by omega⟩ y) := Cert.Kernel2Ideal.Ffn.last2A v k y

theorem last2G (v : Vec Ideal S1024x256 .f32) (k : Fin 2) (y : Fin 256) :
    k0_pay16 (F := Ideal) v (ix3 0 k y) = v (ix2 ⟨1022 + k.val, by omega⟩ y) := Cert.Kernel2Ideal.Ffn.last2G v k y

/-- The up product's last two rows of every tile, of the first half of its columns and of the second. -/
def outA : Buf (Elt Ideal) ((c : Thread nD τ).loc main_v3_1) := fun i : S32x2x2816.Idx =>
  up (a0 m c) (a1 m c) (a2 m c) (lastRow (i 0) (i 1)) (colA (i 2))
def outG : Buf (Elt Ideal) ((c : Thread nD τ).loc main_v3_2) := fun i : S32x2x2816.Idx =>
  up (a0 m c) (a1 m c) (a2 m c) (lastRow (i 0) (i 1)) (colG (i 2))

theorem idxC : ∀ t : Fin cfg0.N, win0_13.index t = ![t.val / 11, 0, t.val % 11] ∧ win0_14.index t = ![t.val / 11, 0, t.val % 11] :=
  (by decide +kernel : ∀ t : Fin grid0.N, _)

theorem flushA : ∀ t : Fin cfg0.N, (cfg0.win 13).flush t = true := (by decide +kernel : ∀ t : Fin grid0.N, win0_13.flush t = true)
theorem flushG : ∀ t : Fin cfg0.N, (cfg0.win 14).flush t = true := (by decide +kernel : ∀ t : Fin grid0.N, win0_14.flush t = true)

/-- The tile of a point. -/
def tileOf (t : Fin cfg0.N) : Fin 32 := ⟨t.val / 11, by have := lt352 t; omega⟩

theorem lastRow_tileOf (t : Fin cfg0.N) (k : Fin 2) : lastRow (tileOf t) k = rowOf t ⟨1022 + k.val, by omega⟩ :=
  Fin.ext (by change 1024 * (t.val / 11) + 1022 + k.val = 1024 * (t.val / 11) + (1022 + k.val); omega)

theorem flushedA (t : Fin cfg0.N) : (dats m 0 c).flushed 13 t = ((cfg0.win 13).blk t).view.read (Elt Ideal) (outA m c) := by
  obtain ⟨h0, -⟩ := idxC t
  show (cfg0.win 13).cut (grid0.coords t) (k0_pay15 (k0_pay7 (hnAt m c t) (iblk m c 2 t))) = _
  funext y
  obtain ⟨z, k, x, rfl⟩ : ∃ (z : Fin 1) (k : Fin 2) (x : Fin 256), y = ix3 z k x := ⟨y 0, y 1, y 2, eq_ix3 y⟩
  obtain rfl : z = 0 := Subsingleton.elim _ _
  have e : (win0_13.blk t).view.emb (ix3 0 k x) = ix3 (tileOf t) k (colOf t x) := by unfold tileOf colOf; blk_ext [h0]
  show k0_pay15 (k0_pay7 (hnAt m c t) (iblk m c 2 t)) (ix3 0 k x) = outA m c ((win0_13.blk t).view.emb (ix3 0 k x))
  rw [e, last2A, upA, ← lastRow_tileOf]
  rfl

theorem flushedG (t : Fin cfg0.N) : (dats m 0 c).flushed 14 t = ((cfg0.win 14).blk t).view.read (Elt Ideal) (outG m c) := by
  obtain ⟨-, h0⟩ := idxC t
  show (cfg0.win 14).cut (grid0.coords t) (k0_pay16 (k0_pay8 (hnAt m c t) (iblk m c 3 t))) = _
  funext y
  obtain ⟨z, k, x, rfl⟩ : ∃ (z : Fin 1) (k : Fin 2) (x : Fin 256), y = ix3 z k x := ⟨y 0, y 1, y 2, eq_ix3 y⟩
  obtain rfl : z = 0 := Subsingleton.elim _ _
  have e : (win0_14.blk t).view.emb (ix3 0 k x) = ix3 (tileOf t) k (colOf t x) := by unfold tileOf colOf; blk_ext [h0]
  show k0_pay16 (k0_pay8 (hnAt m c t) (iblk m c 3 t)) (ix3 0 k x) = outG m c ((win0_14.blk t).view.emb (ix3 0 k x))
  rw [e, last2G, upG, ← lastRow_tileOf]
  rfl

/-- Every entry of the two arrays lies in the block of one point. -/
theorem in_blk (i : S32x2x2816.Idx) : ∃ t : Fin cfg0.N, ∀ a : Fin 3, (![t.val / 11, 0, t.val % 11] : Fin 3 → ℕ) a * S1x2x256.size a ≤ (i a).val
    ∧ (i a).val < (![t.val / 11, 0, t.val % 11] : Fin 3 → ℕ) a * S1x2x256.size a + S1x2x256.size a := by
  have hi0 : (i 0).val < 32 := (i 0).isLt
  have hi1 : (i 1).val < 2 := (i 1).isLt
  have hi2 : (i 2).val < 2816 := (i 2).isLt
  refine ⟨⟨11 * (i 0).val + (i 2).val / 256, lt_of_lt_of_eq (by omega) N_0.symm⟩, fun a => ?_⟩
  match a with
  | ⟨0, _⟩ =>
    show (11 * (i 0).val + (i 2).val / 256) / 11 * 1 ≤ (i 0).val ∧ (i 0).val < (11 * (i 0).val + (i 2).val / 256) / 11 * 1 + 1; omega
  | ⟨1, _⟩ => show 0 * 2 ≤ (i 1).val ∧ (i 1).val < 0 * 2 + 2; omega
  | ⟨2, _⟩ =>
    show (11 * (i 0).val + (i 2).val / 256) % 11 * 256 ≤ (i 2).val ∧ (i 2).val < (11 * (i 0).val + (i 2).val / 256) % 11 * 256 + 256; omega

theorem coveredA (i : S32x2x2816.Idx) : ∃ t : Fin cfg0.N, (cfg0.win 13).flush t = true ∧ i ∈ ((cfg0.win 13).blk t).view.set := by
  obtain ⟨t, ht⟩ := in_blk i
  refine ⟨t, flushA t, ?_⟩
  show i ∈ ((View.whole main_v3_1).slice (win0_13.rect t)).set
  rw [View.set_slice_whole, Rect.mem_set_unit]
  rw [← (idxC t).1] at ht
  exact ht

theorem coveredG (i : S32x2x2816.Idx) : ∃ t : Fin cfg0.N, (cfg0.win 14).flush t = true ∧ i ∈ ((cfg0.win 14).blk t).view.set := by
  obtain ⟨t, ht⟩ := in_blk i
  refine ⟨t, flushG t, ?_⟩
  show i ∈ ((View.whole main_v3_2).slice (win0_14.rect t)).set
  rw [View.set_slice_whole, Rect.mem_set_unit]
  rw [← (idxC t).2] at ht
  exact ht

theorem finalA : (dats m 0 c).arrAt 13 cfg0.N = outA m c :=
  (dats m 0 c).arrAt_eq_of_cover 13 _ (fun t _ => flushedA m c t) coveredA

theorem finalG : (dats m 0 c).arrAt 14 cfg0.N = outG m c :=
  (dats m 0 c).arrAt_eq_of_cover 14 _ (fun t _ => flushedG m c t) coveredG

end Cert.Kernel3Ideal.Ffn

end
-- ==== Proof.FfnLastReference.lean ====
/- The last layer's feed-forward reference, entry by entry: the other layers' stages, and one more normalisation. -/
module

public import proofs.«01_k».proof.Proof.Gen.Reference3Ideal.Read
public import proofs.«01_k».proof.Proof.FfnReference

@[expose] public section

noncomputable section

namespace Cert.Reference3Ideal.Ffn

open Cert.Reference3Ideal Cert.Reference3Ideal.Gen Cert.Reference3Ideal.Read Idealize.ShloMosaic Idealize.ShloMosaic.TcCoe Idealize.SL.Sem
open Cert.FfnSpec
open Cert.Reference2Ideal.Ffn (rowAt)

variable (H : (⟨S32768x1024, .f32⟩ : BufTy).Contents (Elt Ideal)) (G : (⟨S1024, .f32⟩ : BufTy).Contents (Elt Ideal))
  (WU : (⟨S1024x5632, .bf16⟩ : BufTy).Contents (Elt Ideal)) (CV : (⟨S4x5632, .f32⟩ : BufTy).Contents (Elt Ideal))
  (WD : (⟨S2816x1024, .bf16⟩ : BufTy).Contents (Elt Ideal)) (GP : (⟨S1024, .f32⟩ : BufTy).Contents (Elt Ideal))
  (WG : (⟨S1024x1024, .bf16⟩ : BufTy).Contents (Elt Ideal)) (PE : (⟨S32768x256, .f32⟩ : BufTy).Contents (Elt Ideal))
  (WP : (⟨S256x1024, .bf16⟩ : BufTy).Contents (Elt Ideal)) (GF : (⟨S1024, .f32⟩ : BufTy).Contents (Elt Ideal))

/-- The gated rows are the other layers'. -/
theorem stage_eq : val_main_v81 (F := Ideal) H G WU CV WD GP WG PE WP
    = Cert.Reference2Ideal.Read.val_main_v81 (F := Ideal) H G WU CV WD GP WG PE WP := rfl

variable (b : Fin 16) (s : Fin 2048)

theorem gated_apply (d : Fin 1024) : val_main_v81 (F := Ideal) H G WU CV WD GP WG PE WP (ix3 b s d)
    = result H G WU CV WD GP WG PE WP (rowAt b s) d :=
  (congrFun (stage_eq H G WU CV WD GP WG PE WP) _).trans (Cert.Reference2Ideal.Ffn.gated_apply H G WU CV WD GP WG PE WP b s d)

theorem square_apply : val_main_v87 (F := Ideal) H G WU CV WD GP WG PE WP (ix2 b s)
    = ∑ k : Fin 1024, result H G WU CV WD GP WG PE WP (rowAt b s) k * result H G WU CV WD GP WG PE WP (rowAt b s) k := by
  rw [val_main_v87_apply, val_main_cst_10_apply, Ideal.ofBits_def, Ideal.ofBits_zero_f32, zero_add]
  refine Finset.sum_congr rfl fun k _ => ?_
  rw [show idx_main_v87 (ix2 b s) k = ix3 b s k from eq_ix3 _, val_main_v86_apply, gated_apply]
  rfl

theorem final_apply (k : Fin 1024) : val_main_v98 (F := Ideal) H G WU CV WD GP WG PE WP GF (ix3 b s k)
    = lastResult H G WU CV WD GP WG PE WP GF (rowAt b s) k := by
  rw [val_main_v98_apply, val_main_v95_apply, gated_apply, val_main_v94_apply, val_main_v93_apply, val_main_v92_apply, val_main_v90_apply,
    val_main_v88_apply, show idx_main_v88 (idx_main_v94 (ix3 b s k)) = ix2 b s from eq_ix2 _, square_apply, val_main_v89_apply,
    val_main_cst_11_apply, val_main_v91_apply, val_main_cst_12_apply, val_main_v97_apply, val_main_v96_apply,
    show idx_main_v96 (idx_main_v97 (ix3 b s k)) = ix1 k from eq_ix1 _]
  rfl

/-- The reference's result. -/
theorem result_apply (r : Fin 32768) (d : Fin 1024) : val_main_v99 (F := Ideal) H G WU CV WD GP WG PE WP GF (ix2 r d)
    = lastResult H G WU CV WD GP WG PE WP GF r d := by
  have e : rowAt ⟨r.val / 2048, by omega⟩ ⟨r.val % 2048, by omega⟩ = r :=
    Fin.ext (by change 2048 * (r.val / 2048) + r.val % 2048 = r.val; omega)
  rw [val_main_v99_apply, show idx_main_v99 (ix2 r d) = ix3 ⟨r.val / 2048, by omega⟩ ⟨r.val % 2048, by omega⟩ d from by
    funext a
    apply Fin.ext
    match a with
    | ⟨0, _⟩ => change (r.val * 1024 + d.val) / 2097152 = r.val / 2048; omega
    | ⟨1, _⟩ => change (r.val * 1024 + d.val) / 1024 % 2048 = r.val % 2048; omega
    | ⟨2, _⟩ => change (r.val * 1024 + d.val) % 1024 = d.val; omega]
  rw [final_apply, e]

/-- The reference's last two rows of each tile's up product are the other layers'. -/
theorem lastA_apply (q : Fin 32) (k : Fin 2) (f : Fin 2816) :
    val_main_v84 (F := Ideal) H G WU (ix3 q k f) = up H G WU (lastRow q k) ⟨f.val, by omega⟩ :=
  Cert.Reference2Ideal.Ffn.lastA_apply H G WU q k f

theorem lastG_apply (q : Fin 32) (k : Fin 2) (f : Fin 2816) :
    val_main_v85 (F := Ideal) H G WU (ix3 q k f) = up H G WU (lastRow q k) ⟨2816 + f.val, by omega⟩ :=
  Cert.Reference2Ideal.Ffn.lastG_apply H G WU q k f

end Cert.Reference3Ideal.Ffn

end
-- ==== Proof.Kv.Pay.lean ====
/- The arithmetic of a point of the keys' and values' projection, entry by entry. -/
module

public import proofs.«01_k».proof.Proof.Gen.Kernel4Ideal.Skeleton
public import proofs.«01_k».proof.Proof.FfnSpec
public import Idealize.ShloMosaic.Lib.Pointwise

@[expose] public section

set_option maxRecDepth 16384

noncomputable section

namespace Cert.Kernel4Ideal.Kv

open Cert.Kernel4Ideal.Gen
open Idealize.ShloMosaic Idealize.ShloMosaic.TcCoe Cert.FfnSpec

theorem pay1_apply (h : Vec Ideal S1024x1024 .f32) (g : Vec Ideal S1x1024 .f32) (r k : Fin 1024) :
    k0_pay1 (F := Ideal) h g (ix2 r k) = rmsNorm (fun a => h (ix2 r a)) (fun a => g (ix2 0 a)) k := by
  unfold rmsNorm
  pointwise [k0_pay1]

variable (x : Vec Ideal S1024x1024 .bf16) (w : Vec Ideal S1024x256 .bf16) (c s : Vec Ideal S1024x128 .f32) (r : Fin 1024)

/-- The product of a row and a column of the weights' tile. -/
def prod (f : Fin 256) : EReal := ∑ k : Fin 1024, (x (ix2 r k) : EReal) * w (ix2 k f)

/-- The values' columns are the product. -/
theorem pay2_value (f : Fin 128) : k0_pay2 (F := Ideal) x w c s (ix3 0 r ⟨128 + f.val, by omega⟩) = prod x w r ⟨128 + f.val, by omega⟩ := by
  unfold prod
  pointwise [k0_pay2]

/-- The word that says a lane is in the lower half of its head. -/
theorem half_word : ∀ f : Fin 128, IntOp.cmpi .slt (IntOp.andi (BitVec.ofNat 32 f.val) 63#32) 32#32 = BitVec.ofBool (decide (f.val % 64 < 32)) := by
  decide +kernel

theorem pay2_key (f : Fin 128) : k0_pay2 (F := Ideal) x w c s (ix3 0 r ⟨f.val, by omega⟩)
    = prod x w r ⟨f.val, by omega⟩ * c (ix2 r f)
      + (if f.val % 64 < 32 then prod x w r ⟨(f.val + 32) % 128, by omega⟩ else prod x w r ⟨(f.val + 96) % 128, by omega⟩) * s (ix2 r f) := by
  unfold prod
  pointwise [k0_pay2]
  rw [half_word]
  simp only [show (f.val + 128 - 96) % 128 = (f.val + 32) % 128 from by omega, show (f.val + 128 - 32) % 128 = (f.val + 96) % 128 from by omega]
  by_cases h : f.val % 64 < 32
  · rw [if_pos h, decide_eq_true h]; rfl
  · rw [if_neg h, decide_eq_false h]; rfl

end Cert.Kernel4Ideal.Kv

end
-- ==== Proof.Kv.Spec.lean ====
/- The keys' and values' projection with the rotation of the keys, entry by entry. -/
module

public import proofs.«01_k».proof.Proof.FfnSpec

@[expose] public section

noncomputable section

namespace Cert.KvSpec

open Idealize.ShloMosaic Cert.FfnSpec

variable (H : (⟨2, ![32768, 1024]⟩ : Shape).Idx → EReal) (G : (⟨1, ![1024]⟩ : Shape).Idx → EReal)
  (W : (⟨2, ![1024, 768]⟩ : Shape).Idx → EReal)

/-! The cosines `C` and the sines `S` of a position's angles. -/
variable (C S : Fin 2048 → Fin 32 → EReal)

/-- Column `f` of plane `p` of the product of the normalised row `r` and the weights. -/
def proj (p : Fin 3) (r : Fin 32768) (f : Fin 256) : EReal :=
  ∑ k : Fin 1024, rmsNorm (fun a => H (ix2 r a)) (fun a => G (ix1 a)) k * W (ix2 k ⟨256 * p.val + f.val, by omega⟩)

/-- The position of a row in its sequence. -/
def pos (r : Fin 32768) : Fin 2048 := ⟨r.val % 2048, by omega⟩

/-- A plane: in each head's keys the two halves rotated by the position's angles, and the values. -/
def kv (p : Fin 3) (r : Fin 32768) (f : Fin 256) : EReal :=
  if hf : f.val < 128 then
    if hl : f.val % 64 < 32 then
      proj H G W p r f * C (pos r) ⟨f.val % 32, by omega⟩ - proj H G W p r ⟨f.val + 32, by omega⟩ * S (pos r) ⟨f.val % 32, by omega⟩
    else
      proj H G W p r ⟨f.val - 32, by omega⟩ * S (pos r) ⟨f.val % 32, by omega⟩ + proj H G W p r f * C (pos r) ⟨f.val % 32, by omega⟩
  else proj H G W p r f

end Cert.KvSpec

end
-- ==== Proof.Kv.Blocks.lean ====
/- What a point of the keys' and values' projection reads, as entries of the arguments and of the tables. -/
module

public import proofs.«01_k».proof.Proof.Gen.Kernel4Ideal.Value
public import proofs.«01_k».proof.Proof.Gen.Reference4Ideal.Read
public import proofs.«01_k».proof.Proof.Kv.Pay
public import proofs.«01_k».proof.Proof.Kv.Spec
public import Idealize.ShloMosaic.Lib.Pipeline.ValueKit
public import Idealize.ShloMosaic.Lib.Claim

@[expose] public section

set_option maxRecDepth 16384

noncomputable section

namespace Cert.Kernel4Ideal.Kv

open Cert.Kernel4Ideal Cert.Kernel4Ideal.Gen Cert.FfnSpec Cert.KvSpec
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 3, 0] ∧ win0_1.index t = ![0, 0] ∧ win0_2.index t = ![0, t.val % 3]
    ∧ win0_3.index t = ![t.val / 3 % 2, 0] ∧ win0_4.index t = ![t.val / 3 % 2, 0] :=
  (by decide +kernel : ∀ t : Fin grid0.N, _)

theorem lt96 (t : Fin cfg0.N) : t.val < 96 := lt_of_lt_of_eq t.isLt N_0

/-- The row of the arguments at row `x` of a point's tile, its position, and the plane of the point. -/
def rowOf (t : Fin cfg0.N) (x : Fin 1024) : Fin 32768 := ⟨1024 * (t.val / 3) + x.val, by have := lt96 t; omega⟩
def posOf (t : Fin cfg0.N) (x : Fin 1024) : Fin 2048 := ⟨1024 * (t.val / 3 % 2) + x.val, by omega⟩
def planeOf (t : Fin cfg0.N) : Fin 3 := ⟨t.val % 3, by omega⟩

/-- The cosines and the sines of a position's angles, as the reference computes them. -/
def cosAt (s : Fin 2048) (k : Fin 32) : EReal := Cert.Reference4Ideal.Read.val_main_v33 (F := Ideal) (ix2 s k)
def sinAt (s : Fin 2048) (k : Fin 32) : EReal := Cert.Reference4Ideal.Read.val_main_v35 (F := Ideal) (ix2 s k)

variable (t : Fin cfg0.N)

theorem blk0 (x d : Fin 1024) : iblk m c 0 t (ix2 x d) = m ((c.tc : Thread nD τ).loc main_arg0) (ix2 (rowOf t x) d) := by
  obtain ⟨h0, -⟩ := idx t
  unfold iblk
  entry_read
  exact congrArg (m _) (show (win0_0.blk t).view.emb (ix2 x d) = ix2 (rowOf t x) d from by unfold rowOf; blk_ext [h0])

theorem blk1 (k : Fin 1024) : iblk m c 1 t (ix2 0 k) = m ((c.tc : Thread nD τ).loc main_arg1) (ix1 k) := by
  obtain ⟨-, h0, -⟩ := idx t
  unfold iblk
  entry_read
  change shapeCast main_v24.ty.shape _ _ ((win0_1.blk t).view.emb (ix2 0 k)) = _
  rw [show (win0_1.blk t).view.emb (ix2 0 k) = ix2 0 k from by blk_ext [h0]]
  pointwise

theorem blk2 (k : Fin 1024) (x : Fin 256) :
    iblk m c 2 t (ix2 k x) = m ((c.tc : Thread nD τ).loc main_arg2) (ix2 k ⟨256 * (planeOf t).val + x.val, by omega⟩) := by
  obtain ⟨-, -, h0, -⟩ := idx t
  unfold iblk
  entry_read
  exact congrArg (m _) (show (win0_2.blk t).view.emb (ix2 k x) = ix2 k ⟨256 * (planeOf t).val + x.val, by omega⟩ from by
    unfold planeOf; blk_ext [h0])

/-- A table of two halves, repeated for the two heads of a tile. -/
def tiled (A B : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, A⟩, ⟨S2048x32, B⟩] concatenates_S2048x32_S2048x32_S2048x64_d1)
      shapeCasts_S2048x64_S1x2048x1x64)) shapeCasts_S1x2048x2x64_S2048x128

theorem tiled_apply (A B : FVec Ideal S2048x32 .f32) (s : Fin 2048) (l : Fin 128) :
    tiled A B (ix2 s l) = if l.val % 64 < 32 then A (ix2 s ⟨l.val % 32, by omega⟩) else B (ix2 s ⟨l.val % 32, by omega⟩) := by
  pointwise [tiled]
  by_cases h : l.val % 64 < 32
  · rw [dif_pos h, if_pos h]
    exact congrArg (fun k => A (ix2 s k)) (Fin.ext (by change l.val % 64 = l.val % 32; omega))
  · rw [dif_neg h, if_neg h]
    exact congrArg (fun k => B (ix2 s k)) (Fin.ext (by change l.val % 64 - 32 = l.val % 32; omega))

theorem blk3 (x : Fin 1024) (l : Fin 128) : iblk m c 3 t (ix2 x l) = cosAt (posOf t x) ⟨l.val % 32, by omega⟩ := by
  obtain ⟨-, -, -, h0, -⟩ := idx t
  unfold iblk
  entry_read
  change tiled _ _ ((win0_3.blk t).view.emb (ix2 x l)) = _
  rw [show (win0_3.blk t).view.emb (ix2 x l) = ix2 (posOf t x) l from by unfold posOf; blk_ext [h0], tiled_apply, ite_self]
  rfl

theorem blk4 (x : Fin 1024) (l : Fin 128) : iblk m c 4 t (ix2 x l)
    = if l.val % 64 < 32 then -sinAt (posOf t x) ⟨l.val % 32, by omega⟩ else sinAt (posOf t x) ⟨l.val % 32, by omega⟩ := by
  obtain ⟨-, -, -, -, h0⟩ := idx t
  unfold iblk
  entry_read
  change tiled _ _ ((win0_4.blk t).view.emb (ix2 x l)) = _
  rw [show (win0_4.blk t).view.emb (ix2 x l) = ix2 (posOf t x) l from by unfold posOf; blk_ext [h0], tiled_apply]
  rfl

end Cert.Kernel4Ideal.Kv

end
-- ==== Proof.Softmax.lean ====
module

public import Idealize.ShloMosaic.PureOps.Ideal

@[expose] public section

noncomputable section

namespace Cert.Softmax

open Idealize.ShloMosaic

/-! ### The online softmax over the extended reals

A row of scores is met in tiles of 256 keys.  The row keeps its running maximum, the running sum of
`2 ^ (score - maximum)` and the running weighted sum of the values, and rescales the last two whenever the
maximum moves.  No score is assumed finite. -/

/-- `2 ^ x` is never negative. -/
theorem exp2_nonneg (x : EReal) : 0 ≤ Ideal.exp2 x := by
  induction x with
  | bot => exact le_refl _
  | top => exact le_top
  | coe r =>
    rw [Ideal.exp2_coe]
    exact EReal.coe_nonneg.mpr (Real.rpow_nonneg (by norm_num) r)

/-- `e ^ x` is never negative. -/
theorem exp_nonneg (x : EReal) : 0 ≤ Ideal.exp x := by
  induction x with
  | bot => exact le_refl _
  | top => exact le_top
  | coe r =>
    rw [Ideal.exp_coe]
    exact EReal.coe_nonneg.mpr (Real.exp_pos r).le

/-- `-∞` less anything is `-∞`, and its exponential is zero. -/
theorem exp2_bot_sub (x : EReal) : Ideal.exp2 (⊥ - x) = 0 := by
  rw [sub_eq_add_neg, EReal.bot_add]; rfl

theorem exp_bot_sub (x : EReal) : Ideal.exp (⊥ - x) = 0 := by
  rw [sub_eq_add_neg, EReal.bot_add]; rfl

/-- Anything less `+∞` is `-∞`. -/
theorem exp2_sub_top (x : EReal) : Ideal.exp2 (x - ⊤) = 0 := by
  rw [sub_eq_add_neg, EReal.neg_top, EReal.add_bot]; rfl

theorem exp_sub_top (x : EReal) : Ideal.exp (x - ⊤) = 0 := by
  rw [sub_eq_add_neg, EReal.neg_top, EReal.add_bot]; rfl

/-- A real factor that is not negative goes into a finite sum of extended reals. -/
theorem coe_mul_sum {ι : Type*} (T : Finset ι) (f : ι → EReal) {c : ℝ} (hc : 0 ≤ c) :
    (c : EReal) * ∑ k ∈ T, f k = ∑ k ∈ T, (c : EReal) * f k := by
  classical
  induction T using Finset.induction_on with
  | empty => simp
  | insert a T ha ih =>
    rw [Finset.sum_insert ha, Finset.sum_insert ha,
      EReal.left_distrib_of_nonneg_of_ne_top (EReal.coe_nonneg.mpr hc) (EReal.coe_ne_top c), ih]

/-- The rescaling step: weights taken against an old maximum become weights against a larger one. -/
theorem rescale {ι : Type*} (T : Finset ι) (s v : ι → EReal) {m m' : EReal}
    (h : ∀ k ∈ T, s k ≤ m) (hm : m ≤ m') :
    Ideal.exp2 (m - m') * ∑ k ∈ T, v k * Ideal.exp2 (s k - m) = ∑ k ∈ T, v k * Ideal.exp2 (s k - m') := by
  by_cases hbot : m = ⊥
  · have hs : ∀ k ∈ T, s k = ⊥ := fun k hk => le_bot_iff.mp (hbot ▸ h k hk)
    rw [Finset.sum_eq_zero (fun k hk => by rw [hs k hk, exp2_bot_sub, mul_zero]), mul_zero,
      Finset.sum_eq_zero (fun k hk => by rw [hs k hk, exp2_bot_sub, mul_zero])]
  by_cases htop : m' = ⊤
  · subst htop
    rw [exp2_sub_top, zero_mul, Finset.sum_eq_zero (fun k _ => by rw [exp2_sub_top, mul_zero])]
  have hmt : m ≠ ⊤ := fun e => htop (top_le_iff.mp (e ▸ hm))
  have hmb' : m' ≠ ⊥ := fun e => hbot (le_bot_iff.mp (e ▸ hm))
  lift m to ℝ using ⟨hmt, hbot⟩
  lift m' to ℝ using ⟨htop, hmb'⟩
  rw [← EReal.coe_sub, Ideal.exp2_coe,
    coe_mul_sum T _ (show 0 ≤ Real.rpow 2 (m - m') from Real.rpow_nonneg (by norm_num) _)]
  refine Finset.sum_congr rfl fun k hk => ?_
  rw [mul_left_comm]
  congr 1
  have hk' := h k hk
  generalize s k = x at hk'
  induction x with
  | bot => rw [exp2_bot_sub, exp2_bot_sub, mul_zero]
  | top => exact absurd (top_le_iff.mp hk') (EReal.coe_ne_top m)
  | coe r =>
    rw [← EReal.coe_sub, ← EReal.coe_sub, Ideal.exp2_coe, Ideal.exp2_coe, ← EReal.coe_mul]
    congr 1
    change (2 : ℝ) ^ (m - m') * (2 : ℝ) ^ (r - m) = (2 : ℝ) ^ (r - m')
    rw [← Real.rpow_add (by norm_num)]
    congr 1
    ring

section Row

variable (s v : ℕ → Fin 256 → EReal)

/-- The running maximum before tile `n`. -/
def rowM : ℕ → EReal
  | 0 => ⊥
  | n + 1 => max (rowM n) (Finset.univ.sup (s n))

/-- The running weighted sum of the values before tile `n`; with all values one, the running sum of weights. -/
def rowA : ℕ → EReal
  | 0 => 0
  | n + 1 => Ideal.exp2 (rowM s n - rowM s (n + 1)) * rowA n
      + ∑ r, v n r * Ideal.exp2 (s n r - rowM s (n + 1))

/-- No score met so far exceeds the running maximum. -/
theorem le_rowM (n : ℕ) : ∀ j < n, ∀ r, s j r ≤ rowM s n := by
  induction n with
  | zero => intro j hj; omega
  | succ n ih =>
    intro j hj r
    rcases Nat.lt_succ_iff_lt_or_eq.mp hj with h | h
    · exact le_trans (ih j h r) (le_max_left _ _)
    · subst h
      exact le_trans (Finset.le_sup (f := s j) (Finset.mem_univ r)) (le_max_right _ _)

/-- The running maximum is the least bound of the scores met. -/
theorem rowM_le {x : EReal} (n : ℕ) (h : ∀ j < n, ∀ r, s j r ≤ x) : rowM s n ≤ x := by
  induction n with
  | zero => exact bot_le
  | succ n ih =>
    exact max_le (ih fun j hj r => h j (Nat.lt_succ_of_lt hj) r) (Finset.sup_le fun r _ => h n (Nat.lt_succ_self n) r)

/-- The running weighted sum is the sum over every key met, all against the present maximum. -/
theorem rowA_eq (n : ℕ) :
    rowA s v n = ∑ j ∈ Finset.range n, ∑ r, v j r * Ideal.exp2 (s j r - rowM s n) := by
  induction n with
  | zero => rfl
  | succ n ih =>
    have e := rescale (Finset.range n ×ˢ (Finset.univ : Finset (Fin 256))) (fun p => s p.1 p.2) (fun p => v p.1 p.2)
      (m := rowM s n) (m' := rowM s (n + 1))
      (fun p hp => le_rowM s n p.1 (Finset.mem_range.mp (Finset.mem_product.mp hp).1) p.2) (le_max_left _ _)
    rw [Finset.sum_product, Finset.sum_product] at e
    rw [Finset.sum_range_succ, ← e, ← ih]
    rfl

end Row

/-- A positive real factor commutes with the order. -/
theorem mul_coe_le {d : ℝ} (hd : 0 < d) {x y : EReal} (h : x ≤ y) : x * (d : EReal) ≤ y * (d : EReal) :=
  mul_le_mul_of_nonneg_right h (EReal.coe_nonneg.mpr hd.le)

/-- Scores scaled by `1 / ln 2` and exponentiated in base two are the scores exponentiated in base `e`. -/
theorem exp2_scaled (x y : EReal) :
    Ideal.exp2 (x * (((Real.log 2)⁻¹ : ℝ) : EReal) - y * (((Real.log 2)⁻¹ : ℝ) : EReal)) = Ideal.exp (x - y) := by
  have hd : 0 < (Real.log 2)⁻¹ := inv_pos.mpr (Real.log_pos (by norm_num))
  induction y with
  | top => rw [EReal.top_mul_coe_of_pos hd, exp2_sub_top, exp_sub_top]
  | bot =>
    induction x with
    | bot => rw [EReal.bot_mul_coe_of_pos hd, exp2_bot_sub, exp_bot_sub]
    | top => rw [EReal.bot_mul_coe_of_pos hd, EReal.top_mul_coe_of_pos hd]; rfl
    | coe r => rw [EReal.bot_mul_coe_of_pos hd, ← EReal.coe_mul]; rfl
  | coe y =>
    induction x with
    | bot => rw [EReal.bot_mul_coe_of_pos hd, exp2_bot_sub, exp_bot_sub]
    | top => rw [EReal.top_mul_coe_of_pos hd, ← EReal.coe_mul]; rfl
    | coe x =>
      rw [← EReal.coe_mul, ← EReal.coe_mul, ← EReal.coe_sub, ← EReal.coe_sub, Ideal.exp2_coe, Ideal.exp_coe]
      congr 1
      change (2 : ℝ) ^ (x * (Real.log 2)⁻¹ - y * (Real.log 2)⁻¹) = _
      rw [Real.rpow_def_of_pos (by norm_num)]
      congr 1
      have : Real.log 2 ≠ 0 := (Real.log_pos (by norm_num)).ne'
      field_simp

/-- A weight taken against a bound of the scores is at most one. -/
theorem exp_sub_le_one {x m : EReal} (h : x ≤ m) : Ideal.exp (x - m) ≤ 1 := by
  induction m with
  | top => rw [exp_sub_top]; exact zero_le_one
  | bot => rw [le_bot_iff.mp h, exp_bot_sub]; exact zero_le_one
  | coe m =>
    induction x with
    | bot => rw [exp_bot_sub]; exact zero_le_one
    | top => exact absurd (top_le_iff.mp h) (EReal.coe_ne_top m)
    | coe x =>
      rw [← EReal.coe_sub, Ideal.exp_coe, ← EReal.coe_one]
      exact EReal.coe_le_coe_iff.mpr (Real.exp_le_one_iff.mpr (sub_nonpos.mpr (EReal.coe_le_coe_iff.mp h)))

/-- The attention of one row: every key's weight over the sum of the weights, times its value. -/
def attend {n : ℕ} (S v : Fin n → EReal) (ε : EReal) : EReal :=
  ∑ k, Ideal.div (Ideal.exp (S k - Finset.univ.sup S))
    (max (∑ k, Ideal.exp (S k - Finset.univ.sup S)) ε) * v k

/-- Dividing the weighted sum once is dividing every weight. -/
theorem div_sum_eq {n : ℕ} (S v : Fin n → EReal) {ε : ℝ} (hε : 0 < ε) :
    Ideal.div (∑ k, v k * Ideal.exp (S k - Finset.univ.sup S))
      (max (∑ k, 1 * Ideal.exp (S k - Finset.univ.sup S)) (ε : EReal)) = attend S v (ε : EReal) := by
  unfold attend
  simp only [one_mul]
  set D : EReal := max (∑ k, Ideal.exp (S k - Finset.univ.sup S)) (ε : EReal) with hD
  have hDpos : (0 : EReal) < D := lt_of_lt_of_le (EReal.coe_pos.mpr hε) (le_max_right _ _)
  have hDtop : D ≠ ⊤ := by
    have h1 : ∑ k, Ideal.exp (S k - Finset.univ.sup S) ≤ ∑ _k : Fin n, ((1 : ℝ) : EReal) :=
      Finset.sum_le_sum fun k _ => exp_sub_le_one (Finset.le_sup (f := S) (Finset.mem_univ k))
    have h2 : ∑ _k : Fin n, ((1 : ℝ) : EReal) = ((n : ℝ) : EReal) := by
      rw [Finset.sum_const, Finset.card_univ, Fintype.card_fin, ← EReal.coe_nsmul]
      simp
    refine ne_of_lt (max_lt ?_ (EReal.coe_lt_top ε))
    exact lt_of_le_of_lt (h2 ▸ h1) (EReal.coe_lt_top _)
  have hDbot : D ≠ ⊥ := (lt_trans EReal.bot_lt_zero hDpos).ne'
  clear_value D
  lift D to ℝ using ⟨hDtop, hDbot⟩
  have hDp : 0 < D := EReal.coe_pos.mp hDpos
  rw [Ideal.div_coe hDp.ne', mul_comm, coe_mul_sum _ _ (by positivity)]
  refine Finset.sum_congr rfl fun k _ => ?_
  rw [Ideal.div_coe hDp.ne']
  rw [mul_left_comm, mul_comm (v k), mul_comm (((1 / D : ℝ) : EReal))]

/-- Key `r` of tile `j`. -/
def key (j : Fin 8) (r : Fin 256) : Fin 2048 := ⟨256 * j.val + r.val, by omega⟩

/-- A sum over the keys is a sum over the tiles of sums over their keys. -/
theorem sum_key (f : Fin 2048 → EReal) : ∑ k, f k = ∑ j : Fin 8, ∑ r : Fin 256, f (key j r) := by
  rw [← Fintype.sum_prod_type', ← Equiv.sum_comp (finProdFinEquiv (m := 8) (n := 256))]
  refine Finset.sum_congr rfl fun p _ => ?_
  congr 1
  apply Fin.ext
  change p.2.val + 256 * p.1.val = 256 * p.1.val + p.2.val
  omega

/-- What the tiles leave once every key that counts has been met is the attention of the row. -/
theorem online_eq (S v : Fin 2048 → EReal) (s w : ℕ → Fin 256 → EReal) {ε : ℝ} (hε : 0 < ε) (n : ℕ) (hn : n ≤ 8)
    (hs : ∀ (j : Fin 8) (r : Fin 256), j.val < n → s j.val r = S (key j r) * (((Real.log 2)⁻¹ : ℝ) : EReal))
    (hw : ∀ (j : Fin 8) (r : Fin 256), j.val < n → w j.val r = v (key j r))
    (hlast : ∀ (j : Fin 8) (r : Fin 256), n ≤ j.val → S (key j r) = ⊥) :
    Ideal.div (rowA s w n) (max (rowA s (fun _ _ => 1) n) (ε : EReal)) = attend S v (ε : EReal) := by
  have hd : 0 < (Real.log 2)⁻¹ := inv_pos.mpr (Real.log_pos (by norm_num))
  have hM : rowM s n = Finset.univ.sup S * (((Real.log 2)⁻¹ : ℝ) : EReal) := by
    apply le_antisymm
    · refine rowM_le s n fun j hj r => ?_
      rw [show j = (⟨j, by omega⟩ : Fin 8).val from rfl, hs ⟨j, by omega⟩ r hj]
      exact mul_coe_le hd (Finset.le_sup (f := S) (Finset.mem_univ _))
    · have h1 : Finset.univ.sup S ≤ rowM s n * ((Real.log 2 : ℝ) : EReal) := by
        refine Finset.sup_le fun k _ => ?_
        have hk : k = key ⟨k.val / 256, by omega⟩ ⟨k.val % 256, by omega⟩ := by
          apply Fin.ext; change k.val = 256 * (k.val / 256) + k.val % 256; omega
        rw [hk]
        by_cases hc : k.val / 256 < n
        · have h2 := le_rowM s n (k.val / 256) hc ⟨k.val % 256, by omega⟩
          have h3 := hs ⟨k.val / 256, by omega⟩ ⟨k.val % 256, by omega⟩ hc
          change s (k.val / 256) _ = _ at h3
          rw [h3] at h2
          have h4 := mul_coe_le (Real.log_pos (by norm_num : (1 : ℝ) < 2)) h2
          rwa [mul_assoc, ← EReal.coe_mul, inv_mul_cancel₀ (Real.log_pos (by norm_num)).ne', EReal.coe_one,
            mul_one] at h4
        · rw [hlast _ _ (not_lt.mp hc)]
          exact bot_le
      have h5 := mul_coe_le hd h1
      rwa [mul_assoc, ← EReal.coe_mul, mul_inv_cancel₀ (Real.log_pos (by norm_num)).ne', EReal.coe_one,
        mul_one] at h5
  have hA : ∀ (w : ℕ → Fin 256 → EReal) (v : Fin 2048 → EReal),
      (∀ (j : Fin 8) (r : Fin 256), j.val < n → w j.val r = v (key j r)) →
      rowA s w n = ∑ k, v k * Ideal.exp (S k - Finset.univ.sup S) := by
    intro w v hw
    rw [rowA_eq, hM, sum_key, Fin.sum_univ_eq_sum_range
      (fun j => if h : j < 8 then ∑ r : Fin 256, v (key ⟨j, h⟩ r) * Ideal.exp (S (key ⟨j, h⟩ r) - Finset.univ.sup S)
        else 0) 8 |>.symm.trans (Finset.sum_congr rfl fun j _ => by rw [dif_pos j.isLt]) |>.symm]
    rw [← Finset.sum_subset (Finset.range_subset_range.mpr hn)]
    · refine Finset.sum_congr rfl fun j hj => ?_
      have hj' := Finset.mem_range.mp hj
      rw [dif_pos (by omega)]
      refine Finset.sum_congr rfl fun r _ => ?_
      rw [← hw ⟨j, by omega⟩ r hj', ← exp2_scaled, ← hs ⟨j, by omega⟩ r hj']
    · intro j hj hj'
      have h8 := Finset.mem_range.mp hj
      rw [dif_pos h8]
      refine Finset.sum_eq_zero fun r _ => ?_
      rw [hlast ⟨j, h8⟩ r (by simpa using hj'), exp_bot_sub, mul_zero]
  rw [hA w v hw, hA (fun _ _ => 1) (fun _ => 1) (fun _ _ _ => rfl)]
  exact div_sum_eq S v hε

end Cert.Softmax

end
-- ==== Proof.Pay.lean ====
module

public import Idealize.ShloMosaic.Lib.Pointwise
public import proofs.«01_k».proof.Proof.Softmax
public import proofs.«01_k».proof.Proof.Gen.KernelIdeal.Skeleton

set_option maxRecDepth 16384

@[expose] public section

noncomputable section

namespace Cert.KernelIdeal.Pay

open Cert.KernelIdeal Cert.KernelIdeal.Gen Idealize.ShloMosaic Idealize.ShloMosaic.TcCoe Cert.Softmax

/-! ### One tile's arithmetic at an index

`q` holds the queries' latent parts by columns, `qr` their rotary parts; `a` and `b` are the tile's latents and its
rotary parts, a key a row. -/

/-- The factor of the scores: `1 / √96` and the change to base two. -/
def scale2 : EReal := (((Real.sqrt 96)⁻¹ * (Real.log 2)⁻¹ : ℝ) : EReal)

theorem named_scale2 : Named.named (F := Ideal) (φ := .f32) κ "scale2" 0x3E16C740#32 = scale2 :=
  IdealRules.named_const.ideal_named_scalar _ _ _ _ rfl

theorem named_mask : Named.named (F := Ideal) (φ := .f32) κ "mask" 0xF149F2CA#32 = (⊥ : EReal) :=
  IdealRules.named_const.ideal_named_scalar _ _ _ _ rfl

variable (q : FVec Ideal S256x4096 .bf16) (qr : FVec Ideal S128x4096 .bf16) (a : FVec Ideal S1x256x256 .f32)
  (b : FVec Ideal S1x256x128 .f32) (m l : FVec Ideal S1x4096 .f32)

/-- The scaled score of key `r` of the tile against column `c`. -/
def dotScore (r : Fin 256) (c : Fin 4096) : EReal :=
  ((∑ x : Fin 256, (a (ix3 0 r x) : EReal) * q (ix2 x c)) + ∑ x : Fin 128, (b (ix3 0 r x) : EReal) * qr (ix2 x c))
    * scale2

theorem pay7_apply (r : Fin 256) (c : Fin 4096) : k0_pay7 (F := Ideal) q qr a b (ix2 r c) = dotScore q qr a b r c := by
  rw [dotScore, ← named_scale2]
  pointwise [k0_pay7]

theorem pay9_apply (c : Fin 4096) :
    k0_pay9 (F := Ideal) q qr a b m (ix2 0 c)
      = max (m (ix2 0 c) : EReal) (Finset.univ.sup fun r : Fin 256 => dotScore q qr a b r c) := by
  simp only [← pay7_apply]
  pointwise [k0_pay9]
  rfl

theorem pay71_apply (c : Fin 4096) : k0_pay71 (F := Ideal) m (ix2 0 c) = m (ix2 0 c) := by
  pointwise [k0_pay71]

theorem pay10_apply (r : Fin 256) (c : Fin 4096) :
    k0_pay10 (F := Ideal) q qr a b m (ix2 r c)
      = Ideal.exp2 (dotScore q qr a b r c - k0_pay9 (F := Ideal) q qr a b m (ix2 0 c)) := by
  simp only [← pay7_apply]
  pointwise [k0_pay10]
  rfl

theorem pay12_apply (c : Fin 4096) :
    k0_pay12 (F := Ideal) q qr a b m l (ix2 0 c)
      = Ideal.exp2 ((m (ix2 0 c) : EReal) - k0_pay9 (F := Ideal) q qr a b m (ix2 0 c)) * l (ix2 0 c)
        + ∑ r : Fin 256, Ideal.exp2 (dotScore q qr a b r c - k0_pay9 (F := Ideal) q qr a b m (ix2 0 c)) := by
  simp only [← pay7_apply]
  pointwise [k0_pay12, k0_pay11, k0_pay10]
  rfl

theorem pay13_apply (acc : FVec Ideal S256x4096 .f32) (r : Fin 256) (c : Fin 4096) :
    k0_pay13 (F := Ideal) q qr a b m acc (ix2 r c)
      = Ideal.exp2 ((m (ix2 0 c) : EReal) - k0_pay9 (F := Ideal) q qr a b m (ix2 0 c)) * acc (ix2 r c) := by
  pointwise [k0_pay13, k0_pay11]
  rfl

theorem pay70_apply (t : FVec Ideal S1x256x256 .bf16) (p acc : FVec Ideal S256x4096 .f32) (r : Fin 256)
    (c : Fin 4096) :
    k0_pay70 (F := Ideal) (k0_pay8 t) p acc (ix2 r c)
      = (acc (ix2 r c) : EReal) + ∑ x : Fin 256, (t (ix3 0 r x) : EReal) * p (ix2 x c) := by
  pointwise [k0_pay70, k0_pay8]

/-- The masked score of the last tile: a key past the query's position is at `-∞`. -/
theorem pay75_apply (v0 v1 : BitVec 32) (r : Fin 256) (c : Fin 4096) :
    k0_pay75 (F := Ideal) v0 q qr v1 a b (ix2 r c)
      = dotScore q qr a b r c + Scalar.select (IntOp.cmpi CmpIPredicate.sle (IntOp.addi v1 (BitVec.ofNat 32 r.val))
          (IntOp.addi v0 (IntOp.andi (BitVec.ofNat 32 c.val) 255#32))) (0 : EReal) ⊥ := by
  rw [dotScore, ← named_scale2, ← named_mask]
  pointwise [k0_pay75]

theorem pay76_apply (v0 v1 : BitVec 32) (c : Fin 4096) :
    k0_pay76 (F := Ideal) v0 q qr v1 a b m (ix2 0 c)
      = max (m (ix2 0 c) : EReal) (Finset.univ.sup fun r : Fin 256 => (k0_pay75 (F := Ideal) v0 q qr v1 a b (ix2 r c) : EReal)) := by
  pointwise [k0_pay76]
  rfl

theorem pay77_apply (v0 v1 : BitVec 32) (r : Fin 256) (c : Fin 4096) :
    k0_pay77 (F := Ideal) v0 q qr v1 a b m (ix2 r c)
      = Ideal.exp2 ((k0_pay75 (F := Ideal) v0 q qr v1 a b (ix2 r c) : EReal) - k0_pay76 (F := Ideal) v0 q qr v1 a b m (ix2 0 c)) := by
  pointwise [k0_pay77]
  rfl

theorem pay80_apply (v0 v1 : BitVec 32) (c : Fin 4096) :
    k0_pay80 (F := Ideal) (k0_pay79 (F := Ideal) v0 q qr v1 a b m l) (ix2 0 c)
      = Ideal.exp2 ((m (ix2 0 c) : EReal) - k0_pay76 (F := Ideal) v0 q qr v1 a b m (ix2 0 c)) * l (ix2 0 c)
        + ∑ r : Fin 256, Ideal.exp2 ((k0_pay75 (F := Ideal) v0 q qr v1 a b (ix2 r c) : EReal)
            - k0_pay76 (F := Ideal) v0 q qr v1 a b m (ix2 0 c)) := by
  pointwise [k0_pay80, k0_pay79, k0_pay78, k0_pay77]
  rfl

theorem pay81_apply (v0 v1 : BitVec 32) (t : FVec Ideal S1x256x256 .bf16) (acc : FVec Ideal S256x4096 .f32)
    (r : Fin 256) (c : Fin 4096) :
    k0_pay81 (F := Ideal) (k0_pay74 t) (k0_pay77 (F := Ideal) v0 q qr v1 a b m) (k0_pay78 (F := Ideal) v0 q qr v1 a b m) acc (ix2 r c)
      = Ideal.exp2 ((m (ix2 0 c) : EReal) - k0_pay76 (F := Ideal) v0 q qr v1 a b m (ix2 0 c)) * acc (ix2 r c)
        + ∑ x : Fin 256, (t (ix3 0 r x) : EReal) * k0_pay77 (F := Ideal) v0 q qr v1 a b m (ix2 x c) := by
  pointwise [k0_pay81, k0_pay78, k0_pay74]
  rfl

theorem pay83_apply (acc : FVec Ideal S256x4096 .f32) (r : Fin 256) (c : Fin 4096) :
    k0_pay83 (F := Ideal) acc l (ix2 r c)
      = Ideal.div (acc (ix2 r c)) (max (l (ix2 0 c) : EReal) (Ideal.ofBits .f32 0x0DA24260#32)) := by
  pointwise [k0_pay83]

theorem pay67_apply (c : Fin 4096) : k0_pay67 (F := Ideal) k0_pay66 (ix2 0 c) = (⊥ : EReal) := by
  rw [← named_mask]
  pointwise [k0_pay67, k0_pay66]

theorem pay68_apply (c : Fin 4096) : k0_pay68 (F := Ideal) (ix2 0 c) = (0 : EReal) := by
  pointwise [k0_pay68]

theorem pay69_apply (r : Fin 256) (c : Fin 4096) : k0_pay69 (F := Ideal) (ix2 r c) = (0 : EReal) := by
  pointwise [k0_pay69]

end Cert.KernelIdeal.Pay

end
-- ==== Proof.Step.lean ====
module

public import proofs.«01_k».proof.Proof.Pay

set_option maxRecDepth 16384

@[expose] public section

noncomputable section

namespace Cert.KernelIdeal.Step

open Cert.KernelIdeal Cert.KernelIdeal.Gen Idealize.ShloMosaic Idealize.ShloMosaic.TcCoe Cert.Softmax Cert.KernelIdeal.Pay

/-! ### One tile is one step of the online softmax, in every column -/

/-- Key `r` of tile `j`, in the batch. -/
def keyAt (j : ℕ) (r : Fin 256) : Fin 2048 := ⟨(256 * j + r.val) % 2048, Nat.mod_lt _ (by norm_num)⟩

variable (q : FVec Ideal S256x4096 .bf16) (qr : FVec Ideal S128x4096 .bf16) (x2 : FVec Ideal S1x2048x256 .f32)
  (x3 : FVec Ideal S1x2048x128 .f32) (lct : FVec Ideal S8x256x256 .bf16)

/-- The scaled score of key `k` against column `c`. -/
def score (k : Fin 2048) (c : Fin 4096) : EReal :=
  ((∑ x : Fin 256, (x2 (ix3 0 k x) : EReal) * q (ix2 x c)) + ∑ x : Fin 128, (x3 (ix3 0 k x) : EReal) * qr (ix2 x c))
    * scale2

/-- The masked scores column `c` meets tile by tile; the column's query stands at `256 * qi + c % 256`. -/
def tScore (qi : ℕ) (c : Fin 4096) (j : ℕ) (r : Fin 256) : EReal :=
  score q qr x2 x3 (keyAt j r) c + if 256 * j + r.val ≤ 256 * qi + c.val % 256 then 0 else ⊥

/-- Feature `f` of the values, tile by tile. -/
def tVal (f : Fin 256) (j : ℕ) (r : Fin 256) : EReal := lct (ix3 ⟨j % 8, Nat.mod_lt _ (by norm_num)⟩ f r)

variable {q qr x2 x3 lct} {a : FVec Ideal S1x256x256 .f32} {b : FVec Ideal S1x256x128 .f32}
  {t : FVec Ideal S1x256x256 .bf16} {m l : FVec Ideal S1x4096 .f32} {acc : FVec Ideal S256x4096 .f32} {qi n : ℕ}

theorem dotScore_eq (ha : ∀ r x, a (ix3 0 r x) = x2 (ix3 0 (keyAt n r) x)) (hb : ∀ r x, b (ix3 0 r x) = x3 (ix3 0 (keyAt n r) x))
    (r : Fin 256) (c : Fin 4096) : dotScore q qr a b r c = score q qr x2 x3 (keyAt n r) c := by
  unfold dotScore score
  simp only [ha, hb]

/-- What the three carried arrays hold before tile `n`. -/
structure Inv (q : FVec Ideal S256x4096 .bf16) (qr : FVec Ideal S128x4096 .bf16) (x2 : FVec Ideal S1x2048x256 .f32)
    (x3 : FVec Ideal S1x2048x128 .f32) (lct : FVec Ideal S8x256x256 .bf16) (qi n : ℕ)
    (m l : FVec Ideal S1x4096 .f32) (acc : FVec Ideal S256x4096 .f32) : Prop where
  hm : ∀ c, m (ix2 0 c) = rowM (tScore q qr x2 x3 qi c) n
  hl : ∀ c, l (ix2 0 c) = rowA (tScore q qr x2 x3 qi c) (fun _ _ => 1) n
  ha : ∀ f c, acc (ix2 f c) = rowA (tScore q qr x2 x3 qi c) (tVal lct f) n

/-- Before the first tile: the maximum at `-∞`, the sums at zero. -/
theorem inv_zero : Inv q qr x2 x3 lct qi 0 (k0_pay67 (F := Ideal) k0_pay66) (k0_pay68 (F := Ideal)) (k0_pay69 (F := Ideal)) :=
  ⟨fun c => pay67_apply c, fun c => pay68_apply c, fun f c => pay69_apply f c⟩

/-- A tile before the query's own: no key of it is past any of its queries. -/
theorem inv_full (hn : n < qi) (ha : ∀ r x, a (ix3 0 r x) = x2 (ix3 0 (keyAt n r) x))
    (hb : ∀ r x, b (ix3 0 r x) = x3 (ix3 0 (keyAt n r) x))
    (ht : ∀ f r, t (ix3 0 f r) = lct (ix3 ⟨n % 8, Nat.mod_lt _ (by norm_num)⟩ f r))
    (h : Inv q qr x2 x3 lct qi n m l acc) :
    Inv q qr x2 x3 lct qi (n + 1) (k0_pay71 (F := Ideal) (k0_pay9 (F := Ideal) q qr a b m)) (k0_pay12 (F := Ideal) q qr a b m l)
      (k0_pay70 (F := Ideal) (k0_pay8 t) (k0_pay10 (F := Ideal) q qr a b m) (k0_pay13 (F := Ideal) q qr a b m acc)) := by
  have hs : ∀ r c, dotScore q qr a b r c = tScore q qr x2 x3 qi c n r := fun r c => by
    rw [dotScore_eq ha hb, tScore, if_pos (by omega), add_zero]
  have hM : ∀ c, k0_pay9 (F := Ideal) q qr a b m (ix2 0 c) = rowM (tScore q qr x2 x3 qi c) (n + 1) := fun c => by
    rw [pay9_apply, h.hm]
    simp only [hs]
    rfl
  refine ⟨fun c => by rw [pay71_apply, hM], fun c => ?_, fun f c => ?_⟩
  · rw [pay12_apply, hM, h.hm, h.hl]
    simp only [hs]
    simp only [rowA, one_mul]
  · rw [pay70_apply, pay13_apply, hM, h.hm, h.ha]
    simp only [pay10_apply, hs, hM, ht]
    rfl

/-- The query's own tile: the keys past a query are at `-∞`. -/
theorem inv_last {v0 v1 : BitVec 32}
    (hmask : ∀ (r : Fin 256) (c : Fin 4096), Scalar.select (IntOp.cmpi CmpIPredicate.sle (IntOp.addi v1 (BitVec.ofNat 32 r.val))
          (IntOp.addi v0 (IntOp.andi (BitVec.ofNat 32 c.val) 255#32))) (0 : EReal) ⊥
        = if 256 * qi + r.val ≤ 256 * qi + c.val % 256 then 0 else ⊥)
    (ha : ∀ r x, a (ix3 0 r x) = x2 (ix3 0 (keyAt qi r) x))
    (hb : ∀ r x, b (ix3 0 r x) = x3 (ix3 0 (keyAt qi r) x))
    (ht : ∀ f r, t (ix3 0 f r) = lct (ix3 ⟨qi % 8, Nat.mod_lt _ (by norm_num)⟩ f r))
    (h : Inv q qr x2 x3 lct qi qi m l acc) :
    (∀ c, k0_pay80 (F := Ideal) (k0_pay79 (F := Ideal) v0 q qr v1 a b m l) (ix2 0 c)
        = rowA (tScore q qr x2 x3 qi c) (fun _ _ => 1) (qi + 1))
      ∧ ∀ f c, k0_pay81 (F := Ideal) (k0_pay74 t) (k0_pay77 (F := Ideal) v0 q qr v1 a b m)
          (k0_pay78 (F := Ideal) v0 q qr v1 a b m) acc (ix2 f c)
        = rowA (tScore q qr x2 x3 qi c) (tVal lct f) (qi + 1) := by
  have hs : ∀ r c, k0_pay75 (F := Ideal) v0 q qr v1 a b (ix2 r c) = tScore q qr x2 x3 qi c qi r := fun r c => by
    rw [pay75_apply, dotScore_eq ha hb, hmask, tScore]
  have hM : ∀ c, k0_pay76 (F := Ideal) v0 q qr v1 a b m (ix2 0 c) = rowM (tScore q qr x2 x3 qi c) (qi + 1) := fun c => by
    rw [pay76_apply, h.hm]
    simp only [hs]
    rfl
  refine ⟨fun c => ?_, fun f c => ?_⟩
  · rw [pay80_apply, hM, h.hm, h.hl]
    simp only [hs]
    simp only [rowA, one_mul]
  · rw [pay81_apply, hM, h.hm, h.ha]
    simp only [pay77_apply, hs, hM, ht]
    rfl

/-- The comparison the last tile makes on words is the one on positions. -/
theorem mask_eq (qi : ℕ) (hqi : qi < 8) (r : Fin 256) (c : Fin 4096) :
    Scalar.select (IntOp.cmpi CmpIPredicate.sle (IntOp.addi (BitVec.ofNat 32 (256 * qi)) (BitVec.ofNat 32 r.val))
        (IntOp.addi (BitVec.ofNat 32 (256 * qi)) (IntOp.andi (BitVec.ofNat 32 c.val) 255#32))) (0 : EReal) ⊥
      = if 256 * qi + r.val ≤ 256 * qi + c.val % 256 then 0 else ⊥ := by
  have hand : IntOp.andi (BitVec.ofNat 32 c.val) 255#32 = BitVec.ofNat 32 (c.val % 256) := by
    apply BitVec.eq_of_toNat_eq
    change (BitVec.ofNat 32 c.val &&& 255#32).toNat = _
    rw [BitVec.toNat_and, BitVec.toNat_ofNat, BitVec.toNat_ofNat, BitVec.toNat_ofNat,
      Nat.mod_eq_of_lt (by omega : c.val < 2 ^ 32), Nat.mod_eq_of_lt (by omega : c.val % 256 < 2 ^ 32),
      show 255 % 2 ^ 32 = 2 ^ 8 - 1 from rfl, Nat.and_two_pow_sub_one_eq_mod]
  rw [hand]
  have hb : IntOp.cmpi CmpIPredicate.sle (IntOp.addi (BitVec.ofNat 32 (256 * qi)) (BitVec.ofNat 32 r.val))
      (IntOp.addi (BitVec.ofNat 32 (256 * qi)) (BitVec.ofNat 32 (c.val % 256)))
      = BitVec.ofBool (decide (256 * qi + r.val ≤ 256 * qi + c.val % 256)) := by
    change BitVec.ofBool ((BitVec.ofNat 32 (256 * qi) + BitVec.ofNat 32 r.val).sle
      (BitVec.ofNat 32 (256 * qi) + BitVec.ofNat 32 (c.val % 256))) = _
    rw [← BitVec.ofNat_add, ← BitVec.ofNat_add, BitVec.sle_eq_decide,
      BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    congr 1
    simp only [Nat.cast_le]
  rw [hb]
  by_cases h : 256 * qi + r.val ≤ 256 * qi + c.val % 256
  · rw [if_pos h, decide_eq_true h]; rfl
  · rw [if_neg h, decide_eq_false h]; rfl

end Cert.KernelIdeal.Step

end
-- ==== Proof.Trip.lean ====
module

public import proofs.«01_k».proof.Proof.Step
public import proofs.«01_k».proof.Proof.Gen.KernelIdeal.Frame

set_option maxRecDepth 16384

@[expose] public section

noncomputable section

namespace Cert.KernelIdeal.Trip

open Cert.KernelIdeal Cert.KernelIdeal.Gen Idealize.ShloMosaic Idealize.ShloMosaic.TcCoe Idealize.SL.Sem
open Cert.KernelIdeal.Step

/-! ### The loop over the tiles before the query's own -/

/-- It makes as many trips as there are tiles before the query's. -/
theorem trips1 : ∀ i : grid0.Coords, (k0_t1_loop i).trips = (i 1).val := by decide +kernel

/-- The loop over the remainder makes none. -/
theorem trips2 : ∀ i : grid0.Coords, (k0_t2_loop i).trips = 0 := by decide +kernel

theorem hz : (![0, 0] : Fin 2 → Nat) = fun _ => 0 := funext fun a => by fin_cases a <;> rfl

/-- The latents of tile `k`, read out of the batch's block. -/
theorem ld_lat (x2 : FVec Ideal S1x2048x256 .f32) {off : Fin 3 → ℕ} (inb) {k : ℕ} (hoff : off = ![0, 256 * k, 0]) (hk : k < 8)
    (r x : Fin 256) :
    View.ld (Val := Elt Ideal) (e' := .f32) x2 (Rect.unit off S1x256x256.size inb : Rect S1x2048x256) (ix3 0 r x) = x2 (ix3 0 (keyAt k r) x) := by
  subst hoff
  unfold View.ld
  congr 1
  funext a
  apply Fin.ext
  match a with
  | ⟨0, _⟩ => rfl
  | ⟨1, _⟩ => change 256 * k + 1 * r.val = (256 * k + r.val) % 2048; omega
  | ⟨2, _⟩ => change 0 + 1 * x.val = x.val; omega

/-- Its rotary parts. -/
theorem ld_rope (x3 : FVec Ideal S1x2048x128 .f32) {off : Fin 3 → ℕ} (inb) {k : ℕ} (hoff : off = ![0, 256 * k, 0]) (hk : k < 8)
    (r : Fin 256) (x : Fin 128) :
    View.ld (Val := Elt Ideal) (e' := .f32) x3 (Rect.unit off S1x256x128.size inb : Rect S1x2048x128) (ix3 0 r x) = x3 (ix3 0 (keyAt k r) x) := by
  subst hoff
  unfold View.ld
  congr 1
  funext a
  apply Fin.ext
  match a with
  | ⟨0, _⟩ => rfl
  | ⟨1, _⟩ => change 256 * k + 1 * r.val = (256 * k + r.val) % 2048; omega
  | ⟨2, _⟩ => change 0 + 1 * x.val = x.val; omega

/-- Its latents laid out by columns, read out of the carried array. -/
theorem ld_col (lct : FVec Ideal S8x256x256 .bf16) {off : Fin 3 → ℕ} (inb) {k : ℕ} (hoff : off = ![k, 0, 0]) (hk : k < 8)
    (f r : Fin 256) :
    View.ld (Val := Elt Ideal) (e' := .bf16) lct (Rect.unit off S1x256x256.size inb : Rect S8x256x256) (ix3 0 f r)
      = lct (ix3 ⟨k % 8, Nat.mod_lt _ (by norm_num)⟩ f r) := by
  subst hoff
  unfold View.ld
  congr 1
  funext a
  apply Fin.ext
  match a with
  | ⟨0, _⟩ => change k + 1 * 0 = k % 8; omega
  | ⟨1, _⟩ => change 0 + 1 * f.val = f.val; omega
  | ⟨2, _⟩ => change 0 + 1 * r.val = r.val; omega

/-- A store of a whole two-dimensional array, last, is what is read back. -/
theorem read_whole {S : Shape} {e : EltTy} {sig : RefSig} {κ : Kind} {sp : Space} (v : View sig κ sp S e)
    (f : v.ty.Contents (Elt Ideal)) {off : Fin S.rank → Nat} (h : off = fun _ => 0)
    (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  rw [View.read_writes_eq_canon _ _ _ (fun y => ⟨_, List.mem_cons_self, View.mem_set_unit_zero h inb y⟩),
    View.canon_cons_unit_zero h]

section

variable (𝒱 : Variants) (c : Dev nD) (bd : Option 𝒱.V) (i : grid0.Coords) (arg2 : Memref sig .tc .vmem S1x256x4096 .bf16) (harg2 : arg2.IsWhole) (arg3 : Memref sig .tc .vmem S1x256x512 .bf16) (harg3 : arg3.IsWhole) (arg4 : Memref sig .tc .vmem S1x2048x256 .f32) (harg4 : arg4.IsWhole) (arg5 : Memref sig .tc .vmem S1x2048x128 .f32) (harg5 : arg5.IsWhole) (arg6 : Memref sig .tc .vmem S1x256x4096 .bf16) (harg6 : arg6.IsWhole) (arg7 : Memref sig .tc .vmem S8x256x256 .bf16) (harg7 : arg7.IsWhole) (arg8 : Memref sig .tc .vmem S256x4096 .bf16) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S256x4096 .f32) (harg12 : arg12.IsWhole) (v0 : BitVec 32) (v245 : Vec Ideal S256x4096 .bf16) (v246 : Vec Ideal S128x4096 .bf16) (v247 : FVec Ideal S1x4096 .f32) (X4 : BufTy.Contents (Elt Ideal) arg4.view.ty) (X5 : BufTy.Contents (Elt Ideal) arg5.view.ty) (X7 : BufTy.Contents (Elt Ideal) arg7.view.ty)

/-- What one trip stores: each carried array whole, once. -/
theorem trip_eq (k : Fin (k0_t1_loop i).trips) (f10 : BufTy.Contents (Elt Ideal) arg10.view.ty)
    (f11 : BufTy.Contents (Elt Ideal) arg11.view.ty) (f12 : BufTy.Contents (Elt Ideal) arg12.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 v0 v245 v246 v247 X4 X5 X7 k f10 f11 f12
      = (let a := View.readAt (Elt Ideal) arg4.view (Rect.unit (k0_off1 i k) S1x256x256.size (k0_off1_inb i k) : Rect S1x2048x256).toLoadRect X4
         let b := View.readAt (Elt Ideal) arg5.view (Rect.unit (k0_off2 i k) S1x256x128.size (k0_off2_inb i k) : Rect S1x2048x128).toLoadRect X5
         let t := View.readAt (Elt Ideal) arg7.view (Rect.unit (k0_off3 i k) S1x256x256.size (k0_off3_inb i k) : Rect S8x256x256).toLoadRect X7
         let m := View.readAt (Elt Ideal) arg10.view (Rect.unit ![0, 0] S1x4096.size inb_S1x4096_S1x4096_0_0 : Rect S1x4096).toLoadRect f10
         let l := View.readAt (Elt Ideal) arg11.view (Rect.unit ![0, 0] S1x4096.size inb_S1x4096_S1x4096_0_0 : Rect S1x4096).toLoadRect f11
         let acc := View.readAt (Elt Ideal) arg12.view (Rect.unit ![0, 0] S256x4096.size inb_S256x4096_S256x4096_0_0 : Rect S256x4096).toLoadRect f12
         ([⟨Rect.unit ![0, 0] S1x4096.size inb_S1x4096_S1x4096_0_0, k0_pay71 (k0_pay9 v245 v246 a b m)⟩],
          [⟨Rect.unit ![0, 0] S1x4096.size inb_S1x4096_S1x4096_0_0, k0_pay12 v245 v246 a b m l⟩],
          [⟨Rect.unit ![0, 0] S256x4096.size inb_S256x4096_S256x4096_0_0,
            k0_pay70 (k0_pay8 t) (k0_pay10 v245 v246 a b m) (k0_pay13 v245 v246 a b m acc)⟩])) := by
  unfold tripL_k0_t1 trip_k0_t1
  dsimp only
  rfl

/-- Before trip `n` the three carried arrays are the online softmax after `n` tiles. -/
theorem loop_inv (x2 : FVec Ideal S1x2048x256 .f32) (x3 : FVec Ideal S1x2048x128 .f32) (lct : FVec Ideal S8x256x256 .bf16)
    (h4 : arg4.view.read (Elt Ideal) X4 = x2) (h5 : arg5.view.read (Elt Ideal) X5 = x3) (h7 : arg7.view.read (Elt Ideal) X7 = lct)
    (G10 : BufTy.Contents (Elt Ideal) arg10.view.ty) (G11 : BufTy.Contents (Elt Ideal) arg11.view.ty)
    (G12 : BufTy.Contents (Elt Ideal) arg12.view.ty)
    (h0 : Inv v245 v246 x2 x3 lct (i 1).val 0 (arg10.view.read (Elt Ideal) G10) (arg11.view.read (Elt Ideal) G11)
      (arg12.view.read (Elt Ideal) G12)) :
    ∀ n, n ≤ (i 1).val →
      Inv v245 v246 x2 x3 lct (i 1).val n
        (arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 v0 v245 v246 v247 X4 X5 X7 G10 G11 G12 n).1))
        (arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 v0 v245 v246 v247 X4 X5 X7 G10 G11 G12 n).2.1))
        (arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 v0 v245 v246 v247 X4 X5 X7 G10 G11 G12 n).2.2)) := by
  intro n
  induction n with
  | zero => intro _; exact h0
  | succ n ih =>
    intro hn
    have ihn := ih (Nat.le_of_succ_le hn)
    have hlt : n < (i 1).val := hn
    have h8 : n < 8 := lt_of_lt_of_le hlt (i 1).isLt.le
    have hk : n < (k0_t1_loop i).trips := by rw [trips1]; exact hlt
    have e := pb_k0_t1_succ (F := Ideal) 𝒱 c bd i arg2 harg2 arg3 harg3 arg4 harg4 arg5 harg5 arg6 harg6 arg7 harg7 arg8 harg8 arg9 harg9 arg10 harg10 arg11 harg11 arg12 harg12 v0 v245 v246 v247 X4 X5 X7 G10 G11 G12 ⟨n, hk⟩
    rw [trip_eq] at e
    rw [e]
    dsimp only
    rw [List.singleton_append, List.singleton_append, List.singleton_append, read_whole _ _ hz, read_whole _ _ hz, read_whole _ _ hz]
    simp only [View.readAt_eq_ld, View.ld_unit_zero (S := S1x4096) hz, View.ld_unit_zero (S := S256x4096) hz, h4, h5, h7]
    exact inv_full hlt (fun r x => ld_lat x2 _ (k0_off1_eq i ⟨n, hk⟩) h8 r x) (fun r x => ld_rope x3 _ (k0_off2_eq i ⟨n, hk⟩) h8 r x)
      (fun f r => ld_col lct _ (k0_off3_eq i ⟨n, hk⟩) h8 f r) ihn

end

end Cert.KernelIdeal.Trip

end
-- ==== Proof.Kv.Value.lean ====
/- What the keys' and values' projection writes: every point's tile, and the whole array. -/
module

public import proofs.«01_k».proof.Proof.Kv.Blocks
public import proofs.«01_k».proof.Proof.Trip

@[expose] public section

set_option maxRecDepth 16384

noncomputable section

namespace Cert.Kernel4Ideal.Kv

open Cert.Kernel4Ideal Cert.Kernel4Ideal.Gen Cert.Kernel4Ideal.Value Cert.FfnSpec Cert.KvSpec
open Idealize.ShloMosaic Idealize.ShloMosaic.TcCoe Idealize.SL.Sem
open Cert.KernelIdeal.Trip (hz read_whole)

/-! ### What a point leaves, at either kind of point -/

theorem hz3 : (![0, 0, 0] : Fin 3 → Nat) = fun _ => 0 := funext fun a => by fin_cases a <;> rfl

/-- A read of a whole two-dimensional array. -/
theorem whole2 {d : Fin 2 → Nat} {e : EltTy} {sig : RefSig} {κ : Kind} {sp : Space} (a : Memref sig κ sp ⟨2, d⟩ e) (ha : a.IsWhole)
    (inb : ∀ k, (![0, 0] : Fin 2 → Nat) k + d k ≤ d k) (x : (⟨2, d⟩ : Shape).Idx → Elt Ideal e) :
    View.readAt (Elt Ideal) a.view (Rect.unit ![0, 0] d inb : Rect ⟨2, d⟩).toLoadRect (ha.unread x) = x := by
  rw [View.readAt_eq_ld, ha.read_unread, View.ld_unit_zero hz]

section

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1024x256 .f32) (harg7 : arg7.IsWhole) (arg8 : Memref sig .tc .vmem S1024x1024 .bf16) (harg8 : arg8.IsWhole)
  (x0 : Vec Ideal S1024x1024 .f32) (x1 : Vec Ideal S1x1024 .f32) (x2 : Vec Ideal S1024x256 .bf16) (x3 x4 : Vec Ideal S1024x128 .f32) (xs0 : Vec Ideal S1024x1024 .bf16)

/-- The point's normalised rows, read back from where they were just stored. -/
theorem stored_eq : kernelRun0_A.sl.v3 (F := Ideal) c arg2 harg2 arg3 harg3 arg8 x0 x1 = k0_pay1 (F := Ideal) x0 x1 := by
  unfold kernelRun0_A.sl.v3 kernelRun0_A.sl.HS0_1
  rw [View.readCov_cons_toLoadRect, whole2 arg2 harg2, whole2 arg3 harg3]

theorem sout_A (hc0) :
    sout0_A_0 (F := Ideal) c i arg2 harg2 arg3 harg3 arg4 harg4 arg5 harg5 arg6 harg6 arg7 harg7 arg8 harg8 hc0 x0 x1 x2 x3 x4 = k0_pay1 (F := Ideal) x0 x1 := by
  unfold sout0_A_0 kernelRun0_A
  dsimp only
  unfold kernelRun0_A.sl.HS0_1
  rw [read_whole (S := S1024x1024) _ _ hz, whole2 arg2 harg2, whole2 arg3 harg3]

theorem out_A (hc0) :
    out0_A_5 (F := Ideal) c i arg2 harg2 arg3 harg3 arg4 harg4 arg5 harg5 arg6 harg6 arg7 harg7 arg8 harg8 hc0 x0 x1 x2 x3 x4 = k0_pay2 (F := Ideal) (k0_pay1 (F := Ideal) x0 x1) x2 x3 x4 := by
  unfold out0_A_5 kernelRun0_A
  dsimp only
  rw [read_whole (S := S1x1024x256) _ _ hz3, stored_eq, whole2 arg4 harg4, whole2 arg5 harg5, whole2 arg6 harg6]

theorem out_B (hc0) :
    out0_B_5 (F := Ideal) c i arg2 harg2 arg3 harg3 arg4 harg4 arg5 harg5 arg6 harg6 arg7 harg7 arg8 harg8 hc0 x0 x1 x2 x3 x4 xs0 = k0_pay2 (F := Ideal) xs0 x2 x3 x4 := by
  unfold out0_B_5 kernelRun0_B
  dsimp only
  rw [read_whole (S := S1x1024x256) _ _ hz3, whole2 arg8 harg8, whole2 arg4 harg4, whole2 arg5 harg5, whole2 arg6 harg6]

end

variable (m : (ℓ : Loc nD τ sig) → Buf (Elt Ideal) ℓ) (c : Dev nD)

/-- The three arguments. -/
abbrev a0 : (⟨2, ![32768, 1024]⟩ : Shape).Idx → EReal := m ((c.tc : Thread nD τ).loc main_arg0)
abbrev a1 : (⟨1, ![1024]⟩ : Shape).Idx → EReal := m ((c.tc : Thread nD τ).loc main_arg1)
abbrev a2 : (⟨2, ![1024, 768]⟩ : Shape).Idx → EReal := m ((c.tc : Thread nD τ).loc main_arg2)

/-- The normalised rows of tile `n / 3`. -/
def rows (n : ℕ) (hn : n < cfg0.N) : Vec Ideal S1024x1024 .bf16 := fun y =>
  rmsNorm (fun a => a0 m c (ix2 (rowOf ⟨n, hn⟩ (y 0)) a)) (fun a => a1 m c (ix1 a)) (y 1)

theorem pay1_rows (t : Fin cfg0.N) : k0_pay1 (F := Ideal) (iblk m c 0 t) (iblk m c 1 t) = rows m c t.val t.isLt := by
  funext y
  obtain ⟨x, k, rfl⟩ : ∃ (x k : Fin 1024), y = ix2 x k := ⟨y 0, y 1, eq_ix2 y⟩
  rw [pay1_apply]
  exact congrArg₂ (fun f g => rmsNorm f g k) (funext fun a => blk0 m c t x a) (funext fun a => blk1 m c t a)

/-- After every point the carried rows are its tile's. -/
theorem carried_eq : ∀ (n : ℕ) (hn : n < cfg0.N), (outsAt0 m c n hn).2 = rows m c n hn := by
  intro n
  induction n with
  | zero =>
    intro hn
    rw [show outsAt0 m c 0 hn = _ from outsAt0_A m c ⟨0, hn⟩ (Nat.zero_mod _)]
    dsimp only
    rw [sout_A, pay1_rows]
  | succ n ih =>
    intro hn
    by_cases h0 : (n + 1) % 3 = 0
    · rw [show outsAt0 m c (n + 1) hn = _ from outsAt0_A m c ⟨n + 1, hn⟩ h0]
      dsimp only
      rw [sout_A, pay1_rows]
    · rw [show outsAt0 m c (n + 1) hn = _ from outsAt0_B m c ⟨n + 1, hn⟩ h0]
      dsimp only
      unfold sout0_B_0
      rw [show (outsAt0 m c (n + 1 - 1) _).2 = (outsAt0 m c n (Nat.lt_of_succ_lt hn)).2 from rfl, ih]
      unfold rows rowOf
      simp only [show n / 3 = (n + 1) / 3 from by omega]

/-- What a point writes. -/
theorem out_eq (t : Fin cfg0.N) :
    (outsAt0 m c t.val t.isLt).1 = k0_pay2 (F := Ideal) (rows m c t.val t.isLt) (iblk m c 2 t) (iblk m c 3 t) (iblk m c 4 t) := by
  by_cases h0 : t.val % 3 = 0
  · rw [outsAt0_A m c t h0]
    dsimp only
    rw [out_A, pay1_rows]
  · rw [outsAt0_B m c t h0]
    dsimp only
    rw [out_B, carried_eq]
    congr 1
    unfold rows rowOf
    simp only [show (t.val - 1) / 3 = t.val / 3 from by omega]

/-! ### A point's tile as the specification -/

variable (t : Fin cfg0.N) (x : Fin 1024)

theorem prod_eq (f : Fin 256) : prod (rows m c t.val t.isLt) (iblk m c 2 t) x f
    = proj (a0 m c) (a1 m c) (a2 m c) (planeOf t) (rowOf t x) f :=
  Finset.sum_congr rfl fun k _ => congrArg₂ (· * ·) rfl (blk2 m c t k f)

theorem pos_eq : pos (rowOf t x) = posOf t x :=
  Fin.ext (by change (1024 * (t.val / 3) + x.val) % 2048 = 1024 * (t.val / 3 % 2) + x.val; omega)

/-- A point's tile is a block of the specification's plane. -/
theorem tile_eq (f : Fin 256) :
    k0_pay2 (F := Ideal) (rows m c t.val t.isLt) (iblk m c 2 t) (iblk m c 3 t) (iblk m c 4 t) (ix3 0 x f)
      = kv (a0 m c) (a1 m c) (a2 m c) cosAt sinAt (planeOf t) (rowOf t x) f := by
  unfold kv
  rw [pos_eq]
  by_cases hf : f.val < 128
  · rw [dif_pos hf]
    refine (pay2_key _ _ _ _ x ⟨f.val, hf⟩).trans ?_
    rw [blk3, blk4]
    simp only [prod_eq]
    by_cases hl : f.val % 64 < 32
    · rw [if_pos hl, if_pos hl, dif_pos hl]
      simp only [show (f.val + 32) % 128 = f.val + 32 from by omega]
      rw [mul_neg, ← sub_eq_add_neg]
    · rw [if_neg hl, if_neg hl, dif_neg hl]
      simp only [show (f.val + 96) % 128 = f.val - 32 from by omega]
      exact add_comm _ _
  · rw [dif_neg hf]
    have e := (pay2_value (rows m c t.val t.isLt) (iblk m c 2 t) (iblk m c 3 t) (iblk m c 4 t) x ⟨f.val - 128, by omega⟩).trans (prod_eq m c t x _)
    simp only [show 128 + (f.val - 128) = f.val from by omega] at e
    exact e

/-- The kernel's array. -/
theorem result_apply (p : Fin 3) (r : Fin 32768) (f : Fin 256) : G5 m c (ix3 p r f)
    = kv (a0 m c) (a1 m c) (a2 m c) cosAt sinAt p r f := by
  have hp : pt5Of (ix3 p r f) = p.val + 3 * (r.val / 1024) := by
    change 1 * (p.val / 1 - 0) + 3 * (r.val / 1024 - 0) + 96 * (f.val / 256 - 0) = _
    omega
  have hN : pt5Of (ix3 p r f) < cfg0.N := by refine lt_of_lt_of_eq ?_ N_0.symm; rw [hp]; omega
  unfold G5
  rw [dif_pos hN, ← outsAt0_sweep m c _ hN]
  have ho := out_eq m c ⟨pt5Of (ix3 p r f), hN⟩
  dsimp only at ho
  rw [ho]
  have key := tile_eq m c ⟨pt5Of (ix3 p r f), hN⟩ ⟨r.val % 1024, by omega⟩ f
  rw [show planeOf ⟨pt5Of (ix3 p r f), hN⟩ = p from Fin.ext (by change pt5Of (ix3 p r f) % 3 = p.val; rw [hp]; omega),
    show rowOf ⟨pt5Of (ix3 p r f), hN⟩ ⟨r.val % 1024, by omega⟩ = r from
      Fin.ext (by change 1024 * (pt5Of (ix3 p r f) / 3) + r.val % 1024 = r.val; rw [hp]; omega)] at key
  rw [← key]
  congr 1
  funext a
  apply Fin.ext
  match a with
  | ⟨0, _⟩ => change p.val % 1 = 0; omega
  | ⟨1, _⟩ => rfl
  | ⟨2, _⟩ => change f.val % 256 = f.val; omega

end Cert.Kernel4Ideal.Kv

end
-- ==== Proof.Kv.Reference.lean ====
/- The keys' and values' reference, entry by entry. -/
module

public import proofs.«01_k».proof.Proof.Gen.Reference4Ideal.Read
public import proofs.«01_k».proof.Proof.FfnReference
public import proofs.«01_k».proof.Proof.Kv.Blocks

set_option maxRecDepth 16384

@[expose] public section

noncomputable section

namespace Cert.Reference4Ideal.Kv

open Cert.Reference4Ideal Cert.Reference4Ideal.Gen Cert.Reference4Ideal.Read Idealize.ShloMosaic Idealize.ShloMosaic.TcCoe Idealize.SL.Sem
open Cert.FfnSpec Cert.KvSpec
open Cert.Reference2Ideal.Ffn (rowAt)
open Cert.Kernel4Ideal.Kv (cosAt sinAt)

variable (H : (⟨S32768x1024, .f32⟩ : BufTy).Contents (Elt Ideal)) (G : (⟨S1024, .f32⟩ : BufTy).Contents (Elt Ideal))
  (W : (⟨S1024x768, .bf16⟩ : BufTy).Contents (Elt Ideal))

/-- The normalised rows are those of the feed-forward reference. -/
theorem stage_eq : val_main_v13 (F := Ideal) H G = Cert.Reference2Ideal.Read.val_main_v13 (F := Ideal) H G := rfl

variable (b : Fin 16) (s : Fin 2048)

theorem proj_apply (p : Fin 3) (f : Fin 256) : val_main_v15 (F := Ideal) H G W (ix3 b s ⟨256 * p.val + f.val, by omega⟩)
    = proj H G W p (rowAt b s) f := by
  rw [val_main_v15_apply]
  refine Finset.sum_congr rfl fun k _ => ?_
  rw [show lidx_main_v15 (ix3 b s (⟨256 * p.val + f.val, by omega⟩ : Fin 768)) k = ix3 b s k from eq_ix3 _,
    show ridx_main_v15 (ix3 b s (⟨256 * p.val + f.val, by omega⟩ : Fin 768)) k = ix2 k ⟨256 * p.val + f.val, by omega⟩ from eq_ix2 _,
    stage_eq, Cert.Reference2Ideal.Ffn.norm_apply, val_main_v14_apply]
  rfl

/-- The keys of head `2 p + g`, the columns from `64 g` of plane `p`. -/
theorem keys_apply (p : Fin 3) (g : Fin 2) (l : Fin 64) : val_main_v20 (F := Ideal) H G W (ix4 b s ⟨p.val * 2 + g.val, by omega⟩ l)
    = proj H G W p (rowAt b s) ⟨64 * g.val + l.val, by omega⟩ := by
  rw [← proj_apply]
  unfold val_main_v20 val_main_v19 val_main_v18 val_main_v16
  generalize val_main_v15 (F := Ideal) H G W = y
  pointwise
  congr 2
  apply Fin.ext
  simp only
  omega

variable (p : Fin 3) (g : Fin 2) (l : Fin 32)

theorem low_apply : val_main_v37 (F := Ideal) H G W (ix4 b s ⟨p.val * 2 + g.val, by omega⟩ l)
    = proj H G W p (rowAt b s) ⟨64 * g.val + l.val, by omega⟩ := by
  rw [val_main_v37_apply, ← keys_apply H G W b s p g ⟨l.val, by omega⟩]
  exact congrArg _ (eq_ix4 _)

theorem high_apply : val_main_v38 (F := Ideal) H G W (ix4 b s ⟨p.val * 2 + g.val, by omega⟩ l)
    = proj H G W p (rowAt b s) ⟨64 * g.val + l.val + 32, by omega⟩ := by
  rw [val_main_v38_apply]
  refine Eq.trans (congrArg _ ((eq_ix4 _).trans ?_)) (keys_apply H G W b s p g ⟨l.val + 32, by omega⟩)
  exact congrArg _ (Fin.ext (Nat.add_comm 32 l.val))

/-- The first half of a head's rotated keys. -/
theorem rotLow_apply : val_main_v45 (F := Ideal) H G W (ix4 b s ⟨p.val * 2 + g.val, by omega⟩ l)
    = proj H G W p (rowAt b s) ⟨64 * g.val + l.val, by omega⟩ * cosAt s l
      - proj H G W p (rowAt b s) ⟨64 * g.val + l.val + 32, by omega⟩ * sinAt s l := by
  rw [val_main_v45_apply, val_main_v41_apply, val_main_v44_apply, low_apply, high_apply, val_main_v40_apply, val_main_v39_apply,
    val_main_v34_apply, val_main_v43_apply, val_main_v42_apply, val_main_v36_apply, cosAt, sinAt]
  congr 2 <;> exact congrArg _ (eq_ix2 _)

/-- The second half. -/
theorem rotHigh_apply : val_main_v52 (F := Ideal) H G W (ix4 b s ⟨p.val * 2 + g.val, by omega⟩ l)
    = proj H G W p (rowAt b s) ⟨64 * g.val + l.val, by omega⟩ * sinAt s l
      + proj H G W p (rowAt b s) ⟨64 * g.val + l.val + 32, by omega⟩ * cosAt s l := by
  rw [val_main_v52_apply, val_main_v48_apply, val_main_v51_apply, low_apply, high_apply, val_main_v47_apply, val_main_v46_apply,
    val_main_v36_apply, val_main_v50_apply, val_main_v49_apply, val_main_v34_apply, cosAt, sinAt]
  congr 2 <;> exact congrArg _ (eq_ix2 _)

/-- The reference's array from the rotated halves and the product. -/
theorem stack_apply (r : Fin 32768) (f : Fin 256) : val_main_v61 (F := Ideal) H G W (ix3 p r f)
    = if h : f.val / 128 < 1 then
        if h' : f.val % 64 < 32 then
          val_main_v45 (F := Ideal) H G W (ix4 ⟨r.val / 2048, by omega⟩ ⟨r.val % 2048, by omega⟩ ⟨p.val * 2 + f.val / 64 % 2, by omega⟩
            ⟨f.val % 64, by omega⟩)
        else
          val_main_v52 (F := Ideal) H G W (ix4 ⟨r.val / 2048, by omega⟩ ⟨r.val % 2048, by omega⟩ ⟨p.val * 2 + f.val / 64 % 2, by omega⟩
            ⟨f.val % 64 - 32, by omega⟩)
      else val_main_v15 (F := Ideal) H G W (ix3 ⟨r.val / 2048, by omega⟩ ⟨r.val % 2048, by omega⟩
        ⟨p.val * 256 + 128 + f.val / 64 % 2 * 64 + f.val % 64, by omega⟩) := by
  unfold val_main_v61 val_main_v60 val_main_v59 val_main_v57 val_main_v58 val_main_v56 val_main_v55 val_main_v54 val_main_v53 val_main_v16
  generalize val_main_v15 (F := Ideal) H G W = y
  generalize val_main_v45 (F := Ideal) H G W = u
  generalize val_main_v52 (F := Ideal) H G W = v
  pointwise

/-- The reference's array. -/
theorem result_apply (r : Fin 32768) (f : Fin 256) : val_main_v61 (F := Ideal) H G W (ix3 p r f)
    = kv H G W cosAt sinAt p r f := by
  have hr : rowAt ⟨r.val / 2048, by omega⟩ ⟨r.val % 2048, by omega⟩ = r :=
    Fin.ext (by change 2048 * (r.val / 2048) + r.val % 2048 = r.val; omega)
  refine (stack_apply H G W p r f).trans ?_
  unfold kv pos
  by_cases hf : f.val < 128
  · refine (dif_pos (by omega)).trans (Eq.trans ?_ (dif_pos hf).symm)
    by_cases hl : f.val % 64 < 32
    · refine (dif_pos hl).trans (Eq.trans ?_ (dif_pos hl).symm)
      refine (rotLow_apply H G W ⟨r.val / 2048, by omega⟩ ⟨r.val % 2048, by omega⟩ p ⟨f.val / 64 % 2, by omega⟩ ⟨f.val % 64, hl⟩).trans ?_
      simp only [hr, show f.val % 64 = f.val % 32 from by omega, show 64 * (f.val / 64 % 2) + f.val % 32 = f.val from by omega]
    · refine (dif_neg hl).trans (Eq.trans ?_ (dif_neg hl).symm)
      refine (rotHigh_apply H G W ⟨r.val / 2048, by omega⟩ ⟨r.val % 2048, by omega⟩ p ⟨f.val / 64 % 2, by omega⟩
        ⟨f.val % 64 - 32, by omega⟩).trans ?_
      simp only [hr, show f.val % 64 - 32 = f.val % 32 from by omega,
        show 64 * (f.val / 64 % 2) + f.val % 32 = f.val - 32 from by omega, show f.val - 32 + 32 = f.val from by omega]
  · refine (dif_neg (by omega)).trans (Eq.trans ?_ (dif_neg hf).symm)
    have e := proj_apply H G W ⟨r.val / 2048, by omega⟩ ⟨r.val % 2048, by omega⟩ p f
    rw [hr] at e
    rw [← e]
    simp only [show p.val * 256 + 128 + f.val / 64 % 2 * 64 + f.val % 64 = 256 * p.val + f.val from by omega]

end Cert.Reference4Ideal.Kv

end
-- ==== Proof.Lat.Spec.lean ====
/- The latent attention's input projection: the normed latents of queries and keys and the rotated key, entry by entry. -/
module

public import proofs.«01_k».proof.Proof.FfnSpec

@[expose] public section

noncomputable section

namespace Cert.LatSpec

open Idealize.ShloMosaic Cert.FfnSpec

/-- A row normalised by its root mean square, times `g`; the word `n` is the row's width. -/
def normBy (n : BitVec 32) {d : ℕ} (x g : Fin d → EReal) (k : Fin d) : EReal :=
  x k * Ideal.rsqrt (Ideal.div (∑ a, x a * x a) (Ideal.ofBits .f32 n) + Ideal.ofBits .f32 0x358637BD#32) * g k

/-- The five parts of a row `z` of 896 columns: the latent of the queries, the latent of the keys, the two halves of the rotary
    key, and zeros. The cosines `C` and the sines `S` are those of the row's position. -/
def parts (z : Fin 896 → EReal) (Q : Fin 512 → EReal) (K : Fin 256 → EReal) (C S : Fin 16 → EReal) (f : Fin 896) : EReal :=
  if h1 : f.val < 512 then normBy 0x44000000#32 (fun a : Fin 512 => z ⟨a.val, by omega⟩) Q ⟨f.val, h1⟩
  else if h2 : f.val < 768 then normBy 0x43800000#32 (fun a : Fin 256 => z ⟨512 + a.val, by omega⟩) K ⟨f.val - 512, by omega⟩
  else if h3 : f.val < 784 then z f * C ⟨f.val - 768, by omega⟩ - z ⟨f.val + 16, by omega⟩ * S ⟨f.val - 768, by omega⟩
  else if h4 : f.val < 800 then z ⟨f.val - 16, by omega⟩ * S ⟨f.val - 784, by omega⟩ + z f * C ⟨f.val - 784, by omega⟩
  else 0

variable (H : (⟨2, ![32768, 1024]⟩ : Shape).Idx → EReal) (G : (⟨1, ![1024]⟩ : Shape).Idx → EReal)
  (W : (⟨2, ![1024, 800]⟩ : Shape).Idx → EReal)

/-- Column `q` of the product of the normalised row `r` and the weights, zero past their last column. -/
def proj (r : Fin 32768) (q : Fin 896) : EReal :=
  if h : q.val < 800 then ∑ k : Fin 1024, rmsNorm (fun a => H (ix2 r a)) (fun a => G (ix1 a)) k * W (ix2 k ⟨q.val, h⟩) else 0

/-- The position of a row in its sequence. -/
def pos (r : Fin 32768) : Fin 2048 := ⟨r.val % 2048, by omega⟩

/-- The array of the projection. -/
def lat (Q : (⟨1, ![512]⟩ : Shape).Idx → EReal) (K : (⟨1, ![256]⟩ : Shape).Idx → EReal) (C S : Fin 2048 → Fin 16 → EReal)
    (r : Fin 32768) (f : Fin 896) : EReal :=
  parts (proj H G W r) (fun a => Q (ix1 a)) (fun a => K (ix1 a)) (C (pos r)) (S (pos r)) f

end Cert.LatSpec

end
-- ==== Proof.Lat.Pay.lean ====
/- The arithmetic of a point of the latent attention's input projection, entry by entry. -/
module

public import proofs.«01_k».proof.Proof.Gen.Kernel5Ideal.Skeleton
public import proofs.«01_k».proof.Proof.Lat.Spec
public import Idealize.ShloMosaic.Lib.Pointwise

@[expose] public section

set_option maxRecDepth 16384

noncomputable section

namespace Cert.Kernel5Ideal.Lat

open Cert.Kernel5Ideal.Gen
open Idealize.ShloMosaic Idealize.ShloMosaic.TcCoe Cert.FfnSpec Cert.LatSpec

theorem pay2_apply (h : Vec Ideal S1024x1024 .f32) (g : Vec Ideal S1x1024 .f32) (r k : Fin 1024) :
    k0_pay2 (F := Ideal) h g (ix2 r k) = rmsNorm (fun a => h (ix2 r a)) (fun a => g (ix2 0 a)) k := by
  unfold rmsNorm
  pointwise [k0_pay2]

variable (x : Vec Ideal S1024x1024 .bf16) (w : Vec Ideal S1024x896 .bf16) (q : Vec Ideal S1x512 .f32) (n : Vec Ideal S1x256 .f32)
  (c s : Vec Ideal S1024x128 .f32) (r : Fin 1024)

/-- The product of a row and a column of the weights. -/
def prod (f : Fin 896) : EReal := ∑ k : Fin 1024, (x (ix2 r k) : EReal) * w (ix2 k f)

theorem pay3_apply (f : Fin 896) : k0_pay3 (F := Ideal) x w (ix2 r f) = prod x w r f := by
  unfold prod
  pointwise [k0_pay3]

/-- What a point writes. -/
def tile : FVec Ideal S1024x896 .f32 :=
  k0_pay1 (F := Ideal) (k0_pay3 x w) (k0_pay4 n) (k0_pay5 c) (k0_pay6 s) (k0_pay7 x w q) (k0_pay8 x w) (k0_pay9 x w)

/-- The latent of the queries. -/
theorem tile_query (f : Fin 512) : tile x w q n c s (ix2 r ⟨f.val, by omega⟩)
    = normBy 0x44000000#32 (fun a : Fin 512 => prod x w r ⟨a.val, by omega⟩) (fun a => q (ix2 0 a)) f := by
  unfold normBy
  simp only [← pay3_apply]
  unfold tile k0_pay9 k0_pay8 k0_pay7
  generalize k0_pay3 (F := Ideal) x w = z
  pointwise [k0_pay1]

/-- The latent of the keys. -/
theorem tile_latent (f : Fin 256) : tile x w q n c s (ix2 r ⟨512 + f.val, by omega⟩)
    = normBy 0x43800000#32 (fun a : Fin 256 => prod x w r ⟨512 + a.val, by omega⟩) (fun a => n (ix2 0 a)) f := by
  unfold normBy
  simp only [← pay3_apply]
  unfold tile k0_pay9 k0_pay8 k0_pay7
  generalize k0_pay3 (F := Ideal) x w = z
  pointwise [k0_pay1, k0_pay4]

/-- The word that says a lane is in the lower half of its group of 32. -/
theorem half_word : ∀ f : Fin 128, IntOp.cmpi .slt (IntOp.andi (BitVec.ofNat 32 f.val) 31#32) 16#32 = BitVec.ofBool (decide (f.val % 32 < 16)) := by
  decide +kernel

theorem select_half (f : Fin 128) (a b : EReal) :
    Scalar.select (IntOp.cmpi .slt (IntOp.andi (BitVec.ofNat 32 f.val) 31#32) 16#32) a b = if f.val % 32 < 16 then a else b := by
  rw [half_word]
  by_cases h : f.val % 32 < 16
  · rw [if_pos h, decide_eq_true h]; rfl
  · rw [if_neg h, decide_eq_false h]; rfl

/-- The rotated key and its padding. -/
theorem tile_key (f : Fin 128) : tile x w q n c s (ix2 r ⟨768 + f.val, by omega⟩)
    = prod x w r ⟨768 + f.val, by omega⟩ * c (ix2 r f)
      + (if f.val % 32 < 16 then prod x w r ⟨768 + (f.val + 16) % 128, by omega⟩ else prod x w r ⟨768 + (f.val + 112) % 128, by omega⟩)
        * s (ix2 r f) := by
  simp only [← pay3_apply]
  unfold tile k0_pay9 k0_pay8 k0_pay7
  generalize k0_pay3 (F := Ideal) x w = z
  pointwise [k0_pay1, k0_pay5, k0_pay6]
  refine (dif_neg (by omega)).trans ((dif_neg (by omega)).trans ?_)
  simp only [show 768 + f.val - 512 - 256 = f.val from by omega]
  rw [select_half]
  simp only [show (f.val + 128 - 112) % 128 = (f.val + 16) % 128 from by omega, show (f.val + 128 - 16) % 128 = (f.val + 112) % 128 from by omega]

end Cert.Kernel5Ideal.Lat

end
-- ==== Proof.Lat.Blocks.lean ====
/- What a point of the latent attention's input projection reads, as entries of the arguments and of the tables. -/
module

public import proofs.«01_k».proof.Proof.Gen.Kernel5Ideal.Value
public import proofs.«01_k».proof.Proof.Gen.Reference5Ideal.Read
public import proofs.«01_k».proof.Proof.Lat.Pay
public import Idealize.ShloMosaic.Lib.Pipeline.ValueKit
public import Idealize.ShloMosaic.Lib.Claim

@[expose] public section

set_option maxRecDepth 16384

noncomputable section

namespace Cert.Kernel5Ideal.Lat

open Cert.Kernel5Ideal Cert.Kernel5Ideal.Gen Cert.FfnSpec Cert.LatSpec
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 2, 0] ∧ win0_6.index t = ![t.val % 2, 0]
    ∧ win0_7.index t = ![t.val, 0] :=
  (by decide +kernel : ∀ t : Fin grid0.N, _)

theorem lt32 (t : Fin cfg0.N) : t.val < 32 := lt_of_lt_of_eq t.isLt N_0

/-- The row of the arguments at row `x` of a point's tile, and its position. -/
def rowOf (t : Fin cfg0.N) (x : Fin 1024) : Fin 32768 := ⟨1024 * t.val + x.val, by have := lt32 t; omega⟩
def posOf (t : Fin cfg0.N) (x : Fin 1024) : Fin 2048 := ⟨1024 * (t.val % 2) + x.val, by omega⟩

/-- The cosines and the sines of a position's angles, as the reference computes them. -/
def cosAt (s : Fin 2048) (k : Fin 16) : EReal := Cert.Reference5Ideal.Read.val_main_v58 (F := Ideal) (ix2 s k)
def sinAt (s : Fin 2048) (k : Fin 16) : EReal := Cert.Reference5Ideal.Read.val_main_v60 (F := Ideal) (ix2 s k)

variable (t : Fin cfg0.N)

theorem blk0 (x d : Fin 1024) : iblk m c 0 t (ix2 x d) = m ((c.tc : Thread nD τ).loc main_arg0) (ix2 (rowOf t x) d) := by
  obtain ⟨h0, -⟩ := idx t
  unfold iblk
  entry_read
  exact congrArg (m _) (show (win0_0.blk t).view.emb (ix2 x d) = ix2 (rowOf t x) d from by unfold rowOf; blk_ext [h0])

theorem blk1 (k : Fin 1024) : iblk m c 1 t (ix2 0 k) = m ((c.tc : Thread nD τ).loc main_arg1) (ix1 k) := by
  obtain ⟨-, h0, -⟩ := idx t
  unfold iblk
  entry_read
  change shapeCast main_v28.ty.shape _ _ ((win0_1.blk t).view.emb (ix2 0 k)) = _
  rw [show (win0_1.blk t).view.emb (ix2 0 k) = ix2 0 k from by blk_ext [h0]]
  pointwise

/-- The weights under zero columns past their last one. -/
def padded (x : FVec Ideal S1024x800 .f32) : FVec Ideal S1024x896 .bf16 :=
  truncf .bf16 (pad S1024x896 ![0, 0] ![0, 96] ![0, 0] x (sitofp (F := Ideal) .f32 (constantI S_ 32 0#32)) pads_S1024x800_S1024x896_000_0960 h_S_) bitsLt_bf16_f32

theorem padded_apply (x : FVec Ideal S1024x800 .f32) (k : Fin 1024) (q : Fin 896) :
    padded x (ix2 k q) = if h : q.val < 800 then x (ix2 k ⟨q.val, h⟩) else 0 := by
  pointwise [padded]
  have e : FloatOps.sitofp (F := Ideal) .f32 0#32 = (0 : EReal) := by
    change (((0#32).toInt : ℝ) : EReal) = 0
    simp
  rw [e]

theorem blk2 (k : Fin 1024) (q : Fin 896) :
    iblk m c 2 t (ix2 k q) = if h : q.val < 800 then m ((c.tc : Thread nD τ).loc main_arg2) (ix2 k ⟨q.val, h⟩) else (0 : EReal) := by
  obtain ⟨-, -, h0, -⟩ := idx t
  unfold iblk
  entry_read
  change padded _ ((win0_2.blk t).view.emb (ix2 k q)) = _
  rw [show (win0_2.blk t).view.emb (ix2 k q) = ix2 k q from by blk_ext [h0], padded_apply]
  rfl

theorem blk3 (k : Fin 512) : iblk m c 3 t (ix2 0 k) = m ((c.tc : Thread nD τ).loc main_arg3) (ix1 k) := by
  obtain ⟨-, -, -, h0, -⟩ := idx t
  unfold iblk
  entry_read
  change shapeCast main_v26.ty.shape _ _ ((win0_3.blk t).view.emb (ix2 0 k)) = _
  rw [show (win0_3.blk t).view.emb (ix2 0 k) = ix2 0 k from by blk_ext [h0]]
  pointwise

theorem blk4 (k : Fin 256) : iblk m c 4 t (ix2 0 k) = m ((c.tc : Thread nD τ).loc main_arg4) (ix1 k) := by
  obtain ⟨-, -, -, -, h0, -⟩ := idx t
  unfold iblk
  entry_read
  change shapeCast main_v27.ty.shape _ _ ((win0_4.blk t).view.emb (ix2 0 k)) = _
  rw [show (win0_4.blk t).view.emb (ix2 0 k) = ix2 0 k from by blk_ext [h0]]
  pointwise

/-- A table of two halves, repeated for the four groups of 32 lanes. -/
def tiled (A B : FVec Ideal S2048x16 .f32) : FVec Ideal S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x16, A⟩, ⟨S2048x16, B⟩] concatenates_S2048x16_S2048x16_S2048x32_d1)
      shapeCasts_S2048x32_S1x2048x1x32)) shapeCasts_S1x2048x4x32_S2048x128

theorem tiled_apply (A B : FVec Ideal S2048x16 .f32) (s : Fin 2048) (l : Fin 128) :
    tiled A B (ix2 s l) = if l.val % 32 < 16 then A (ix2 s ⟨l.val % 16, by omega⟩) else B (ix2 s ⟨l.val % 16, by omega⟩) := by
  pointwise [tiled]
  by_cases h : l.val % 32 < 16
  · rw [dif_pos h, if_pos h]
    exact congrArg (fun k => A (ix2 s k)) (Fin.ext (by change l.val % 32 = l.val % 16; omega))
  · rw [dif_neg h, if_neg h]
    exact congrArg (fun k => B (ix2 s k)) (Fin.ext (by change l.val % 32 - 16 = l.val % 16; omega))

theorem blk5 (x : Fin 1024) (l : Fin 128) : iblk m c 5 t (ix2 x l) = cosAt (posOf t x) ⟨l.val % 16, by omega⟩ := by
  obtain ⟨-, -, -, -, -, h0, -⟩ := idx t
  unfold iblk
  entry_read
  change tiled _ _ ((win0_5.blk t).view.emb (ix2 x l)) = _
  rw [show (win0_5.blk t).view.emb (ix2 x l) = ix2 (posOf t x) l from by unfold posOf; blk_ext [h0], tiled_apply, ite_self]
  rfl

theorem blk6 (x : Fin 1024) (l : Fin 128) : iblk m c 6 t (ix2 x l)
    = if l.val % 32 < 16 then -sinAt (posOf t x) ⟨l.val % 16, by omega⟩ else sinAt (posOf t x) ⟨l.val % 16, by omega⟩ := by
  obtain ⟨-, -, -, -, -, -, h0, -⟩ := idx t
  unfold iblk
  entry_read
  change tiled _ _ ((win0_6.blk t).view.emb (ix2 x l)) = _
  rw [show (win0_6.blk t).view.emb (ix2 x l) = ix2 (posOf t x) l from by unfold posOf; blk_ext [h0], tiled_apply]
  rfl

end Cert.Kernel5Ideal.Lat

end
-- ==== Proof.Lat.Value.lean ====
/- What the latent attention's input projection writes: every point's tile, and the whole array. -/
module

public import proofs.«01_k».proof.Proof.Lat.Blocks
public import proofs.«01_k».proof.Proof.Kv.Value

@[expose] public section

set_option maxRecDepth 16384

noncomputable section

namespace Cert.Kernel5Ideal.Lat

open Cert.Kernel5Ideal Cert.Kernel5Ideal.Gen Cert.Kernel5Ideal.Value Cert.FfnSpec Cert.LatSpec
open Idealize.ShloMosaic Idealize.ShloMosaic.TcCoe Idealize.SL.Sem
open Cert.KernelIdeal.Trip (hz read_whole)
open Cert.Kernel4Ideal.Kv (whole2)

section

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x896 .f32) (harg9 : arg9.IsWhole) (arg10 : Memref sig .tc .vmem S1024x1024 .bf16) (harg10 : arg10.IsWhole)
  (x0 : Vec Ideal S1024x1024 .f32) (x1 : Vec Ideal S1x1024 .f32) (x2 : Vec Ideal S1024x896 .bf16) (x3 : Vec Ideal S1x512 .f32) (x4 : Vec Ideal S1x256 .f32) (x5 x6 : Vec Ideal S1024x128 .f32)

/-- The point's normalised rows, read back from where they were just stored. -/
theorem stored_eq : kernelRun0_A.sl.v3 (F := Ideal) c arg2 harg2 arg3 harg3 arg10 x0 x1 = k0_pay2 (F := Ideal) x0 x1 := by
  unfold kernelRun0_A.sl.v3 kernelRun0_A.sl.HS0_1
  rw [View.readCov_cons_toLoadRect, whole2 arg2 harg2, whole2 arg3 harg3]

/-- What a point leaves in its tile. -/
theorem out_A (hc0) :
    out0_A_7 (F := Ideal) c i arg2 harg2 arg3 harg3 arg4 harg4 arg5 harg5 arg6 harg6 arg7 harg7 arg8 harg8 arg9 harg9 arg10 harg10 hc0 x0 x1 x2 x3 x4 x5 x6
      = tile (k0_pay2 (F := Ideal) x0 x1) x2 x3 x4 x5 x6 := by
  unfold out0_A_7 kernelRun0_A
  dsimp only
  rw [read_whole (S := S1024x896) _ _ hz]
  unfold kernelRun0_A.sl.r kernelRun0_A.sl.r_1 kernelRun0_A.sl.r_2 kernelRun0_A.sl.r_3 kernelRun0_A.sl.r_4 kernelRun0_A.sl.r_5 kernelRun0_A.sl.r_6
  rw [stored_eq, whole2 arg4 harg4, whole2 arg5 harg5, whole2 arg6 harg6, whole2 arg7 harg7, whole2 arg8 harg8]
  rfl

end

variable (m : (ℓ : Loc nD τ sig) → Buf (Elt Ideal) ℓ) (c : Dev nD)

/-- The five arguments. -/
abbrev a0 : (⟨2, ![32768, 1024]⟩ : Shape).Idx → EReal := m ((c.tc : Thread nD τ).loc main_arg0)
abbrev a1 : (⟨1, ![1024]⟩ : Shape).Idx → EReal := m ((c.tc : Thread nD τ).loc main_arg1)
abbrev a2 : (⟨2, ![1024, 800]⟩ : Shape).Idx → EReal := m ((c.tc : Thread nD τ).loc main_arg2)
abbrev a3 : (⟨1, ![512]⟩ : Shape).Idx → EReal := m ((c.tc : Thread nD τ).loc main_arg3)
abbrev a4 : (⟨1, ![256]⟩ : Shape).Idx → EReal := m ((c.tc : Thread nD τ).loc main_arg4)

variable (t : Fin cfg0.N) (x : Fin 1024)

/-- A product with the padded weights. -/
theorem prod_eq (f : Fin 896) : prod (k0_pay2 (F := Ideal) (iblk m c 0 t) (iblk m c 1 t)) (iblk m c 2 t) x f
    = proj (a0 m c) (a1 m c) (a2 m c) (rowOf t x) f := by
  have hn : ∀ k, k0_pay2 (F := Ideal) (iblk m c 0 t) (iblk m c 1 t) (ix2 x k)
      = rmsNorm (fun a => a0 m c (ix2 (rowOf t x) a)) (fun a => a1 m c (ix1 a)) k := fun k => by
    rw [pay2_apply]
    exact congrArg₂ (fun f g => rmsNorm f g k) (funext fun a => blk0 m c t x a) (funext fun a => blk1 m c t a)
  unfold prod proj
  by_cases h : f.val < 800
  · refine Eq.trans ?_ (dif_pos h).symm
    exact Finset.sum_congr rfl fun k _ => congrArg₂ (· * ·) (hn k) ((blk2 m c t k f).trans (dif_pos h))
  · refine Eq.trans ?_ (dif_neg h).symm
    refine Finset.sum_eq_zero fun k _ => ?_
    rw [(blk2 m c t k f).trans (dif_neg h)]
    exact mul_zero _

theorem pos_eq : pos (rowOf t x) = posOf t x :=
  Fin.ext (by change (1024 * t.val + x.val) % 2048 = 1024 * (t.val % 2) + x.val; omega)

/-- Past the last column the projection is zero. -/
theorem proj_zero (r : Fin 32768) (f : Fin 896) (h : ¬ f.val < 800) : proj (a0 m c) (a1 m c) (a2 m c) r f = 0 := dif_neg h

/-- A point's tile is a block of the specification's array. -/
theorem tile_eq (f : Fin 896) :
    tile (k0_pay2 (F := Ideal) (iblk m c 0 t) (iblk m c 1 t)) (iblk m c 2 t) (iblk m c 3 t) (iblk m c 4 t) (iblk m c 5 t) (iblk m c 6 t) (ix2 x f)
      = lat (a0 m c) (a1 m c) (a2 m c) (a3 m c) (a4 m c) cosAt sinAt (rowOf t x) f := by
  unfold lat parts
  rw [pos_eq]
  by_cases h1 : f.val < 512
  · refine (tile_query _ _ _ _ _ _ x ⟨f.val, h1⟩).trans (Eq.trans ?_ (dif_pos h1).symm)
    simp only [prod_eq]
    exact congrArg (fun g => normBy _ _ g _) (funext fun a => blk3 m c t a)
  refine Eq.trans ?_ (dif_neg h1).symm
  by_cases h2 : f.val < 768
  · have e := tile_latent (k0_pay2 (F := Ideal) (iblk m c 0 t) (iblk m c 1 t)) (iblk m c 2 t) (iblk m c 3 t) (iblk m c 4 t) (iblk m c 5 t) (iblk m c 6 t) x ⟨f.val - 512, by omega⟩
    simp only [show 512 + (f.val - 512) = f.val from by omega, prod_eq] at e
    refine e.trans (Eq.trans ?_ (dif_pos h2).symm)
    exact congrArg (fun g => normBy _ _ g _) (funext fun a => blk4 m c t a)
  refine Eq.trans ?_ (dif_neg h2).symm
  have e := tile_key (k0_pay2 (F := Ideal) (iblk m c 0 t) (iblk m c 1 t)) (iblk m c 2 t) (iblk m c 3 t) (iblk m c 4 t) (iblk m c 5 t) (iblk m c 6 t) x ⟨f.val - 768, by omega⟩
  rw [blk5, blk6] at e
  simp only [show 768 + (f.val - 768) = f.val from by omega, prod_eq] at e
  refine e.trans ?_
  by_cases h3 : f.val < 784
  · refine Eq.trans ?_ (dif_pos h3).symm
    have hl : (f.val - 768) % 32 < 16 := by omega
    simp only [if_pos hl, show 768 + (f.val - 768 + 16) % 128 = f.val + 16 from by omega, show (f.val - 768) % 16 = f.val - 768 from by omega]
    rw [mul_neg, ← sub_eq_add_neg]
  refine Eq.trans ?_ (dif_neg h3).symm
  by_cases h4 : f.val < 800
  · refine Eq.trans ?_ (dif_pos h4).symm
    have hl : ¬ (f.val - 768) % 32 < 16 := by omega
    simp only [if_neg hl, show 768 + (f.val - 768 + 112) % 128 = f.val - 16 from by omega, show (f.val - 768) % 16 = f.val - 784 from by omega]
    exact add_comm _ _
  refine Eq.trans ?_ (dif_neg h4).symm
  rw [proj_zero m c _ f h4, zero_mul, zero_add]
  by_cases hl : (f.val - 768) % 32 < 16
  · rw [if_pos hl, proj_zero m c _ _ (by change ¬ 768 + (f.val - 768 + 16) % 128 < 800; omega), zero_mul]
  · rw [if_neg hl, proj_zero m c _ _ (by change ¬ 768 + (f.val - 768 + 112) % 128 < 800; omega), zero_mul]

/-- The call's array. -/
theorem result_apply (r : Fin 32768) (f : Fin 896) : (dats m 0 c).arrAt 7 cfg0.N (ix2 r f)
    = lat (a0 m c) (a1 m c) (a2 m c) (a3 m c) (a4 m c) cosAt sinAt r f := by
  have hN : r.val / 1024 < cfg0.N := by refine lt_of_lt_of_eq ?_ N_0.symm; omega
  obtain ⟨-, -, -, -, -, -, -, h7⟩ := idx ⟨r.val / 1024, hN⟩
  have hb := congrFun (blocks7 m c ⟨r.val / 1024, hN⟩ (flush0_7 _)) (ix2 ⟨r.val % 1024, by omega⟩ f)
  rw [flushed7_A, out_A] at hb
  have key := tile_eq m c ⟨r.val / 1024, hN⟩ ⟨r.val % 1024, by omega⟩ f
  rw [show rowOf ⟨r.val / 1024, hN⟩ ⟨r.val % 1024, by omega⟩ = r from
    Fin.ext (by change 1024 * (r.val / 1024) + r.val % 1024 = r.val; omega)] at key
  rw [← key]
  refine Eq.trans ?_ (hb.trans ?_)
  · exact congrArg ((dats m 0 c).arrAt 7 cfg0.N) (show ix2 r f = (win0_7.blk ⟨r.val / 1024, hN⟩).view.emb (ix2 ⟨r.val % 1024, by omega⟩ f) from by
      symm; blk_ext [h7])
  · rfl

end Cert.Kernel5Ideal.Lat

end
-- ==== Proof.Lat.Reference.lean ====
/- The latent attention's input projection in the reference, entry by entry. -/
module

public import proofs.«01_k».proof.Proof.Gen.Reference5Ideal.Read
public import proofs.«01_k».proof.Proof.FfnReference
public import proofs.«01_k».proof.Proof.Lat.Blocks

set_option maxRecDepth 16384

@[expose] public section

noncomputable section

namespace Cert.Reference5Ideal.Lat

open Cert.Reference5Ideal Cert.Reference5Ideal.Gen Cert.Reference5Ideal.Read Idealize.ShloMosaic Idealize.ShloMosaic.TcCoe Idealize.SL.Sem
open Cert.FfnSpec Cert.LatSpec
open Cert.Reference2Ideal.Ffn (rowAt)
open Cert.Kernel5Ideal.Lat (cosAt sinAt)

variable (H : (⟨S32768x1024, .f32⟩ : BufTy).Contents (Elt Ideal)) (G : (⟨S1024, .f32⟩ : BufTy).Contents (Elt Ideal))
  (W : (⟨S1024x800, .f32⟩ : BufTy).Contents (Elt Ideal)) (Q : (⟨S512, .f32⟩ : BufTy).Contents (Elt Ideal))
  (K : (⟨S256, .f32⟩ : BufTy).Contents (Elt Ideal))

/-- The normalised rows are those of the feed-forward reference. -/
theorem stage_eq : val_main_v13 (F := Ideal) H G = Cert.Reference2Ideal.Read.val_main_v13 (F := Ideal) H G := rfl

variable (b : Fin 16) (s : Fin 2048)

theorem proj_apply (q : Fin 800) : val_main_v14 (F := Ideal) H G W (ix3 b s q) = proj H G W (rowAt b s) ⟨q.val, by omega⟩ := by
  rw [val_main_v14_apply]
  refine Eq.trans ?_ (dif_pos q.isLt).symm
  refine Finset.sum_congr rfl fun k _ => ?_
  rw [show lidx_main_v14 (ix3 b s q) k = ix3 b s k from eq_ix3 _, show ridx_main_v14 (ix3 b s q) k = ix2 k q from eq_ix2 _,
    stage_eq, Cert.Reference2Ideal.Ffn.norm_apply]

theorem query_apply (f : Fin 512) : val_main_v28 (F := Ideal) H G W Q (ix3 b s f)
    = normBy 0x44000000#32 (fun a : Fin 512 => proj H G W (rowAt b s) ⟨a.val, by omega⟩) (fun a => Q (ix1 a)) f := by
  have hp := fun q => (proj_apply H G W b s q).symm
  unfold normBy
  simp only [fun a : Fin 512 => hp ⟨a.val, by omega⟩]
  unfold val_main_v28 val_main_v27 val_main_v26 val_main_v25 val_main_v24 val_main_v23 val_main_v22 val_main_v21 val_main_v20 val_main_v19
    val_main_v18 val_main_v17 val_main_v16 val_main_v15 val_main_cst_2 val_main_cst_3 val_main_cst_4
  generalize val_main_v14 (F := Ideal) H G W = y
  pointwise

theorem latent_apply (f : Fin 256) : val_main_v42 (F := Ideal) H G W K (ix3 b s f)
    = normBy 0x43800000#32 (fun a : Fin 256 => proj H G W (rowAt b s) ⟨512 + a.val, by omega⟩) (fun a => K (ix1 a)) f := by
  have hp := fun q => (proj_apply H G W b s q).symm
  unfold normBy
  simp only [fun a : Fin 256 => hp ⟨512 + a.val, by omega⟩]
  unfold val_main_v42 val_main_v41 val_main_v40 val_main_v39 val_main_v38 val_main_v37 val_main_v36 val_main_v35 val_main_v34 val_main_v33
    val_main_v32 val_main_v31 val_main_v30 val_main_v29 val_main_cst_5 val_main_cst_6 val_main_cst_7
  generalize val_main_v14 (F := Ideal) H G W = y
  pointwise

/-- The two halves of the rotated key. -/
theorem low_apply (l : Fin 16) : val_main_v70 (F := Ideal) H G W (ix4 b s 0 l)
    = proj H G W (rowAt b s) ⟨768 + l.val, by omega⟩ * cosAt s l - proj H G W (rowAt b s) ⟨784 + l.val, by omega⟩ * sinAt s l := by
  have h1 := proj_apply H G W b s ⟨768 + l.val, by omega⟩
  have h2 := proj_apply H G W b s ⟨784 + l.val, by omega⟩
  rw [← h1, ← h2]
  unfold cosAt sinAt val_main_v70 val_main_v69 val_main_v68 val_main_v67 val_main_v66 val_main_v65 val_main_v64 val_main_v63 val_main_v62 val_main_v61
    val_main_v59 val_main_v44 val_main_v43
  generalize val_main_v14 (F := Ideal) H G W = y
  generalize val_main_v58 (F := Ideal) = u
  generalize val_main_v60 (F := Ideal) = v
  pointwise
  simp only [← Nat.add_assoc]

theorem high_apply (l : Fin 16) : val_main_v77 (F := Ideal) H G W (ix4 b s 0 l)
    = proj H G W (rowAt b s) ⟨768 + l.val, by omega⟩ * sinAt s l + proj H G W (rowAt b s) ⟨784 + l.val, by omega⟩ * cosAt s l := by
  have h1 := proj_apply H G W b s ⟨768 + l.val, by omega⟩
  have h2 := proj_apply H G W b s ⟨784 + l.val, by omega⟩
  rw [← h1, ← h2]
  unfold cosAt sinAt val_main_v77 val_main_v76 val_main_v75 val_main_v74 val_main_v73 val_main_v72 val_main_v71 val_main_v63 val_main_v62 val_main_v61
    val_main_v59 val_main_v44 val_main_v43
  generalize val_main_v14 (F := Ideal) H G W = y
  generalize val_main_v58 (F := Ideal) = u
  generalize val_main_v60 (F := Ideal) = v
  pointwise
  simp only [← Nat.add_assoc]

/-- The reference's array from its parts. -/
theorem stack_apply (r : Fin 32768) (f : Fin 896) : val_main_v82 (F := Ideal) H G W Q K (ix2 r f)
    = if h : f.val < 512 then val_main_v28 (F := Ideal) H G W Q (ix3 ⟨r.val / 2048, by omega⟩ ⟨r.val % 2048, by omega⟩ ⟨f.val, h⟩)
      else if h : f.val - 512 < 256 then val_main_v42 (F := Ideal) H G W K (ix3 ⟨r.val / 2048, by omega⟩ ⟨r.val % 2048, by omega⟩ ⟨f.val - 512, h⟩)
      else if _h : f.val - 512 - 256 < 32 then
        if h : f.val - 512 - 256 < 16 then
          val_main_v70 (F := Ideal) H G W (ix4 ⟨r.val / 2048, by omega⟩ ⟨r.val % 2048, by omega⟩ 0 ⟨f.val - 512 - 256, h⟩)
        else val_main_v77 (F := Ideal) H G W (ix4 ⟨r.val / 2048, by omega⟩ ⟨r.val % 2048, by omega⟩ 0 ⟨f.val - 512 - 256 - 16, by omega⟩)
      else (0 : EReal) := by
  unfold val_main_v82 val_main_v81 val_main_v80 val_main_v79 val_main_v78 val_main_cst_10
  generalize val_main_v28 (F := Ideal) H G W Q = y
  generalize val_main_v42 (F := Ideal) H G W K = z
  generalize val_main_v70 (F := Ideal) H G W = u
  generalize val_main_v77 (F := Ideal) H G W = v
  pointwise

/-- Each entry of the result. -/
theorem result_apply (r : Fin 32768) (f : Fin 896) :
    val_main_v82 (F := Ideal) H G W Q K (ix2 r f) = lat H G W Q K cosAt sinAt r f := by
  have hr : rowAt ⟨r.val / 2048, by omega⟩ ⟨r.val % 2048, by omega⟩ = r := Fin.ext (by simp only [rowAt]; omega)
  refine (stack_apply H G W Q K r f).trans ?_
  simp only [query_apply, latent_apply, low_apply, high_apply, hr]
  unfold lat parts pos
  by_cases h1 : f.val < 512
  · refine (dif_pos h1).trans (Eq.trans ?_ (dif_pos h1).symm)
    rfl
  refine (dif_neg h1).trans (Eq.trans ?_ (dif_neg h1).symm)
  by_cases h2 : f.val < 768
  · refine (dif_pos (by omega)).trans (Eq.trans ?_ (dif_pos h2).symm)
    rfl
  refine (dif_neg (by omega)).trans (Eq.trans ?_ (dif_neg h2).symm)
  by_cases h3 : f.val < 784
  · refine (dif_pos (by omega)).trans (Eq.trans ?_ (dif_pos h3).symm)
    refine (dif_pos (by omega)).trans ?_
    simp only [show f.val - 512 - 256 = f.val - 768 from by omega, show 768 + (f.val - 768) = f.val from by omega,
      show 784 + (f.val - 768) = f.val + 16 from by omega]
  refine Eq.trans ?_ (dif_neg h3).symm
  by_cases h4 : f.val < 800
  · refine (dif_pos (by omega)).trans (Eq.trans ?_ (dif_pos h4).symm)
    refine (dif_neg (by omega)).trans ?_
    simp only [show f.val - 512 - 256 - 16 = f.val - 784 from by omega, show 768 + (f.val - 784) = f.val - 16 from by omega,
      show 784 + (f.val - 784) = f.val from by omega]
  refine (dif_neg (by omega)).trans (Eq.trans ?_ (dif_neg h4).symm)
  rfl

end Cert.Reference5Ideal.Lat

end
-- ==== Proof.Slab.Pay.lean ====
/- The arithmetic of a point of the recurrence's input projection, entry by entry, and its eight slabs as one array. -/
module

public import proofs.«01_k».proof.Proof.Gen.Kernel6Ideal.Value
public import proofs.«01_k».proof.Proof.Kv.Value

@[expose] public section

set_option maxRecDepth 16384

noncomputable section

namespace Cert.Kernel6Ideal.Slab

open Cert.Kernel6Ideal Cert.Kernel6Ideal.Gen Cert.FfnSpec
open Idealize.ShloMosaic Idealize.ShloMosaic.TcCoe Idealize.SL.Sem
open Cert.KernelIdeal.Trip (hz read_whole)
open Cert.Kernel4Ideal.Kv (whole2)

theorem pay5_apply (h : Vec Ideal S1024x1024 .f32) (g : Vec Ideal S1x1024 .f32) (r k : Fin 1024) :
    k0_pay5 (F := Ideal) h g (ix2 r k) = rmsNorm (fun a => h (ix2 r a)) (fun a => g (ix2 0 a)) k := by
  unfold rmsNorm
  pointwise [k0_pay5]

theorem pay6_apply (x : Vec Ideal S1024x1024 .bf16) (w : Vec Ideal S1024x1024 .bf16) (r f : Fin 1024) :
    k0_pay6 (F := Ideal) x w (ix2 r f) = ∑ k : Fin 1024, (x (ix2 r k) : EReal) * w (ix2 k f) := by
  pointwise [k0_pay6]

/-- The columns of a tile in eight slabs of 128. -/
def slabs (z : FVec Ideal S1024x1024 .f32) : FVec Ideal S1x8x1024x128 .f32 := fun y =>
  z (ix2 (y 2) ⟨128 * (y 1).val + (y 3).val, by have h1 : (y 1).val < 8 := (y 1).isLt; have h3 : (y 3).val < 128 := (y 3).isLt; omega⟩)

/-- A slab is cut out of the tile. -/
theorem piece (z : FVec Ideal S1024x1024 .f32) (k off : Nat) (hk : k < 8) (hoff : off = 128 * k) (hsl : Shape.Slices S1024x1024 ![0, off] S1024x128) (inb) :
    ∀ x : S1x1x1024x128.Idx, shapeCast S1x1x1024x128 (extractStridedSlice S1024x128 ![0, off] z hsl) shapeCasts_S1024x128_S1x1x1024x128 x
      = slabs z ((Rect.unit ![0, k, 0, 0] S1x1x1024x128.size inb : Rect S1x8x1024x128).emb x) := by
  intro x
  obtain ⟨u, v, r, l, rfl⟩ : ∃ (u v : Fin 1) (r : Fin 1024) (l : Fin 128), x = ix4 u v r l := ⟨x 0, x 1, x 2, x 3, eq_ix4 x⟩
  obtain rfl : u = 0 := Subsingleton.elim _ _
  obtain rfl : v = 0 := Subsingleton.elim _ _
  pointwise
  unfold slabs
  congr 1
  funext a
  apply Fin.ext
  match a with
  | ⟨0, _⟩ => change r.val = 0 + 1 * r.val; omega
  | ⟨1, _⟩ => change off + l.val = 128 * (k + 1 * 0) + (0 + 1 * l.val); omega

section

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x8x1024x128 .f32) (harg5 : arg5.IsWhole) (arg6 : Memref sig .tc .vmem S1024x1024 .bf16) (harg6 : arg6.IsWhole)
  (x0 : Vec Ideal S1024x1024 .f32) (x1 : Vec Ideal S1x1024 .f32) (x2 xs0 : Vec Ideal S1024x1024 .bf16)

/-- What a point leaves in its tile, at either kind of point. -/
theorem out_B (hc0) : out0_B_3 (F := Ideal) c i arg2 harg2 arg3 harg3 arg4 harg4 arg5 harg5 arg6 harg6 hc0 x0 x1 x2 xs0
    = slabs (k0_pay6 (F := Ideal) xs0 x2) := by
  unfold out0_B_3
  rw [View.read_writes_eq_canon _ _ _ (cover0_B_3 c i arg2 harg2 arg3 harg3 arg4 harg4 arg5 harg5 arg6 harg6 hc0 x0 x1 x2 xs0)]
  funext y
  refine View.canon_apply_of_pieces (slabs _) _ ?_ _ (cover0_B_3 c i arg2 harg2 arg3 harg3 arg4 harg4 arg5 harg5 arg6 harg6 hc0 x0 x1 x2 xs0 _)
  unfold kernelRun0_B
  dsimp only
  unfold kernelRun0_B.sl.r kernelRun0_B.sl.r_1
  rw [whole2 arg6 harg6, whole2 arg4 harg4]
  unfold k0_pay1 k0_pay2 k0_pay3 k0_pay4 k0_pay7 k0_pay8 k0_pay9 k0_pay10 k0_pay11
  iterate 8
    refine List.forall_mem_cons.2 ⟨?_, ?_⟩
    · dsimp only
      exact piece _ _ _ (by norm_num) (by norm_num) _ _
  exact fun _ h => absurd h List.not_mem_nil

/-- The point's normalised rows, read back from where they were just stored. -/
theorem stored_eq : kernelRun0_A.sl.v3 (F := Ideal) c arg2 harg2 arg3 harg3 arg6 x0 x1 = k0_pay5 (F := Ideal) x0 x1 := by
  unfold kernelRun0_A.sl.v3 kernelRun0_A.sl.HS0_1
  rw [View.readCov_cons_toLoadRect, whole2 arg2 harg2, whole2 arg3 harg3]

/-- What the first point of a row leaves in the carried rows. -/
theorem sout_A (hc0) : sout0_A_0 (F := Ideal) c i arg2 harg2 arg3 harg3 arg4 harg4 arg5 harg5 arg6 harg6 hc0 x0 x1 x2 = k0_pay5 (F := Ideal) x0 x1 := by
  unfold sout0_A_0 kernelRun0_A
  dsimp only
  unfold kernelRun0_A.sl.HS0_1
  rw [read_whole (S := S1024x1024) _ _ hz, whole2 arg2 harg2, whole2 arg3 harg3]

theorem out_A (hc0) : out0_A_3 (F := Ideal) c i arg2 harg2 arg3 harg3 arg4 harg4 arg5 harg5 arg6 harg6 hc0 x0 x1 x2
    = slabs (k0_pay6 (F := Ideal) (k0_pay5 (F := Ideal) x0 x1) x2) := by
  unfold out0_A_3
  rw [View.read_writes_eq_canon _ _ _ (cover0_A_3 c i arg2 harg2 arg3 harg3 arg4 harg4 arg5 harg5 arg6 harg6 hc0 x0 x1 x2)]
  funext y
  refine View.canon_apply_of_pieces (slabs _) _ ?_ _ (cover0_A_3 c i arg2 harg2 arg3 harg3 arg4 harg4 arg5 harg5 arg6 harg6 hc0 x0 x1 x2 _)
  unfold kernelRun0_A
  dsimp only
  unfold kernelRun0_A.sl.r kernelRun0_A.sl.r_1
  rw [stored_eq, whole2 arg4 harg4]
  unfold k0_pay1 k0_pay2 k0_pay3 k0_pay4 k0_pay7 k0_pay8 k0_pay9 k0_pay10 k0_pay11
  iterate 8
    refine List.forall_mem_cons.2 ⟨?_, ?_⟩
    · dsimp only
      exact piece _ _ _ (by norm_num) (by norm_num) _ _
  exact fun _ h => absurd h List.not_mem_nil

end

end Cert.Kernel6Ideal.Slab

end
-- ==== Proof.Slab.Value.lean ====
/- What the recurrence's input projection writes: every point's tile, and the whole array. -/
module

public import proofs.«01_k».proof.Proof.Slab.Pay
public import Idealize.ShloMosaic.Lib.Pipeline.ValueKit
public import Idealize.ShloMosaic.Lib.Claim

@[expose] public section

set_option maxRecDepth 16384

noncomputable section

namespace Cert.Kernel6Ideal.Slab

open Cert.Kernel6Ideal Cert.Kernel6Ideal.Gen Cert.Kernel6Ideal.Value Cert.FfnSpec
open Idealize.ShloMosaic Idealize.ShloMosaic.TcCoe Idealize.SL.Sem

/-- Column `q` of the product of the normalised row `r` and the weights. -/
def proj (H : (⟨2, ![32768, 1024]⟩ : Shape).Idx → EReal) (G : (⟨1, ![1024]⟩ : Shape).Idx → EReal)
    (W : (⟨2, ![1024, 4096]⟩ : Shape).Idx → EReal) (r : Fin 32768) (q : Fin 4096) : EReal :=
  ∑ k : Fin 1024, rmsNorm (fun a => H (ix2 r a)) (fun a => G (ix1 a)) k * W (ix2 k q)

variable (m : (ℓ : Loc nD τ sig) → Buf (Elt Ideal) ℓ) (c : Dev nD)

theorem idx : ∀ t : Fin cfg0.N, win0_0.index t = ![t.val / 4, 0] ∧ win0_1.index t = ![0, 0] ∧ win0_2.index t = ![0, t.val % 4]
    ∧ win0_3.index t = ![t.val / 8, t.val % 4, t.val / 4 % 2, 0] :=
  (by decide +kernel : ∀ t : Fin grid0.N, _)

theorem lt128 (t : Fin cfg0.N) : t.val < 128 := lt_of_lt_of_eq t.isLt N_0

/-- The row of the arguments at row `x` of a point's tile, and the column of the weights at its column `f`. -/
def rowOf (t : Fin cfg0.N) (x : Fin 1024) : Fin 32768 := ⟨1024 * (t.val / 4) + x.val, by have := lt128 t; omega⟩
def colOf (t : Fin cfg0.N) (f : Fin 1024) : Fin 4096 := ⟨1024 * (t.val % 4) + f.val, by omega⟩

/-- The three arguments. -/
abbrev a0 : (⟨2, ![32768, 1024]⟩ : Shape).Idx → EReal := m ((c.tc : Thread nD τ).loc main_arg0)
abbrev a1 : (⟨1, ![1024]⟩ : Shape).Idx → EReal := m ((c.tc : Thread nD τ).loc main_arg1)
abbrev a2 : (⟨2, ![1024, 4096]⟩ : Shape).Idx → EReal := m ((c.tc : Thread nD τ).loc main_arg2)

section

variable (t : Fin cfg0.N)

theorem blk0 (x d : Fin 1024) : iblk m c 0 t (ix2 x d) = a0 m c (ix2 (rowOf t x) d) := by
  obtain ⟨h0, -⟩ := idx t
  unfold iblk
  entry_read
  exact congrArg (m _) (show (win0_0.blk t).view.emb (ix2 x d) = ix2 (rowOf t x) d from by unfold rowOf; blk_ext [h0])

theorem blk1 (k : Fin 1024) : iblk m c 1 t (ix2 0 k) = a1 m c (ix1 k) := by
  obtain ⟨-, h0, -⟩ := idx t
  unfold iblk
  entry_read
  change shapeCast main_v1.ty.shape _ _ ((win0_1.blk t).view.emb (ix2 0 k)) = _
  rw [show (win0_1.blk t).view.emb (ix2 0 k) = ix2 0 k from by blk_ext [h0]]
  pointwise

theorem blk2 (k f : Fin 1024) : iblk m c 2 t (ix2 k f) = a2 m c (ix2 k (colOf t f)) := by
  obtain ⟨-, -, h0, -⟩ := idx t
  unfold iblk
  entry_read
  exact congrArg (m _) (show (win0_2.blk t).view.emb (ix2 k f) = ix2 k (colOf t f) from by unfold colOf; blk_ext [h0])

end

/-- The normalised rows of tile `n / 4`. -/
def rows (n : ℕ) (hn : n < cfg0.N) : Vec Ideal S1024x1024 .bf16 := fun y =>
  rmsNorm (fun a => a0 m c (ix2 (rowOf ⟨n, hn⟩ (y 0)) a)) (fun a => a1 m c (ix1 a)) (y 1)

theorem pay5_rows (t : Fin cfg0.N) : k0_pay5 (F := Ideal) (iblk m c 0 t) (iblk m c 1 t) = rows m c t.val t.isLt := by
  funext y
  obtain ⟨x, k, rfl⟩ : ∃ (x k : Fin 1024), y = ix2 x k := ⟨y 0, y 1, eq_ix2 y⟩
  rw [pay5_apply]
  exact congrArg₂ (fun f g => rmsNorm f g k) (funext fun a => blk0 m c t x a) (funext fun a => blk1 m c t a)

/-- After every point the carried rows are its tile's. -/
theorem carried_eq : ∀ (n : ℕ) (hn : n < cfg0.N), (outsAt0 m c n hn).2 = rows m c n hn := by
  intro n
  induction n with
  | zero =>
    intro hn
    rw [show outsAt0 m c 0 hn = _ from outsAt0_A m c ⟨0, hn⟩ (Nat.zero_mod _)]
    dsimp only
    rw [sout_A, pay5_rows]
  | succ n ih =>
    intro hn
    by_cases h0 : (n + 1) % 4 = 0
    · rw [show outsAt0 m c (n + 1) hn = _ from outsAt0_A m c ⟨n + 1, hn⟩ h0]
      dsimp only
      rw [sout_A, pay5_rows]
    · rw [show outsAt0 m c (n + 1) hn = _ from outsAt0_B m c ⟨n + 1, hn⟩ h0]
      dsimp only
      unfold sout0_B_0
      rw [show (outsAt0 m c (n + 1 - 1) _).2 = (outsAt0 m c n (Nat.lt_of_succ_lt hn)).2 from rfl, ih]
      unfold rows rowOf
      simp only [show n / 4 = (n + 1) / 4 from by omega]

/-- What a point writes. -/
theorem out_eq (t : Fin cfg0.N) :
    (outsAt0 m c t.val t.isLt).1 = slabs (k0_pay6 (F := Ideal) (rows m c t.val t.isLt) (iblk m c 2 t)) := by
  by_cases h0 : t.val % 4 = 0
  · rw [outsAt0_A m c t h0]
    dsimp only
    rw [out_A, pay5_rows]
  · rw [outsAt0_B m c t h0]
    dsimp only
    rw [out_B, carried_eq]
    congr 2
    unfold rows rowOf
    simp only [show (t.val - 1) / 4 = t.val / 4 from by omega]

/-- A point's tile is a block of the product. -/
theorem tile_eq (t : Fin cfg0.N) (j : Fin 8) (x : Fin 1024) (l : Fin 128) :
    slabs (k0_pay6 (F := Ideal) (rows m c t.val t.isLt) (iblk m c 2 t)) (ix4 0 j x l)
      = proj (a0 m c) (a1 m c) (a2 m c) (rowOf t x) (colOf t ⟨128 * j.val + l.val, by omega⟩) := by
  refine (pay6_apply _ _ x ⟨128 * j.val + l.val, by omega⟩).trans ?_
  exact Finset.sum_congr rfl fun k _ => congrArg₂ (· * ·) rfl (blk2 m c t k _)

/-- The call's array: slab `j` of sequence `b` has the columns `128 · j` to `128 · j + 127`. -/
theorem result_apply (b : Fin 16) (j : Fin 32) (s : Fin 2048) (l : Fin 128) : (dats m 0 c).arrAt 3 cfg0.N (ix4 b j s l)
    = proj (a0 m c) (a1 m c) (a2 m c) ⟨2048 * b.val + s.val, by omega⟩ ⟨128 * j.val + l.val, by omega⟩ := by
  have hN : 4 * (2 * b.val + s.val / 1024) + j.val / 8 < cfg0.N := by refine lt_of_lt_of_eq ?_ N_0.symm; omega
  obtain ⟨t, ht⟩ : ∃ t : Fin cfg0.N, t.val = 4 * (2 * b.val + s.val / 1024) + j.val / 8 := ⟨⟨_, hN⟩, rfl⟩
  obtain ⟨-, -, -, h3⟩ := idx t
  have hb := congrFun (blocks3 m c t (flush0_3 _)) (ix4 0 ⟨j.val % 8, by omega⟩ ⟨s.val % 1024, by omega⟩ l)
  rw [flushed3, out_eq] at hb
  have key := tile_eq m c t ⟨j.val % 8, by omega⟩ ⟨s.val % 1024, by omega⟩ l
  rw [show rowOf t ⟨s.val % 1024, by omega⟩ = ⟨2048 * b.val + s.val, by omega⟩ from
      Fin.ext (by change 1024 * (t.val / 4) + s.val % 1024 = 2048 * b.val + s.val; omega),
    show colOf t ⟨128 * (j.val % 8) + l.val, by omega⟩ = ⟨128 * j.val + l.val, by omega⟩ from
      Fin.ext (by change 1024 * (t.val % 4) + (128 * (j.val % 8) + l.val) = 128 * j.val + l.val; omega)] at key
  rw [← key]
  refine Eq.trans ?_ (hb.trans ?_)
  · refine congrArg ((dats m 0 c).arrAt 3 cfg0.N) (show ix4 b j s l = (win0_3.blk t).view.emb (ix4 0 ⟨j.val % 8, by omega⟩ ⟨s.val % 1024, by omega⟩ l) from ?_)
    symm
    blk_ext [h3]
  · rfl

end Cert.Kernel6Ideal.Slab

end
-- ==== Proof.Slab.Reference.lean ====
/- The recurrence's input projection in the reference, entry by entry. -/
module

public import proofs.«01_k».proof.Proof.Gen.Reference6Ideal.Read
public import proofs.«01_k».proof.Proof.FfnReference
public import proofs.«01_k».proof.Proof.Slab.Value

set_option maxRecDepth 16384

@[expose] public section

noncomputable section

namespace Cert.Reference6Ideal.Slab

open Cert.Reference6Ideal Cert.Reference6Ideal.Gen Cert.Reference6Ideal.Read Idealize.ShloMosaic Idealize.ShloMosaic.TcCoe Idealize.SL.Sem
open Cert.FfnSpec
open Cert.Reference2Ideal.Ffn (rowAt)
open Cert.Kernel6Ideal.Slab (proj)

variable (H : (⟨S32768x1024, .f32⟩ : BufTy).Contents (Elt Ideal)) (G : (⟨S1024, .f32⟩ : BufTy).Contents (Elt Ideal))
  (W : (⟨S1024x4096, .f32⟩ : BufTy).Contents (Elt Ideal))

/-- The normalised rows are those of the feed-forward reference. -/
theorem stage_eq : val_main_v13 (F := Ideal) H G = Cert.Reference2Ideal.Read.val_main_v13 (F := Ideal) H G := rfl

variable (b : Fin 16) (s : Fin 2048)

theorem proj_apply (q : Fin 4096) : val_main_v14 (F := Ideal) H G W (ix3 b s q) = proj H G W (rowAt b s) q := by
  rw [val_main_v14_apply]
  unfold proj
  refine Finset.sum_congr rfl fun k _ => ?_
  rw [show lidx_main_v14 (ix3 b s q) k = ix3 b s k from eq_ix3 _, show ridx_main_v14 (ix3 b s q) k = ix2 k q from eq_ix2 _,
    stage_eq, Cert.Reference2Ideal.Ffn.norm_apply]

theorem cut_apply (j : Fin 32) (l : Fin 128) : val_main_v16 (F := Ideal) H G W (ix4 b j s l)
    = val_main_v14 (F := Ideal) H G W (ix3 b s ⟨j.val * 128 + l.val, by omega⟩) := by
  unfold val_main_v16 val_main_v15
  generalize val_main_v14 (F := Ideal) H G W = y
  pointwise

/-- Each entry of the result. -/
theorem result_apply (j : Fin 32) (l : Fin 128) : val_main_v16 (F := Ideal) H G W (ix4 b j s l)
    = proj H G W ⟨2048 * b.val + s.val, by omega⟩ ⟨128 * j.val + l.val, by omega⟩ := by
  rw [cut_apply, proj_apply]
  exact congrArg₂ (proj H G W) rfl (Fin.ext (by change j.val * 128 + l.val = 128 * j.val + l.val; omega))

end Cert.Reference6Ideal.Slab

end
-- ==== Proof.Out.Value.lean ====
/- What the output projection with the residual writes: every point's tile, and the whole array. -/
module

public import proofs.«01_k».proof.Proof.Gen.Kernel7Ideal.Value
public import proofs.«01_k».proof.Proof.Slab.Value

@[expose] public section

set_option maxRecDepth 16384

noncomputable section

namespace Cert.Kernel7Ideal.Out

open Cert.Kernel7Ideal Cert.Kernel7Ideal.Gen Cert.Kernel7Ideal.Value Cert.FfnSpec
open Idealize.ShloMosaic Idealize.ShloMosaic.TcCoe Idealize.SL.Sem

/-- Entry `f` of row `s` of sequence `b`: the residual plus the row's eight heads side by side times the weights. -/
def proj (O : (⟨4, ![16, 8, 2048, 128]⟩ : Shape).Idx → EReal) (W : (⟨2, ![1024, 1024]⟩ : Shape).Idx → EReal)
    (H : (⟨2, ![32768, 1024]⟩ : Shape).Idx → EReal) (b : Fin 16) (s : Fin 2048) (f : Fin 1024) : EReal :=
  H (ix2 ⟨2048 * b.val + s.val, by omega⟩ f)
    + ∑ k : Fin 1024, O (ix4 b ⟨k.val / 128, by omega⟩ s ⟨k.val % 128, by omega⟩) * W (ix2 k f)

/-- Eight slabs of 128 columns side by side. -/
def joined (p : Fin 8 → Vec Ideal S1x1x1024x128 .bf16) (r k : Fin 1024) : EReal :=
  p ⟨k.val / 128, by omega⟩ (ix4 0 0 r ⟨k.val % 128, by omega⟩)

theorem slab_at (p : Fin 8 → Vec Ideal S1x1x1024x128 .bf16) (r k : Fin 1024) (i : Fin 8) (l : Fin 128) (h : k.val = 128 * i.val + l.val) :
    p i (ix4 0 0 r l) = joined p r k := by
  unfold joined
  rw [show (⟨k.val / 128, by omega⟩ : Fin 8) = i from Fin.ext (by change k.val / 128 = i.val; omega),
    show (⟨k.val % 128, by omega⟩ : Fin 128) = l from Fin.ext (by change k.val % 128 = l.val; omega)]

theorem pay2_apply (p : Fin 8 → Vec Ideal S1x1x1024x128 .bf16) (w : Vec Ideal S1024x1024 .bf16) (r f : Fin 1024) :
    k0_pay2 (F := Ideal) (p 0) (p 1) (p 2) (p 3) (p 4) (p 5) (p 6) (p 7) w (ix2 r f)
      = ∑ k : Fin 1024, joined p r k * w (ix2 k f) := by
  pointwise [k0_pay2]
  refine Finset.sum_congr rfl fun k _ => congrArg (· * _) ?_
  split_ifs
  all_goals exact slab_at p r k _ _ (by simp <;> omega)

variable (m : (ℓ : Loc nD τ sig) → Buf (Elt Ideal) ℓ) (c : Dev nD)

theorem idx : ∀ t : Fin cfg0.N, win0_0.index t = ![t.val / 2, 0, t.val % 2, 0] ∧ win0_1.index t = ![0, 0] ∧ win0_2.index t = ![t.val, 0]
    ∧ win0_3.index t = ![t.val, 0] :=
  (by decide +kernel : ∀ t : Fin grid0.N, _)

theorem lt32 (t : Fin cfg0.N) : t.val < 32 := lt_of_lt_of_eq t.isLt N_0

/-- The row of the residual at row `x` of a point's tile, its sequence and its position there. -/
def rowOf (t : Fin cfg0.N) (x : Fin 1024) : Fin 32768 := ⟨1024 * t.val + x.val, by have := lt32 t; omega⟩
def seqOf (t : Fin cfg0.N) : Fin 16 := ⟨t.val / 2, by have := lt32 t; omega⟩
def posOf (t : Fin cfg0.N) (x : Fin 1024) : Fin 2048 := ⟨1024 * (t.val % 2) + x.val, by omega⟩

/-- The three arguments. -/
abbrev a0 : (⟨4, ![16, 8, 2048, 128]⟩ : Shape).Idx → EReal := m ((c.tc : Thread nD τ).loc main_arg0)
abbrev a1 : (⟨2, ![1024, 1024]⟩ : Shape).Idx → EReal := m ((c.tc : Thread nD τ).loc main_arg1)
abbrev a2 : (⟨2, ![32768, 1024]⟩ : Shape).Idx → EReal := m ((c.tc : Thread nD τ).loc main_arg2)

section

variable (t : Fin cfg0.N)

theorem blk0 (j : Fin 8) (x : Fin 1024) (l : Fin 128) : iblk m c 0 t (ix4 0 j x l) = a0 m c (ix4 (seqOf t) j (posOf t x) l) := by
  obtain ⟨h0, -⟩ := idx t
  unfold iblk
  entry_read
  exact congrArg (m _) (show (win0_0.blk t).view.emb (ix4 0 j x l) = ix4 (seqOf t) j (posOf t x) l from by unfold seqOf posOf; blk_ext [h0])

theorem blk1 (k f : Fin 1024) : iblk m c 1 t (ix2 k f) = a1 m c (ix2 k f) := by
  obtain ⟨-, h0, -⟩ := idx t
  unfold iblk
  entry_read
  exact congrArg (m _) (show (win0_1.blk t).view.emb (ix2 k f) = ix2 k f from by blk_ext [h0])

theorem blk2 (x f : Fin 1024) : iblk m c 2 t (ix2 x f) = a2 m c (ix2 (rowOf t x) f) := by
  obtain ⟨-, -, h0, -⟩ := idx t
  unfold iblk
  entry_read
  exact congrArg (m _) (show (win0_2.blk t).view.emb (ix2 x f) = ix2 (rowOf t x) f from by unfold rowOf; blk_ext [h0])

end

theorem ld_whole {e : EltTy} (w : Vec Ideal S1024x1024 e) : View.ld w r0_8 = w := View.ld_unit_zero Cert.KernelIdeal.Trip.hz _ w

/-- The eight heads' slabs of a tile. -/
def heads (x0 : Vec Ideal S1x8x1024x128 .bf16) : Fin 8 → Vec Ideal S1x1x1024x128 .bf16 :=
  ![View.ld x0 r0_0, View.ld x0 r0_1, View.ld x0 r0_2, View.ld x0 r0_3, View.ld x0 r0_4, View.ld x0 r0_5, View.ld x0 r0_6, View.ld x0 r0_7]

theorem heads_apply (x0 : Vec Ideal S1x8x1024x128 .bf16) (j : Fin 8) (r : Fin 1024) (l : Fin 128) :
    heads x0 j (ix4 0 0 r l) = x0 (ix4 0 j r l) := by
  fin_cases j
  all_goals
    refine congrArg x0 (funext fun a => Fin.ext ?_)
    match a with
    | ⟨0, _⟩ => rfl
    | ⟨1, _⟩ => rfl
    | ⟨2, _⟩ => change 0 + 1 * r.val = r.val; omega
    | ⟨3, _⟩ => change 0 + 1 * l.val = l.val; omega

/-- What a point leaves in its tile. -/
theorem out_apply (x0 : Vec Ideal S1x8x1024x128 .bf16) (x1 : Vec Ideal S1024x1024 .bf16) (x2 : Vec Ideal S1024x1024 .f32) (r f : Fin 1024) :
    out0_3 (F := Ideal) x0 x1 x2 (ix2 r f)
      = (∑ k : Fin 1024, x0 (ix4 0 ⟨k.val / 128, by omega⟩ r ⟨k.val % 128, by omega⟩) * x1 (ix2 k f)) + x2 (ix2 r f) := by
  unfold out0_3
  rw [View.canon_cons_unit_zero Cert.KernelIdeal.Trip.hz, ld_whole, ld_whole]
  unfold k0_pay1
  refine congrArg (· + x2 (ix2 r f)) ((pay2_apply (heads x0) x1 r f).trans ?_)
  exact Finset.sum_congr rfl fun k _ => congrArg (· * _) (heads_apply x0 _ r _)

/-- A point's tile is a block of the result. -/
theorem tile_eq (t : Fin cfg0.N) (x f : Fin 1024) :
    out0_3 (F := Ideal) (iblk m c 0 t) (iblk m c 1 t) (iblk m c 2 t) (ix2 x f)
      = proj (a0 m c) (a1 m c) (a2 m c) (seqOf t) (posOf t x) f := by
  refine (out_apply _ _ _ x f).trans ((add_comm _ _).trans ?_)
  refine congrArg₂ (· + ·) ((blk2 m c t x f).trans (congrArg (fun r => a2 m c (ix2 r f)) (Fin.ext ?_))) ?_
  · change 1024 * t.val + x.val = 2048 * (t.val / 2) + (1024 * (t.val % 2) + x.val)
    omega
  · exact Finset.sum_congr rfl fun k _ => congrArg₂ (· * ·) (blk0 m c t _ x _) (blk1 m c t k f)

/-- The call's array. -/
theorem result_apply (b : Fin 16) (s : Fin 2048) (f : Fin 1024) :
    (dats m 0 c).arrAt 3 cfg0.N (ix2 ⟨2048 * b.val + s.val, by omega⟩ f) = proj (a0 m c) (a1 m c) (a2 m c) b s f := by
  have hN : 2 * b.val + s.val / 1024 < cfg0.N := by refine lt_of_lt_of_eq ?_ N_0.symm; omega
  obtain ⟨t, ht⟩ : ∃ t : Fin cfg0.N, t.val = 2 * b.val + s.val / 1024 := ⟨⟨_, hN⟩, rfl⟩
  obtain ⟨-, -, -, h3⟩ := idx t
  have hb := congrFun (blocks3 m c t (flush0_3 _)) (ix2 ⟨s.val % 1024, by omega⟩ f)
  rw [flushed3] at hb
  have key := tile_eq m c t ⟨s.val % 1024, by omega⟩ f
  rw [show seqOf t = b from Fin.ext (by change t.val / 2 = b.val; omega),
    show posOf t ⟨s.val % 1024, by omega⟩ = s from Fin.ext (by change 1024 * (t.val % 2) + s.val % 1024 = s.val; omega)] at key
  rw [← key]
  refine Eq.trans ?_ (hb.trans ?_)
  · refine congrArg ((dats m 0 c).arrAt 3 cfg0.N) (show ix2 ⟨2048 * b.val + s.val, by omega⟩ f = (win0_3.blk t).view.emb (ix2 ⟨s.val % 1024, by omega⟩ f) from ?_)
    symm
    blk_ext [h3]
  · rfl

end Cert.Kernel7Ideal.Out

end
-- ==== Proof.Out.Reference.lean ====
/- The output projection with the residual in the reference, entry by entry. -/
module

public import proofs.«01_k».proof.Proof.Gen.Reference7Ideal.Read
public import proofs.«01_k».proof.Proof.Out.Value

set_option maxRecDepth 16384

@[expose] public section

noncomputable section

namespace Cert.Reference7Ideal.Out

open Cert.Reference7Ideal Cert.Reference7Ideal.Gen Cert.Reference7Ideal.Read Idealize.ShloMosaic Idealize.ShloMosaic.TcCoe Idealize.SL.Sem
open Cert.Kernel7Ideal.Out (proj)

variable (O : (⟨S16x8x2048x128, .bf16⟩ : BufTy).Contents (Elt Ideal)) (W : (⟨S1024x1024, .f32⟩ : BufTy).Contents (Elt Ideal))
  (H : (⟨S32768x1024, .f32⟩ : BufTy).Contents (Elt Ideal)) (b : Fin 16) (s : Fin 2048)

/-- The eight heads of a row, side by side. -/
theorem row_apply (k : Fin 1024) : val_main_v2 (F := Ideal) O (ix3 b s k)
    = O (ix4 b ⟨k.val / 128, by omega⟩ s ⟨k.val % 128, by omega⟩) := by
  unfold val_main_v2 val_main_v1 val_main_v0
  pointwise

theorem add_apply (f : Fin 1024) : val_main_v5 (F := Ideal) O W H (ix3 b s f)
    = H (ix2 ⟨b.val * 2048 + s.val, by omega⟩ f) + val_main_v4 (F := Ideal) O W (ix3 b s f) := by
  unfold val_main_v5 val_main_v3
  generalize val_main_v4 (F := Ideal) O W = y
  pointwise

/-- Each entry of the result. -/
theorem result_apply (f : Fin 1024) : val_main_v6 (F := Ideal) O W H (ix2 ⟨2048 * b.val + s.val, by omega⟩ f) = proj O W H b s f := by
  rw [val_main_v6_apply, show idx_main_v6 (ix2 ⟨2048 * b.val + s.val, by omega⟩ f) = ix3 b s f from by
    refine (eq_ix3 _).trans ?_
    congr 1 <;> apply Fin.ext
    · change ((2048 * b.val + s.val) * 1024 + f.val) / 2097152 = b.val; omega
    · change ((2048 * b.val + s.val) * 1024 + f.val) / 1024 % 2048 = s.val; omega
    · change ((2048 * b.val + s.val) * 1024 + f.val) % 1024 = f.val; omega,
    add_apply, val_main_v4_apply]
  unfold proj
  refine congrArg₂ (· + ·) (congrArg (fun r => H (ix2 r f)) (Fin.ext (by change b.val * 2048 + s.val = 2048 * b.val + s.val; omega))) ?_
  refine Finset.sum_congr rfl fun k _ => ?_
  rw [show lidx_main_v4 (ix3 b s f) k = ix3 b s k from eq_ix3 _, show ridx_main_v4 (ix3 b s f) k = ix2 k f from eq_ix2 _, row_apply]

end Cert.Reference7Ideal.Out

end
-- ==== Proof.Body.lean ====
module

public import proofs.«01_k».proof.Proof.Trip

set_option maxRecDepth 16384

@[expose] public section

noncomputable section

namespace Cert.KernelIdeal.Body

open Cert.KernelIdeal Cert.KernelIdeal.Gen Idealize.ShloMosaic Idealize.ShloMosaic.TcCoe Idealize.SL.Sem
open Cert.KernelIdeal.Step Cert.KernelIdeal.Trip Cert.KernelIdeal.Pay Cert.Softmax

/-! ### What one point of the grid leaves before its heads are transposed back -/

section

variable (c : Dev nD) (i : grid0.Coords) (arg2 : Memref sig .tc .vmem S1x256x4096 .bf16) (harg2 : arg2.IsWhole) (arg3 : Memref sig .tc .vmem S1x256x512 .bf16) (harg3 : arg3.IsWhole) (arg4 : Memref sig .tc .vmem S1x2048x256 .f32) (harg4 : arg4.IsWhole) (arg5 : Memref sig .tc .vmem S1x2048x128 .f32) (harg5 : arg5.IsWhole) (arg6 : Memref sig .tc .vmem S1x256x4096 .bf16) (harg6 : arg6.IsWhole) (arg7 : Memref sig .tc .vmem S8x256x256 .bf16) (harg7 : arg7.IsWhole) (arg8 : Memref sig .tc .vmem S256x4096 .bf16) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S256x4096 .f32) (harg12 : arg12.IsWhole) (v0 v280 v281 : BitVec 32) (q : Vec Ideal S256x4096 .bf16) (qr : Vec Ideal S128x4096 .bf16) (X4 : BufTy.Contents (Elt Ideal) arg4.view.ty) (X5 : BufTy.Contents (Elt Ideal) arg5.view.ty) (X7 : BufTy.Contents (Elt Ideal) arg7.view.ty)

/-- What the three carried arrays are first set to. -/
def H3 : List (View.Piece (Elt Ideal) S1x4096 .f32) := [⟨Rect.unit ![0, 0] S1x4096.size inb_S1x4096_S1x4096_0_0, k0_pay67 (F := Ideal) k0_pay66⟩]
def H4 : List (View.Piece (Elt Ideal) S1x4096 .f32) := [⟨Rect.unit ![0, 0] S1x4096.size inb_S1x4096_S1x4096_0_0, k0_pay68 (F := Ideal)⟩]
def H5 : List (View.Piece (Elt Ideal) S256x4096 .f32) := [⟨Rect.unit ![0, 0] S256x4096.size inb_S256x4096_S256x4096_0_0, k0_pay69 (F := Ideal)⟩]

/-- What the loop over the tiles before the query's own stores. -/
def P1 := pb_k0_t1 (F := Ideal) Variants.none c none i arg2 harg2 arg3 harg3 arg4 harg4 arg5 harg5 arg6 harg6 arg7 harg7 arg8 harg8 arg9 harg9 arg10 harg10 arg11 harg11 arg12 harg12 v0 q qr k0_pay66 X4 X5 X7
  (arg10.view.writes (Elt Ideal) arg10.view.junk H3) (arg11.view.writes (Elt Ideal) arg11.view.junk H4)
  (arg12.view.writes (Elt Ideal) arg12.view.junk H5) (Scf.trips (k0_t1_loop i).lb (k0_t1_loop i).ub (k0_t1_loop i).st)

/-- What the loop over the remainder stores. -/
def P2 := pb_k0_t2 (F := Ideal) Variants.none c none i arg2 harg2 arg3 harg3 arg4 harg4 arg5 harg5 arg6 harg6 arg7 harg7 arg8 harg8 arg9 harg9 arg10 harg10 arg11 harg11 arg12 harg12 v0 q qr k0_pay66 v280 X4 X5 X7
  (arg10.view.writes (Elt Ideal) arg10.view.junk ((P1 c i arg2 harg2 arg3 harg3 arg4 harg4 arg5 harg5 arg6 harg6 arg7 harg7 arg8 harg8 arg9 harg9 arg10 harg10 arg11 harg11 arg12 harg12 v0 q qr X4 X5 X7).1 ++ H3))
  (arg11.view.writes (Elt Ideal) arg11.view.junk ((P1 c i arg2 harg2 arg3 harg3 arg4 harg4 arg5 harg5 arg6 harg6 arg7 harg7 arg8 harg8 arg9 harg9 arg10 harg10 arg11 harg11 arg12 harg12 v0 q qr X4 X5 X7).2.1 ++ H4))
  (arg12.view.writes (Elt Ideal) arg12.view.junk ((P1 c i arg2 harg2 arg3 harg3 arg4 harg4 arg5 harg5 arg6 harg6 arg7 harg7 arg8 harg8 arg9 harg9 arg10 harg10 arg11 harg11 arg12 harg12 v0 q qr X4 X5 X7).2.2 ++ H5))
  (Scf.trips (k0_t2_loop i).lb (k0_t2_loop i).ub (k0_t2_loop i).st)

/-- The three carried arrays as the last tile reads them. -/
def L10 := (P2 c i arg2 harg2 arg3 harg3 arg4 harg4 arg5 harg5 arg6 harg6 arg7 harg7 arg8 harg8 arg9 harg9 arg10 harg10 arg11 harg11 arg12 harg12 v0 v280 q qr X4 X5 X7).1 ++ ((P1 c i arg2 harg2 arg3 harg3 arg4 harg4 arg5 harg5 arg6 harg6 arg7 harg7 arg8 harg8 arg9 harg9 arg10 harg10 arg11 harg11 arg12 harg12 v0 q qr X4 X5 X7).1 ++ H3)
def L11 := (P2 c i arg2 harg2 arg3 harg3 arg4 harg4 arg5 harg5 arg6 harg6 arg7 harg7 arg8 harg8 arg9 harg9 arg10 harg10 arg11 harg11 arg12 harg12 v0 v280 q qr X4 X5 X7).2.1 ++ ((P1 c i arg2 harg2 arg3 harg3 arg4 harg4 arg5 harg5 arg6 harg6 arg7 harg7 arg8 harg8 arg9 harg9 arg10 harg10 arg11 harg11 arg12 harg12 v0 q qr X4 X5 X7).2.1 ++ H4)
def L12 := (P2 c i arg2 harg2 arg3 harg3 arg4 harg4 arg5 harg5 arg6 harg6 arg7 harg7 arg8 harg8 arg9 harg9 arg10 harg10 arg11 harg11 arg12 harg12 v0 v280 q qr X4 X5 X7).2.2 ++ ((P1 c i arg2 harg2 arg3 harg3 arg4 harg4 arg5 harg5 arg6 harg6 arg7 harg7 arg8 harg8 arg9 harg9 arg10 harg10 arg11 harg11 arg12 harg12 v0 q qr X4 X5 X7).2.2 ++ H5)

/-- The weighted sums over the sums of the weights, a head's query a column. -/
def finalO : FVec Ideal S256x4096 .f32 :=
  let a := View.readAt (Elt Ideal) arg4.view (Rect.unit (k0_off7 i) S1x256x256.size (k0_off7_inb i) : Rect S1x2048x256).toLoadRect X4
  let b := View.readAt (Elt Ideal) arg5.view (Rect.unit (k0_off8 i) S1x256x128.size (k0_off8_inb i) : Rect S1x2048x128).toLoadRect X5
  let t := View.readAt (Elt Ideal) arg7.view (Rect.unit (k0_off9 i) S1x256x256.size (k0_off9_inb i) : Rect S8x256x256).toLoadRect X7
  let m := arg10.view.readCov (L10 c i arg2 harg2 arg3 harg3 arg4 harg4 arg5 harg5 arg6 harg6 arg7 harg7 arg8 harg8 arg9 harg9 arg10 harg10 arg11 harg11 arg12 harg12 v0 v280 q qr X4 X5 X7) (Rect.unit ![0, 0] S1x4096.size inb_S1x4096_S1x4096_0_0 : Rect S1x4096).toLoadRect
  let l := arg11.view.readCov (L11 c i arg2 harg2 arg3 harg3 arg4 harg4 arg5 harg5 arg6 harg6 arg7 harg7 arg8 harg8 arg9 harg9 arg10 harg10 arg11 harg11 arg12 harg12 v0 v280 q qr X4 X5 X7) (Rect.unit ![0, 0] S1x4096.size inb_S1x4096_S1x4096_0_0 : Rect S1x4096).toLoadRect
  let acc := arg12.view.readCov (L12 c i arg2 harg2 arg3 harg3 arg4 harg4 arg5 harg5 arg6 harg6 arg7 harg7 arg8 harg8 arg9 harg9 arg10 harg10 arg11 harg11 arg12 harg12 v0 v280 q qr X4 X5 X7) (Rect.unit ![0, 0] S256x4096.size inb_S256x4096_S256x4096_0_0 : Rect S256x4096).toLoadRect
  k0_pay83
    (arg12.view.readCov (⟨Rect.unit ![0, 0] S256x4096.size inb_S256x4096_S256x4096_0_0,
      k0_pay81 (k0_pay74 t) (k0_pay77 v0 q qr v281 a b m) (k0_pay78 v0 q qr v281 a b m) acc⟩ :: L12 c i arg2 harg2 arg3 harg3 arg4 harg4 arg5 harg5 arg6 harg6 arg7 harg7 arg8 harg8 arg9 harg9 arg10 harg10 arg11 harg11 arg12 harg12 v0 v280 q qr X4 X5 X7) (Rect.unit ![0, 0] S256x4096.size inb_S256x4096_S256x4096_0_0 : Rect S256x4096).toLoadRect)
    (arg11.view.readCov (⟨Rect.unit ![0, 0] S1x4096.size inb_S1x4096_S1x4096_0_0,
      k0_pay80 (k0_pay79 v0 q qr v281 a b m l)⟩ :: L11 c i arg2 harg2 arg3 harg3 arg4 harg4 arg5 harg5 arg6 harg6 arg7 harg7 arg8 harg8 arg9 harg9 arg10 harg10 arg11 harg11 arg12 harg12 v0 v280 q qr X4 X5 X7) (Rect.unit ![0, 0] S1x4096.size inb_S1x4096_S1x4096_0_0 : Rect S1x4096).toLoadRect)

/-- The remainder loop stores nothing. -/
theorem P2_eq : P2 c i arg2 harg2 arg3 harg3 arg4 harg4 arg5 harg5 arg6 harg6 arg7 harg7 arg8 harg8 arg9 harg9 arg10 harg10 arg11 harg11 arg12 harg12 v0 v280 q qr X4 X5 X7 = ([], [], []) := by
  unfold P2
  rw [show Scf.trips (k0_t2_loop i).lb (k0_t2_loop i).ub (k0_t2_loop i).st = 0 from trips2 i]
  rfl

/-- A whole-array read of writes over writes over junk. -/
theorem readCov_append {S : Shape} {e : EltTy} {sig : RefSig} {κ : Kind} {sp : Space} (v : View sig κ sp S e)
    {off : Fin S.rank → Nat} (h : off = fun _ => 0)
    (inb : ∀ a, off a + S.size a ≤ S.size a) (L L' : List (View.Piece (Elt Ideal) S e)) :
    v.readCov (L ++ L') (Rect.unit off S.size inb : Rect S).toLoadRect
      = v.read (Elt Ideal) (v.writes (Elt Ideal) (v.writes (Elt Ideal) v.junk L') L) := by
  unfold View.readCov
  rw [View.readAt_eq_ld, View.ld_unit_zero h, View.writes_append]

/-- The carried arrays after the tiles before the query's own. -/
theorem carried (x2 : FVec Ideal S1x2048x256 .f32) (x3 : FVec Ideal S1x2048x128 .f32) (lct : FVec Ideal S8x256x256 .bf16)
    (h4 : arg4.view.read (Elt Ideal) X4 = x2) (h5 : arg5.view.read (Elt Ideal) X5 = x3) (h7 : arg7.view.read (Elt Ideal) X7 = lct) :
    Inv q qr x2 x3 lct (i 1).val (i 1).val
      (arg10.view.readCov (L10 c i arg2 harg2 arg3 harg3 arg4 harg4 arg5 harg5 arg6 harg6 arg7 harg7 arg8 harg8 arg9 harg9 arg10 harg10 arg11 harg11 arg12 harg12 v0 v280 q qr X4 X5 X7) (Rect.unit ![0, 0] S1x4096.size inb_S1x4096_S1x4096_0_0 : Rect S1x4096).toLoadRect)
      (arg11.view.readCov (L11 c i arg2 harg2 arg3 harg3 arg4 harg4 arg5 harg5 arg6 harg6 arg7 harg7 arg8 harg8 arg9 harg9 arg10 harg10 arg11 harg11 arg12 harg12 v0 v280 q qr X4 X5 X7) (Rect.unit ![0, 0] S1x4096.size inb_S1x4096_S1x4096_0_0 : Rect S1x4096).toLoadRect)
      (arg12.view.readCov (L12 c i arg2 harg2 arg3 harg3 arg4 harg4 arg5 harg5 arg6 harg6 arg7 harg7 arg8 harg8 arg9 harg9 arg10 harg10 arg11 harg11 arg12 harg12 v0 v280 q qr X4 X5 X7) (Rect.unit ![0, 0] S256x4096.size inb_S256x4096_S256x4096_0_0 : Rect S256x4096).toLoadRect) := by
  unfold L10 L11 L12
  rw [P2_eq, List.nil_append, List.nil_append, List.nil_append, readCov_append (S := S1x4096) _ hz, readCov_append (S := S1x4096) _ hz,
    readCov_append (S := S256x4096) _ hz]
  unfold P1
  rw [show Scf.trips (k0_t1_loop i).lb (k0_t1_loop i).ub (k0_t1_loop i).st = (i 1).val from trips1 i]
  refine loop_inv (c := c) (i := i) (h4 := h4) (h5 := h5) (h7 := h7) (h0 := ?_) _ _ _ _ _ _ _ _ _ _ _ _ _ _ _ _ _ _ _ _ _ _ _ _ _ _ _ _ _ _ _ _ _ _ _ _ _ _ le_rfl
  unfold H3 H4 H5
  rw [read_whole (S := S1x4096) _ _ hz, read_whole (S := S1x4096) _ _ hz, read_whole (S := S256x4096) _ _ hz]
  exact inv_zero

/-- Column `cc`, feature `f`: the online softmax over the tiles up to the query's own. -/
theorem finalO_apply (x2 : FVec Ideal S1x2048x256 .f32) (x3 : FVec Ideal S1x2048x128 .f32) (lct : FVec Ideal S8x256x256 .bf16)
    (h4 : arg4.view.read (Elt Ideal) X4 = x2) (h5 : arg5.view.read (Elt Ideal) X5 = x3) (h7 : arg7.view.read (Elt Ideal) X7 = lct)
    (hv0 : v0 = BitVec.ofNat 32 (256 * (i 1).val)) (hv1 : v281 = BitVec.ofNat 32 (256 * (i 1).val)) (f : Fin 256) (cc : Fin 4096) :
    finalO c i arg2 harg2 arg3 harg3 arg4 harg4 arg5 harg5 arg6 harg6 arg7 harg7 arg8 harg8 arg9 harg9 arg10 harg10 arg11 harg11 arg12 harg12 v0 v280 v281 q qr X4 X5 X7 (ix2 f cc)
      = Ideal.div (rowA (tScore q qr x2 x3 (i 1).val cc) (tVal lct f) ((i 1).val + 1))
          (max (rowA (tScore q qr x2 x3 (i 1).val cc) (fun _ _ => 1) ((i 1).val + 1)) (Ideal.ofBits .f32 0x0DA24260#32)) := by
  have h8 : (i 1).val < 8 := (i 1).isLt
  have hc := carried c i arg2 harg2 arg3 harg3 arg4 harg4 arg5 harg5 arg6 harg6 arg7 harg7 arg8 harg8 arg9 harg9 arg10 harg10 arg11 harg11 arg12 harg12 v0 v280 q qr X4 X5 X7 x2 x3 lct h4 h5 h7
  unfold finalO
  dsimp only
  rw [View.readCov_cons_toLoadRect, View.readCov_cons_toLoadRect, pay83_apply]
  subst hv0 hv1
  have hl := inv_last (a := View.readAt (Elt Ideal) arg4.view (Rect.unit (k0_off7 i) S1x256x256.size (k0_off7_inb i) : Rect S1x2048x256).toLoadRect X4)
    (b := View.readAt (Elt Ideal) arg5.view (Rect.unit (k0_off8 i) S1x256x128.size (k0_off8_inb i) : Rect S1x2048x128).toLoadRect X5)
    (t := View.readAt (Elt Ideal) arg7.view (Rect.unit (k0_off9 i) S1x256x256.size (k0_off9_inb i) : Rect S8x256x256).toLoadRect X7)
    (fun r c => mask_eq (i 1).val h8 r c)
    (fun r x => by rw [View.readAt_eq_ld, h4]; exact ld_lat x2 _ (k0_off7_eq i) h8 r x)
    (fun r x => by rw [View.readAt_eq_ld, h5]; exact ld_rope x3 _ (k0_off8_eq i) h8 r x)
    (fun f r => by rw [View.readAt_eq_ld, h7]; exact ld_col lct _ (k0_off9_eq i) h8 f r) hc
  rw [hl.1 cc, hl.2 f cc]

end

/-- The words the query's tile is placed by. -/
theorem v0_eq_B : ∀ i : grid0.Coords, kernelRun0_B.sl.v0 i = BitVec.ofNat 32 (256 * (i 1).val) := by decide +kernel
theorem v281_eq_B : ∀ i : grid0.Coords, kernelRun0_B.sl.v281 i = BitVec.ofNat 32 (256 * (i 1).val) := by decide +kernel
theorem v0_eq_A : ∀ i : grid0.Coords, kernelRun0_A.sl.v0 i = BitVec.ofNat 32 (256 * (i 1).val) := by decide +kernel
theorem v281_eq_A : ∀ i : grid0.Coords, kernelRun0_A.sl.v281 i = BitVec.ofNat 32 (256 * (i 1).val) := by decide +kernel

section

variable (c : Dev nD) (i : grid0.Coords) (arg2 : Memref sig .tc .vmem S1x256x4096 .bf16) (harg2 : arg2.IsWhole) (arg3 : Memref sig .tc .vmem S1x256x512 .bf16) (harg3 : arg3.IsWhole) (arg4 : Memref sig .tc .vmem S1x2048x256 .f32) (harg4 : arg4.IsWhole) (arg5 : Memref sig .tc .vmem S1x2048x128 .f32) (harg5 : arg5.IsWhole) (arg6 : Memref sig .tc .vmem S1x256x4096 .bf16) (harg6 : arg6.IsWhole) (arg7 : Memref sig .tc .vmem S8x256x256 .bf16) (harg7 : arg7.IsWhole) (arg8 : Memref sig .tc .vmem S256x4096 .bf16) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S256x4096 .f32) (harg12 : arg12.IsWhole) (x0 : Vec Ideal S1x256x4096 .bf16) (x1 : Vec Ideal S1x256x512 .bf16) (x2 : Vec Ideal S1x2048x256 .f32) (x3 : Vec Ideal S1x2048x128 .f32) (xs0 : Vec Ideal S8x256x256 .bf16)

/-- At the points after a batch's first, the latents by columns are the carried ones. -/
theorem r_eq_B :
    kernelRun0_B.sl.r_13 (F := Ideal) c i arg2 harg2 arg3 harg3 arg4 harg4 arg5 harg5 arg6 harg6 arg7 harg7 arg8 harg8 arg9 harg9 arg10 harg10 arg11 harg11 arg12 harg12 x0 x1 x2 x3 xs0
      = finalO c i arg2 harg2 arg3 harg3 arg4 harg4 arg5 harg5 arg6 harg6 arg7 harg7 arg8 harg8 arg9 harg9 arg10 harg10 arg11 harg11 arg12 harg12 (kernelRun0_B.sl.v0 i) (kernelRun0_B.sl.v280 i) (kernelRun0_B.sl.v281 i)
          (kernelRun0_B.sl.v245 (F := Ideal) c arg2 harg2 arg8 x0) (kernelRun0_B.sl.v246 (F := Ideal) c arg3 harg3 arg9 x1)
          (harg4.unread x2) (harg5.unread x3) (harg7.unread xs0) := rfl

/-- At a batch's first point they are the ones the point has just stored. -/
theorem r_eq_A :
    kernelRun0_A.sl.r_14 (F := Ideal) c i arg2 harg2 arg3 harg3 arg4 harg4 arg5 harg5 arg6 harg6 arg7 harg7 arg8 harg8 arg9 harg9 arg10 harg10 arg11 harg11 arg12 harg12 x0 x1 x2 x3
      = finalO c i arg2 harg2 arg3 harg3 arg4 harg4 arg5 harg5 arg6 harg6 arg7 harg7 arg8 harg8 arg9 harg9 arg10 harg10 arg11 harg11 arg12 harg12 (kernelRun0_A.sl.v0 i) (kernelRun0_A.sl.v280 i) (kernelRun0_A.sl.v281 i)
          (kernelRun0_A.sl.v245 (F := Ideal) c arg2 harg2 arg8 x0) (kernelRun0_A.sl.v246 (F := Ideal) c arg3 harg3 arg9 x1)
          (harg4.unread x2) (harg5.unread x3)
          (arg7.view.writes (Elt Ideal) arg7.view.junk (kernelRun0_A.sl.HS0_8 (F := Ideal) c arg4 harg4 x2)) := rfl

end

end Cert.KernelIdeal.Body

end
-- ==== Proof.Tiles.lean ====
module

public import Idealize.ShloMosaic.Lib.Pointwise
public import proofs.«01_k».proof.Proof.Gen.KernelIdeal.Skeleton

set_option maxRecDepth 16384

@[expose] public section

noncomputable section

namespace Cert.KernelIdeal.Tiles

open Cert.KernelIdeal Cert.KernelIdeal.Gen Idealize.ShloMosaic Idealize.ShloMosaic.TcCoe

/-! ### The tiles that are laid out by columns

Queries, rotary parts and latents are stored transposed, tile by tile; the heads of the result are transposed back. -/

/-- A latent tile, a key a column: what each of the eight stores of the latents holds. -/
theorem lat_apply (k : FVec Ideal S1x256x256 .f32) (r c : Fin 256) :
    k0_pay21 (F := Ideal) k (ix3 0 r c) = k (ix3 0 c r) := by
  pointwise [k0_pay21]

/-- A head's queries, a query a column. -/
theorem query_apply (k : FVec Ideal S1x256x256 .bf16) (r c : Fin 256) :
    k0_pay26 (F := Ideal) k (ix2 r c) = k (ix3 0 c r) := by
  pointwise [k0_pay26]

/-- A head's rotary queries, rows `off` to `off + 32` of the slab, above zeros. -/
def ropeTile (off : Nat) (h : Shape.Slices S128x256 ![off, 0] S32x256) (k : FVec Ideal S1x256x128 .bf16) :
    FVec Ideal S128x256 .bf16 :=
  shapeCast S128x256 (truncf .bf16 (concatenate S128x256 0
    [⟨S32x256, extractStridedSlice S32x256 ![off, 0] (k0_pay27 (F := Ideal) k) h⟩, ⟨S96x256, k0_pay25 (F := Ideal)⟩]
    concatenates_S32x256_S96x256_S128x256_d0) bitsLt_bf16_f32) shapeCasts_S128x256_S128x256

theorem rope_apply (off : Nat) (hoff : off + 32 ≤ 128) (h : Shape.Slices S128x256 ![off, 0] S32x256)
    (k : FVec Ideal S1x256x128 .bf16) (r : Fin 128) (c : Fin 256) :
    ropeTile off h k (ix2 r c) = if hr : r.val < 32 then (k (ix3 0 c ⟨off + r.val, by omega⟩) : EReal) else 0 := by
  pointwise [ropeTile, k0_pay27, k0_pay25]

/-- A head of the result, a query a row: columns `off` to `off + 256`, transposed. -/
def headTile (off : Nat) (h : Shape.Slices S256x4096 ![0, off] S256x256) (o : FVec Ideal S256x4096 .f32) :
    FVec Ideal S1x256x256 .bf16 :=
  shapeCast S1x256x256 (truncf .bf16 (transpose S256x256 [1, 0] (extractStridedSlice S256x256 ![0, off] o h)
    transposes_S256x256_p1_0_S256x256) bitsLt_bf16_f32) shapeCasts_S256x256_S1x256x256

theorem head_apply (off : Nat) (hoff : off + 256 ≤ 4096) (h : Shape.Slices S256x4096 ![0, off] S256x256)
    (o : FVec Ideal S256x4096 .f32) (r c : Fin 256) :
    headTile off h o (ix3 0 r c) = o (ix2 c ⟨off + r.val, by omega⟩) := by
  pointwise [headTile]

end Cert.KernelIdeal.Tiles

end
-- ==== Proof.Query.lean ====
module

public import proofs.«01_k».proof.Proof.Body
public import proofs.«01_k».proof.Proof.Tiles

set_option maxRecDepth 16384

@[expose] public section

noncomputable section

namespace Cert.KernelIdeal.Body

open Cert.KernelIdeal Cert.KernelIdeal.Gen Idealize.ShloMosaic Idealize.ShloMosaic.TcCoe Idealize.SL.Sem
open Cert.KernelIdeal.Tiles

/-! ### The queries, the latents and the result, head by head -/

/-- The latent queries of a tile, a head's query a column: column `256 * h + p` is head `h` of query `p`. -/
def qT (x0 : FVec Ideal S1x256x4096 .bf16) : FVec Ideal S256x4096 .bf16 := fun y =>
  x0 (ix3 0 ⟨(y 1).val % 256, Nat.mod_lt _ (by norm_num)⟩
    ⟨256 * ((y 1).val / 256) + (y 0).val, by have h0 : (y 0).val < 256 := (y 0).isLt; have h1 : (y 1).val < 4096 := (y 1).isLt; omega⟩)

/-- The rotary queries likewise, above zeros. -/
def rT (x1 : FVec Ideal S1x256x512 .bf16) : FVec Ideal S128x4096 .bf16 := fun y =>
  if hr : (y 0).val < 32 then
    (x1 (ix3 0 ⟨(y 1).val % 256, Nat.mod_lt _ (by norm_num)⟩
      ⟨32 * ((y 1).val / 256) + (y 0).val, by have h1 : (y 1).val < 4096 := (y 1).isLt; omega⟩) : EReal)
  else 0

/-- The latents by tiles, a key a column. -/
def lT (x2 : FVec Ideal S1x2048x256 .f32) : FVec Ideal S8x256x256 .bf16 := fun y =>
  x2 (ix3 0 ⟨256 * (y 0).val + (y 2).val, by have h0 : (y 0).val < 8 := (y 0).isLt; have h2 : (y 2).val < 256 := (y 2).isLt; omega⟩ (y 1))

/-- The result with its heads side by side again. -/
def oT (o : FVec Ideal S256x4096 .f32) : FVec Ideal S1x256x4096 .bf16 := fun y =>
  o (ix2 ⟨(y 2).val % 256, Nat.mod_lt _ (by norm_num)⟩
    ⟨256 * ((y 2).val / 256) + (y 1).val, by have h1 : (y 1).val < 256 := (y 1).isLt; have h2 : (y 2).val < 4096 := (y 2).isLt; omega⟩)

theorem qpiece (arg2 : Memref sig .tc .vmem S1x256x4096 .bf16) (harg2 : arg2.IsWhole) (x0 : Vec Ideal S1x256x4096 .bf16)
    (off : Nat) (hd : off % 256 = 0) (hoff : off + 256 ≤ 4096) (inb) (inb') :
    ∀ x : S256x256.Idx, k0_pay26 (F := Ideal) (View.readAt (Elt Ideal) arg2.view
      (Rect.unit ![0, 0, off] S1x256x256.size inb : Rect S1x256x4096).toLoadRect (harg2.unread x0)) x
        = qT x0 ((Rect.unit ![0, off] S256x256.size inb' : Rect S256x4096).emb x) := by
  intro x
  obtain ⟨r, p, rfl⟩ : ∃ r p : Fin 256, x = ix2 r p := ⟨x 0, x 1, eq_ix2 x⟩
  rw [query_apply, View.readAt_eq_ld, harg2.read_unread]
  unfold View.ld qT
  congr 1
  funext a
  apply Fin.ext
  match a with
  | ⟨0, _⟩ => rfl
  | ⟨1, _⟩ => change 0 + 1 * p.val = (off + 1 * p.val) % 256; omega
  | ⟨2, _⟩ => change off + 1 * r.val = 256 * ((off + 1 * p.val) / 256) + (0 + 1 * r.val); omega

theorem rpiece (arg3 : Memref sig .tc .vmem S1x256x512 .bf16) (harg3 : arg3.IsWhole) (x1 : Vec Ideal S1x256x512 .bf16)
    (off slab row : Nat) (hd : off % 256 = 0) (hoff : off + 256 ≤ 4096) (hrow : row + 32 ≤ 128) (hs : slab + 128 ≤ 512)
    (hh : 32 * (off / 256) = slab + row) (hsl) (inb) (inb') :
    ∀ x : S128x256.Idx, ropeTile row hsl (View.readAt (Elt Ideal) arg3.view
      (Rect.unit ![0, 0, slab] S1x256x128.size inb : Rect S1x256x512).toLoadRect (harg3.unread x1)) x
        = rT x1 ((Rect.unit ![0, off] S128x256.size inb' : Rect S128x4096).emb x) := by
  intro x
  obtain ⟨r, p, rfl⟩ : ∃ (r : Fin 128) (p : Fin 256), x = ix2 r p := ⟨x 0, x 1, eq_ix2 x⟩
  rw [rope_apply _ hrow]
  unfold rT
  have h0 : (((Rect.unit ![0, off] S128x256.size inb' : Rect S128x4096).emb (ix2 r p)) 0).val = r.val := by
    change 0 + 1 * r.val = r.val; omega
  by_cases h : r.val < 32
  · rw [dif_pos h, dif_pos (by rw [h0]; exact h), View.readAt_eq_ld, harg3.read_unread]
    unfold View.ld
    congr 1
    funext a
    apply Fin.ext
    match a with
    | ⟨0, _⟩ => rfl
    | ⟨1, _⟩ => change 0 + 1 * p.val = (off + 1 * p.val) % 256; omega
    | ⟨2, _⟩ => change slab + 1 * (row + r.val) = 32 * ((off + 1 * p.val) / 256) + (0 + 1 * r.val); omega
  · rw [dif_neg h, dif_neg (by rw [h0]; exact h)]

theorem lpiece (arg4 : Memref sig .tc .vmem S1x2048x256 .f32) (harg4 : arg4.IsWhole) (x2 : Vec Ideal S1x2048x256 .f32)
    (j off : Nat) (hd : off = 256 * j) (inb) (inb') :
    ∀ x : S1x256x256.Idx, k0_pay21 (F := Ideal) (View.readAt (Elt Ideal) arg4.view
      (Rect.unit ![0, off, 0] S1x256x256.size inb : Rect S1x2048x256).toLoadRect (harg4.unread x2)) x
        = lT x2 ((Rect.unit ![j, 0, 0] S1x256x256.size inb' : Rect S8x256x256).emb x) := by
  intro x
  subst hd
  obtain ⟨z, r, p, rfl⟩ : ∃ (z : Fin 1) (r p : Fin 256), x = ix3 z r p := ⟨x 0, x 1, x 2, eq_ix3 x⟩
  obtain rfl : z = 0 := Subsingleton.elim _ _
  rw [lat_apply, View.readAt_eq_ld, harg4.read_unread]
  unfold View.ld lT
  congr 1
  funext a
  apply Fin.ext
  match a with
  | ⟨0, _⟩ => rfl
  | ⟨1, _⟩ => change 256 * j + 1 * p.val = 256 * (j + 1 * 0) + (0 + 1 * p.val); omega
  | ⟨2, _⟩ => change 0 + 1 * r.val = 0 + 1 * r.val; rfl

theorem opiece (o : FVec Ideal S256x4096 .f32) (off : Nat) (hd : off % 256 = 0) (hoff : off + 256 ≤ 4096) (hsl) (inb') :
    ∀ x : S1x256x256.Idx, headTile off hsl o x
        = oT o ((Rect.unit ![0, 0, off] S1x256x256.size inb' : Rect S1x256x4096).emb x) := by
  intro x
  obtain ⟨z, r, p, rfl⟩ : ∃ (z : Fin 1) (r p : Fin 256), x = ix3 z r p := ⟨x 0, x 1, x 2, eq_ix3 x⟩
  obtain rfl : z = 0 := Subsingleton.elim _ _
  rw [head_apply _ hoff]
  unfold oT
  congr 1
  funext a
  apply Fin.ext
  match a with
  | ⟨0, _⟩ => change p.val = (off + 1 * p.val) % 256; omega
  | ⟨1, _⟩ => change off + r.val = 256 * ((off + 1 * p.val) / 256) + (0 + 1 * r.val); omega

section

variable (c : Dev nD) (i : grid0.Coords) (arg2 : Memref sig .tc .vmem S1x256x4096 .bf16) (harg2 : arg2.IsWhole) (arg3 : Memref sig .tc .vmem S1x256x512 .bf16) (harg3 : arg3.IsWhole) (arg4 : Memref sig .tc .vmem S1x2048x256 .f32) (harg4 : arg4.IsWhole) (arg5 : Memref sig .tc .vmem S1x2048x128 .f32) (harg5 : arg5.IsWhole) (arg6 : Memref sig .tc .vmem S1x256x4096 .bf16) (harg6 : arg6.IsWhole) (arg7 : Memref sig .tc .vmem S8x256x256 .bf16) (harg7 : arg7.IsWhole) (arg8 : Memref sig .tc .vmem S256x4096 .bf16) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S256x4096 .f32) (harg12 : arg12.IsWhole) (x0 : Vec Ideal S1x256x4096 .bf16) (x1 : Vec Ideal S1x256x512 .bf16) (x2 : Vec Ideal S1x2048x256 .f32) (x3 : Vec Ideal S1x2048x128 .f32) (xs0 : Vec Ideal S8x256x256 .bf16)

theorem v245_eq_A : kernelRun0_A.sl.v245 (F := Ideal) c arg2 harg2 arg8 x0 = qT x0 := by
  funext y
  unfold kernelRun0_A.sl.v245
  rw [View.readCov_eq_canon']
  refine (View.canon_apply_of_pieces (qT x0) (kernelRun0_A.sl.HS1_16 (F := Ideal) c arg2 harg2 x0) ?_ _ (View.cover_of_tiledL (kernelRun0_A.sl.HS1_16 (F := Ideal) c arg2 harg2 x0) S256x256.size (by sl_kernel_rfl) _)).trans ?_
  rotate_left
  · exact congrArg (qT x0) (funext fun a => Fin.ext (by match a with | ⟨0, _⟩ => change 0 + 1 * (y 0).val = (y 0).val; omega | ⟨1, _⟩ => change 0 + 1 * (y 1).val = (y 1).val; omega))
  · unfold kernelRun0_A.sl.HS1_16
    iterate 16
      refine List.forall_mem_cons.2 ⟨?_, ?_⟩
      · dsimp only
        exact qpiece _ _ _ _ (by norm_num) (by norm_num) _ _
    exact fun _ h => absurd h List.not_mem_nil

theorem v246_eq_A : kernelRun0_A.sl.v246 (F := Ideal) c arg3 harg3 arg9 x1 = rT x1 := by
  funext y
  unfold kernelRun0_A.sl.v246
  rw [View.readCov_eq_canon']
  refine (View.canon_apply_of_pieces (rT x1) (kernelRun0_A.sl.HS2_16 (F := Ideal) c arg3 harg3 x1) ?_ _ (View.cover_of_tiledL (kernelRun0_A.sl.HS2_16 (F := Ideal) c arg3 harg3 x1) S128x256.size (by sl_kernel_rfl) _)).trans ?_
  rotate_left
  · exact congrArg (rT x1) (funext fun a => Fin.ext (by match a with | ⟨0, _⟩ => change 0 + 1 * (y 0).val = (y 0).val; omega | ⟨1, _⟩ => change 0 + 1 * (y 1).val = (y 1).val; omega))
  · unfold kernelRun0_A.sl.HS2_16
    iterate 16
      refine List.forall_mem_cons.2 ⟨?_, ?_⟩
      · dsimp only
        exact rpiece _ _ _ _ _ _ (by norm_num) (by norm_num) (by norm_num) (by norm_num) (by norm_num) _ _ _
    exact fun _ h => absurd h List.not_mem_nil

theorem v245_eq_B : kernelRun0_B.sl.v245 (F := Ideal) c arg2 harg2 arg8 x0 = qT x0 :=
  v245_eq_A c arg2 harg2 arg8 x0

theorem v246_eq_B : kernelRun0_B.sl.v246 (F := Ideal) c arg3 harg3 arg9 x1 = rT x1 :=
  v246_eq_A c arg3 harg3 arg9 x1

theorem lat_eq (arg7' : Memref sig .tc .vmem S8x256x256 .bf16) :
    arg7'.view.read (Elt Ideal) (arg7'.view.writes (Elt Ideal) arg7'.view.junk (kernelRun0_A.sl.HS0_8 (F := Ideal) c arg4 harg4 x2)) = lT x2 := by
  rw [View.read_writes_eq_canon _ _ (kernelRun0_A.sl.HS0_8 (F := Ideal) c arg4 harg4 x2) (View.cover_of_tiledL (kernelRun0_A.sl.HS0_8 (F := Ideal) c arg4 harg4 x2) S1x256x256.size (by sl_kernel_rfl))]
  funext y
  refine View.canon_apply_of_pieces (lT x2) (kernelRun0_A.sl.HS0_8 (F := Ideal) c arg4 harg4 x2) ?_ _ (View.cover_of_tiledL (kernelRun0_A.sl.HS0_8 (F := Ideal) c arg4 harg4 x2) S1x256x256.size (by sl_kernel_rfl) _)
  unfold kernelRun0_A.sl.HS0_8
  iterate 8
    refine List.forall_mem_cons.2 ⟨?_, ?_⟩
    · dsimp only
      exact lpiece _ _ _ _ _ (by norm_num) _ _
  exact fun _ h => absurd h List.not_mem_nil

/-- The array a point leaves, from the columns it has computed. -/
theorem out_eq_B (hc0) :
    out0_B_4 (F := Ideal) c i arg2 harg2 arg3 harg3 arg4 harg4 arg5 harg5 arg6 harg6 arg7 harg7 arg8 harg8 arg9 harg9 arg10 harg10 arg11 harg11 arg12 harg12 hc0 x0 x1 x2 x3 xs0
      = oT (kernelRun0_B.sl.r_13 (F := Ideal) c i arg2 harg2 arg3 harg3 arg4 harg4 arg5 harg5 arg6 harg6 arg7 harg7 arg8 harg8 arg9 harg9 arg10 harg10 arg11 harg11 arg12 harg12 x0 x1 x2 x3 xs0) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 hc0 x0 x1 x2 x3 xs0)]
  funext y
  refine View.canon_apply_of_pieces (oT _) _ ?_ _ (cover0_B_4 c i arg2 harg2 arg3 harg3 arg4 harg4 arg5 harg5 arg6 harg6 arg7 harg7 arg8 harg8 arg9 harg9 arg10 harg10 arg11 harg11 arg12 harg12 hc0 x0 x1 x2 x3 xs0 _)
  unfold kernelRun0_B
  dsimp only
  iterate 16
    refine List.forall_mem_cons.2 ⟨?_, ?_⟩
    · dsimp only
      exact opiece _ _ (by norm_num) (by norm_num) _ _
  exact fun _ h => absurd h List.not_mem_nil

theorem out_eq_A (hc0) :
    out0_A_4 (F := Ideal) c i arg2 harg2 arg3 harg3 arg4 harg4 arg5 harg5 arg6 harg6 arg7 harg7 arg8 harg8 arg9 harg9 arg10 harg10 arg11 harg11 arg12 harg12 hc0 x0 x1 x2 x3
      = oT (kernelRun0_A.sl.r_14 (F := Ideal) c i arg2 harg2 arg3 harg3 arg4 harg4 arg5 harg5 arg6 harg6 arg7 harg7 arg8 harg8 arg9 harg9 arg10 harg10 arg11 harg11 arg12 harg12 x0 x1 x2 x3) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 hc0 x0 x1 x2 x3)]
  funext y
  refine View.canon_apply_of_pieces (oT _) _ ?_ _ (cover0_A_4 c i arg2 harg2 arg3 harg3 arg4 harg4 arg5 harg5 arg6 harg6 arg7 harg7 arg8 harg8 arg9 harg9 arg10 harg10 arg11 harg11 arg12 harg12 hc0 x0 x1 x2 x3 _)
  unfold kernelRun0_A
  dsimp only
  iterate 16
    refine List.forall_mem_cons.2 ⟨?_, ?_⟩
    · dsimp only
      exact opiece _ _ (by norm_num) (by norm_num) _ _
  exact fun _ h => absurd h List.not_mem_nil

end

end Cert.KernelIdeal.Body

end
-- ==== Proof.Spec.lean ====
module

public import proofs.«01_k».proof.Proof.Softmax
public import Idealize.ShloMosaic.Lib.Pointwise

@[expose] public section

noncomputable section

namespace Cert.Spec

open Idealize.ShloMosaic Cert.Softmax

/-! ### Causal attention over the latents, entry by entry -/

/-- Position `s` of batch `b` among all the rows. -/
def rowAt (b : Fin 16) (s : Fin 2048) : Fin 32768 := ⟨2048 * b.val + s.val, by omega⟩

variable (A0 : (⟨2, ![32768, 4096]⟩ : Shape).Idx → EReal) (A1 : (⟨2, ![32768, 512]⟩ : Shape).Idx → EReal)
  (A2 : (⟨2, ![32768, 896]⟩ : Shape).Idx → EReal)

/-- Head `h` of query `s` against key `k`: 256 latent products and 32 rotary ones. -/
def dots (b : Fin 16) (h : Fin 16) (s k : Fin 2048) : EReal :=
  (∑ x : Fin 256, A2 (ix2 (rowAt b k) ⟨512 + x.val, by omega⟩) * A0 (ix2 (rowAt b s) ⟨256 * h.val + x.val, by omega⟩))
    + ∑ x : Fin 32, A2 (ix2 (rowAt b k) ⟨768 + x.val, by omega⟩) * A1 (ix2 (rowAt b s) ⟨32 * h.val + x.val, by omega⟩)

/-- The score, over `√96`, of a key that is not past its query; `-∞` otherwise. -/
def score (b : Fin 16) (h : Fin 16) (s k : Fin 2048) : EReal :=
  if k.val ≤ s.val then dots A0 A1 A2 b h s k * (((Real.sqrt 96)⁻¹ : ℝ) : EReal) else ⊥

/-- Feature `f` of the value of key `k`. -/
def value (b : Fin 16) (f : Fin 256) (k : Fin 2048) : EReal := A2 (ix2 (rowAt b k) ⟨512 + f.val, by omega⟩)

/-- Head `h`, feature `f` of the result at query `s`. -/
def attention (b : Fin 16) (s : Fin 2048) (h : Fin 16) (f : Fin 256) : EReal :=
  attend (score A0 A1 A2 b h s) (value A2 b f) (Ideal.ofBits .f32 0x0DA24260#32)

end Cert.Spec

end
-- ==== Proof.Blocks.lean ====
module

public import proofs.«01_k».proof.Proof.Gen.KernelIdeal.Value
public import proofs.«01_k».proof.Proof.Spec
public import Idealize.ShloMosaic.Lib.Pipeline.ValueKit
public import Idealize.ShloMosaic.Lib.Claim
public import Idealize.ShloMosaic.Lib.Pointwise

set_option maxRecDepth 16384

@[expose] public section

noncomputable section

namespace Cert.KernelIdeal.Blocks

open Cert.KernelIdeal Cert.KernelIdeal.Gen Idealize.ShloMosaic Idealize.ShloMosaic.TcCoe Idealize.SL.Sem Cert.Spec

variable (m : (ℓ : Loc nD τ sig) → Buf (Elt Ideal) ℓ) (c : Dev nD)

/-! ### The blocks a point reads, as entries of the arguments -/

theorem idx : ∀ t : Fin cfg0.N, win0_0.index t = ![t.val / 8, t.val % 8, 0] ∧ win0_1.index t = ![t.val / 8, t.val % 8, 0]
    ∧ win0_2.index t = ![t.val / 8, 0, 2] ∧ win0_3.index t = ![t.val / 8, 0, 6] :=
  (by decide +kernel : ∀ t : Fin grid0.N, _)

theorem lt128 (t : Fin cfg0.N) : t.val < 128 := lt_of_lt_of_eq t.isLt N_0

/-- The query tile a point stands at. -/
theorem coord_eq : ∀ t : Fin cfg0.N, (grid0.coords t 1).val = t.val % 8 := (by decide +kernel : ∀ t : Fin grid0.N, _)

/-- The batch and the position of a row of a point's query tile. -/
def bAt (t : Fin cfg0.N) : Fin 16 := ⟨t.val / 8, by have := lt128 t; omega⟩
def sAt (t : Fin cfg0.N) (p : Fin 256) : Fin 2048 := ⟨256 * (t.val % 8) + p.val, by omega⟩

theorem row_eq {n : ℕ} (A : (⟨2, ![32768, n]⟩ : Shape).Idx → EReal) (b : Fin 16) (s : Fin 2048) (h) (x x' : Fin n) (hx : x.val = x'.val) :
    A (ix2 ⟨b.val * 2048 + s.val, h⟩ x) = A (ix2 (rowAt b s) x') := by
  obtain rfl : x = x' := Fin.ext hx
  exact congrArg (fun r => A (ix2 r x)) (Fin.ext (by change b.val * 2048 + s.val = 2048 * b.val + s.val; omega))

/-- The latent queries of a point. -/
theorem iblk0 (t : Fin cfg0.N) (p : Fin 256) (x : Fin 4096) :
    iblk m c 0 t (ix3 0 p x) = m ((c.tc : Thread nD τ).loc main_arg0) (ix2 (rowAt (bAt t) (sAt t p)) x) := by
  obtain ⟨h0, h1, h2, h3⟩ := idx t
  unfold iblk
  entry_read
  change shapeCast main_v1.ty.shape _ _ ((win0_0.blk t).view.emb (ix3 0 p x)) = _
  rw [show (win0_0.blk t).view.emb (ix3 0 p x) = ix3 (bAt t) (sAt t p) x from by unfold bAt sAt; blk_ext [h0]]
  pointwise
  exact row_eq _ _ _ _ _ _ rfl

/-- The rotary queries of a point. -/
theorem iblk1 (t : Fin cfg0.N) (p : Fin 256) (x : Fin 512) :
    iblk m c 1 t (ix3 0 p x) = m ((c.tc : Thread nD τ).loc main_arg1) (ix2 (rowAt (bAt t) (sAt t p)) x) := by
  obtain ⟨h0, h1, h2, h3⟩ := idx t
  unfold iblk
  entry_read
  change shapeCast main_v2.ty.shape _ _ ((win0_1.blk t).view.emb (ix3 0 p x)) = _
  rw [show (win0_1.blk t).view.emb (ix3 0 p x) = ix3 (bAt t) (sAt t p) x from by unfold bAt sAt; blk_ext [h1]]
  pointwise
  exact row_eq _ _ _ _ _ _ rfl

/-- The latents of a batch: columns 512 to 768. -/
def lat (b : Fin 16) : FVec Ideal S1x2048x256 .f32 := fun y =>
  m ((c.tc : Thread nD τ).loc main_arg2) (ix2 (rowAt b (y 1)) (⟨512 + (y 2).val, by have h : (y 2).val < 256 := (y 2).isLt; omega⟩ : Fin 896))

theorem X2_eq (t : Fin cfg0.N) : X0_2 m c t = lat m c (bAt t) := by
  obtain ⟨h0, h1, h2, h3⟩ := idx t
  funext y
  obtain ⟨z, k, x, rfl⟩ : ∃ (z : Fin 1) (k : Fin 2048) (x : Fin 256), y = ix3 z k x := ⟨y 0, y 1, y 2, eq_ix3 y⟩
  unfold X0_2 Pipeline.Window.fill
  rw [dif_pos (moved0_2 t _)]
  unfold iblk
  entry_read
  change shapeCast main_v0.ty.shape _ _ ((win0_2.blk t).view.emb _) = _
  rw [show (win0_2.blk t).view.emb _ = ix3 (bAt t) k (⟨512 + x.val, by omega⟩ : Fin 896) from by unfold bAt; blk_ext [h2]]
  pointwise
  exact row_eq _ _ _ _ _ _ rfl

/-- The rotary keys of a batch, and 96 further columns. -/
theorem iblk3 (t : Fin cfg0.N) (k : Fin 2048) (x : Fin 128) :
    iblk m c 3 t (ix3 0 k x)
      = m ((c.tc : Thread nD τ).loc main_arg2) (ix2 (rowAt (bAt t) k) (⟨768 + x.val, by omega⟩ : Fin 896)) := by
  obtain ⟨h0, h1, h2, h3⟩ := idx t
  unfold iblk
  entry_read
  change shapeCast main_v0.ty.shape _ _ ((win0_3.blk t).view.emb (ix3 0 k x)) = _
  rw [show (win0_3.blk t).view.emb (ix3 0 k x) = ix3 (bAt t) k (⟨768 + x.val, by omega⟩ : Fin 896) from by unfold bAt; blk_ext [h3]]
  pointwise
  exact row_eq _ _ _ _ _ _ rfl

end Cert.KernelIdeal.Blocks

end
-- ==== Proof.Result.lean ====
module

public import proofs.«01_k».proof.Proof.Query
public import proofs.«01_k».proof.Proof.Blocks

set_option maxRecDepth 16384

@[expose] public section

noncomputable section

namespace Cert.KernelIdeal.Result

open Cert.KernelIdeal Cert.KernelIdeal.Gen Idealize.ShloMosaic Idealize.ShloMosaic.TcCoe Idealize.SL.Sem
open Cert.KernelIdeal.Body Cert.KernelIdeal.Blocks Cert.KernelIdeal.Step Cert.Softmax

/-! ### What a point leaves, at either kind of point -/

/-- The online softmax of a point, a head's query a column, over the latents `lct`. -/
def online (qi : ℕ) (x0 : FVec Ideal S1x256x4096 .bf16) (x1 : FVec Ideal S1x256x512 .bf16) (x2 : FVec Ideal S1x2048x256 .f32)
    (x3 : FVec Ideal S1x2048x128 .f32) (lct : FVec Ideal S8x256x256 .bf16) : FVec Ideal S256x4096 .f32 := fun y =>
  Ideal.div (rowA (tScore (qT x0) (rT x1) x2 x3 qi (y 1)) (tVal lct (y 0)) (qi + 1))
    (max (rowA (tScore (qT x0) (rT x1) x2 x3 qi (y 1)) (fun _ _ => 1) (qi + 1)) (Ideal.ofBits .f32 0x0DA24260#32))

section

variable (c : Dev nD) (i : grid0.Coords) (arg2 : Memref sig .tc .vmem S1x256x4096 .bf16) (harg2 : arg2.IsWhole) (arg3 : Memref sig .tc .vmem S1x256x512 .bf16) (harg3 : arg3.IsWhole) (arg4 : Memref sig .tc .vmem S1x2048x256 .f32) (harg4 : arg4.IsWhole) (arg5 : Memref sig .tc .vmem S1x2048x128 .f32) (harg5 : arg5.IsWhole) (arg6 : Memref sig .tc .vmem S1x256x4096 .bf16) (harg6 : arg6.IsWhole) (arg7 : Memref sig .tc .vmem S8x256x256 .bf16) (harg7 : arg7.IsWhole) (arg8 : Memref sig .tc .vmem S256x4096 .bf16) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S256x4096 .f32) (harg12 : arg12.IsWhole) (x0 : Vec Ideal S1x256x4096 .bf16) (x1 : Vec Ideal S1x256x512 .bf16) (x2 : Vec Ideal S1x2048x256 .f32) (x3 : Vec Ideal S1x2048x128 .f32) (xs0 : Vec Ideal S8x256x256 .bf16)

theorem out_B (hc0) :
    out0_B_4 (F := Ideal) c i arg2 harg2 arg3 harg3 arg4 harg4 arg5 harg5 arg6 harg6 arg7 harg7 arg8 harg8 arg9 harg9 arg10 harg10 arg11 harg11 arg12 harg12 hc0 x0 x1 x2 x3 xs0 = oT (online (i 1).val x0 x1 x2 x3 xs0) := by
  rw [out_eq_B, r_eq_B, v245_eq_B, v246_eq_B]
  congr 1
  funext y
  obtain ⟨f, cc, rfl⟩ : ∃ (f : Fin 256) (cc : Fin 4096), y = ix2 f cc := ⟨y 0, y 1, eq_ix2 y⟩
  exact finalO_apply (x2 := x2) (x3 := x3) (lct := xs0) (h4 := harg4.read_unread x2) (h5 := harg5.read_unread x3)
    (h7 := harg7.read_unread xs0) (hv0 := v0_eq_B i) (hv1 := v281_eq_B i) ..

theorem out_A (hc0) :
    out0_A_4 (F := Ideal) c i arg2 harg2 arg3 harg3 arg4 harg4 arg5 harg5 arg6 harg6 arg7 harg7 arg8 harg8 arg9 harg9 arg10 harg10 arg11 harg11 arg12 harg12 hc0 x0 x1 x2 x3 = oT (online (i 1).val x0 x1 x2 x3 (lT x2)) := by
  rw [out_eq_A, r_eq_A, v245_eq_A, v246_eq_A]
  congr 1
  funext y
  obtain ⟨f, cc, rfl⟩ : ∃ (f : Fin 256) (cc : Fin 4096), y = ix2 f cc := ⟨y 0, y 1, eq_ix2 y⟩
  exact finalO_apply (x2 := x2) (x3 := x3) (lct := lT x2) (h4 := harg4.read_unread x2) (h5 := harg5.read_unread x3)
    (h7 := lat_eq (c := c) (harg4 := harg4) (x2 := x2) (arg7' := arg7) ..) (hv0 := v0_eq_A i) (hv1 := v281_eq_A i) ..

end

variable (m : (ℓ : Loc nD τ sig) → Buf (Elt Ideal) ℓ) (c : Dev nD)

/-- After every point the carried latents are the batch's, a key a column. -/
theorem carried_eq : ∀ (n : ℕ) (hn : n < cfg0.N), (outsAt0 m c n hn).2 = lT (lat m c (bAt ⟨n, hn⟩)) := by
  intro n
  induction n with
  | zero =>
    intro hn
    rw [show outsAt0 m c 0 hn = _ from outsAt0_A m c ⟨0, hn⟩ (Nat.zero_mod _)]
    dsimp only
    unfold sout0_A_0
    rw [X2_eq]
    exact lat_eq (c := c) (arg7' := scM0_0) ..
  | succ n ih =>
    intro hn
    have hN : n + 1 < 128 := lt128 ⟨n + 1, hn⟩
    by_cases h0 : (n + 1) % 8 = 0
    · rw [show outsAt0 m c (n + 1) hn = _ from outsAt0_A m c ⟨n + 1, hn⟩ h0]
      dsimp only
      unfold sout0_A_0
      rw [X2_eq]
      exact lat_eq (c := c) (arg7' := scM0_0) ..
    · rw [show outsAt0 m c (n + 1) hn = _ from outsAt0_B m c ⟨n + 1, hn⟩ h0]
      dsimp only
      unfold sout0_B_0
      rw [show (outsAt0 m c (n + 1 - 1) _).2 = (outsAt0 m c n (Nat.lt_of_succ_lt hn)).2 from rfl, ih]
      congr 2
      unfold bAt
      apply Fin.ext
      change n / 8 = (n + 1) / 8
      omega

/-- What a point leaves for its query tile. -/
theorem out_eq (t : Fin cfg0.N) :
    (outsAt0 m c t.val t.isLt).1
      = oT (online (t.val % 8) (iblk m c 0 t) (iblk m c 1 t) (lat m c (bAt t)) (iblk m c 3 t) (lT (lat m c (bAt t)))) := by
  have hN := lt128 t
  by_cases h0 : t.val % 8 = 0
  · rw [outsAt0_A m c t h0]
    dsimp only
    rw [out_A, X2_eq, coord_eq]
  · rw [outsAt0_B m c t h0]
    dsimp only
    rw [out_B, X2_eq, coord_eq, carried_eq, show bAt ⟨t.val - 1, _⟩ = bAt t from by
      unfold bAt; apply Fin.ext; change (t.val - 1) / 8 = t.val / 8; omega]

end Cert.KernelIdeal.Result

end
-- ==== Proof.Consts.lean ====
module

public import Idealize.ShloMosaic.Lib.Pointwise

@[expose] public section

noncomputable section

namespace Cert.Consts

open Idealize.ShloMosaic

/-! ### The constants as extended reals -/

/-- The least denominator, a positive real. -/
theorem eps_pos : ∃ ε : ℝ, 0 < ε ∧ Ideal.ofBits .f32 0x0DA24260#32 = (ε : EReal) := by
  refine ⟨(1 : ℝ) * ((2 ^ 23 + 2245216 : ℕ) : ℝ) * (2 : ℝ) ^ ((27 : ℤ) - 127 - 23), by positivity, ?_⟩
  simp [Ideal.ofBits, Ideal.ieee, -EReal.coe_mul]
  try norm_num

theorem neg_inf : Ideal.ofBits .f32 0xFF800000#32 = (⊥ : EReal) := by
  simp [Ideal.ofBits, Ideal.ieee]

theorem ninety_six : Ideal.ofBits .f32 0x42C00000#32 = ((96 : ℝ) : EReal) := by
  simp [Ideal.ofBits, Ideal.ieee, -EReal.coe_mul]
  norm_num

/-- A quotient by `√96`. -/
theorem div_sqrt (x : EReal) : Ideal.div x (Ideal.sqrt (Ideal.ofBits .f32 0x42C00000#32)) = x * (((Real.sqrt 96)⁻¹ : ℝ) : EReal) := by
  have h : (Real.sqrt 96) ≠ 0 := (Real.sqrt_pos.2 (by norm_num)).ne'
  rw [ninety_six, Ideal.sqrt_coe, if_neg (by norm_num), Ideal.div_coe h, one_div]

/-- Two positions compared as words. -/
theorem le_word (k s : Fin 2048) :
    IntOp.cmpi .sle (BitVec.ofNat 32 k.val) (BitVec.ofNat 32 s.val) = BitVec.ofBool (decide (k.val ≤ s.val)) := by
  change BitVec.ofBool ((BitVec.ofNat 32 k.val).sle (BitVec.ofNat 32 s.val)) = _
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  congr 1
  simp only [Nat.cast_le]

/-- A choice by that comparison. -/
theorem select_le {α : Type} (k s : Fin 2048) (a b : α) :
    Scalar.select (BitVec.ofBool (decide (k.val ≤ s.val))) a b = if k.val ≤ s.val then a else b := by
  by_cases h : k.val ≤ s.val
  · rw [if_pos h, decide_eq_true h]; rfl
  · rw [if_neg h, decide_eq_false h]; rfl

end Cert.Consts

end
-- ==== Proof.KernelValue.lean ====
module

public import proofs.«01_k».proof.Proof.Result
public import proofs.«01_k».proof.Proof.Consts
public import proofs.«01_k».proof.Proof.Gen.KernelIdeal.Value

@[expose] public section

noncomputable section

namespace Cert.KernelIdeal.Attention

open Cert.KernelIdeal Cert.KernelIdeal.Gen Idealize.ShloMosaic Idealize.ShloMosaic.TcCoe Idealize.SL.Sem
open Cert.KernelIdeal.Body Cert.KernelIdeal.Blocks Cert.KernelIdeal.Result Cert.KernelIdeal.Value
open Cert.Spec Cert.Softmax Cert.Consts Cert.KernelIdeal.Step Cert.KernelIdeal.Pay

variable (m : (ℓ : Loc nD τ sig) → Buf (Elt Ideal) ℓ) (c : Dev nD)

/-! ### A point's result as attention

At point `t` the query `256 * (t % 8) + p` of head `h` is in column `256 * h + p`. -/

/-- The three arguments. -/
abbrev a0 : (⟨2, ![32768, 4096]⟩ : Shape).Idx → EReal := m ((c.tc : Thread nD τ).loc main_arg0)
abbrev a1 : (⟨2, ![32768, 512]⟩ : Shape).Idx → EReal := m ((c.tc : Thread nD τ).loc main_arg1)
abbrev a2 : (⟨2, ![32768, 896]⟩ : Shape).Idx → EReal := m ((c.tc : Thread nD τ).loc main_arg2)

variable (t : Fin cfg0.N) (h : Fin 16) (p : Fin 256)

/-- The point's queries, latent and rotary, and the batch's rotary keys. -/
abbrev b0 : FVec Ideal S1x256x4096 .bf16 := iblk m c 0 t
abbrev b1 : FVec Ideal S1x256x512 .bf16 := iblk m c 1 t
abbrev b3 : FVec Ideal S1x2048x128 .f32 := iblk m c 3 t

/-- The column of head `h` and query `p` of the tile. -/
def col : Fin 4096 := ⟨256 * h.val + p.val, by omega⟩

theorem col_mod : (col h p).val % 256 = p.val := by change (256 * h.val + p.val) % 256 = p.val; omega
theorem col_div : (col h p).val / 256 = h.val := by change (256 * h.val + p.val) / 256 = h.val; omega

theorem qT_eq (x : Fin 256) : qT (b0 m c t) (ix2 x (col h p))
    = a0 m c (ix2 (rowAt (bAt t) (sAt t p)) ⟨256 * h.val + x.val, by omega⟩) := by
  refine Eq.trans ?_ (iblk0 m c t p ⟨256 * h.val + x.val, by omega⟩)
  change b0 m c t (ix3 0 ⟨(col h p).val % 256, _⟩ ⟨256 * ((col h p).val / 256) + x.val, _⟩) = _
  simp only [col_mod, col_div]

theorem rT_eq (x : Fin 128) : rT (b1 m c t) (ix2 x (col h p))
    = if hx : x.val < 32 then a1 m c (ix2 (rowAt (bAt t) (sAt t p)) ⟨32 * h.val + x.val, by omega⟩) else 0 := by
  change (if hr : x.val < 32 then (b1 m c t (ix3 0 ⟨(col h p).val % 256, _⟩ ⟨32 * ((col h p).val / 256) + x.val, _⟩) : EReal) else 0) = _
  split
  · refine Eq.trans ?_ (iblk1 m c t p ⟨32 * h.val + x.val, by omega⟩)
    simp only [col_mod, col_div]
  · rfl

/-- The rotary products: past the thirty-second the query's row is zero. -/
theorem rotary_eq (k : Fin 2048) :
    (∑ x : Fin 128, (b3 m c t) (ix3 0 k x) * rT (b1 m c t) (ix2 x (col h p)) : EReal)
      = ∑ x : Fin 32, a2 m c (ix2 (rowAt (bAt t) k) ⟨768 + x.val, by omega⟩) * a1 m c (ix2 (rowAt (bAt t) (sAt t p)) ⟨32 * h.val + x.val, by omega⟩) := by
  rw [show (∑ x : Fin 128, (b3 m c t) (ix3 0 k x) * rT (b1 m c t) (ix2 x (col h p)) : EReal) = _ from
    Fin.sum_univ_add (a := 32) (b := 96) fun x : Fin (32 + 96) => ((b3 m c t) (ix3 0 k x) * rT (b1 m c t) (ix2 x (col h p)) : EReal)]
  rw [Finset.sum_eq_zero (s := (Finset.univ : Finset (Fin 96))) fun x _ => by
    rw [rT_eq, dif_neg (by change ¬ (32 + x.val < 32); omega), mul_zero], add_zero]
  refine Finset.sum_congr rfl fun x _ => ?_
  rw [rT_eq, dif_pos (by change x.val < 32; omega)]
  exact congrArg (· * _) (iblk3 m c t k _)

/-- The kernel's score is the specification's over `log 2`. -/
theorem score_eq (k : Fin 2048) :
    Step.score (qT (b0 m c t)) (rT (b1 m c t)) (lat m c (bAt t)) (b3 m c t) k (col h p)
      = dots (a0 m c) (a1 m c) (a2 m c) (bAt t) h (sAt t p) k * (((Real.sqrt 96)⁻¹ : ℝ) : EReal) * (((Real.log 2)⁻¹ : ℝ) : EReal) := by
  unfold Step.score dots scale2
  rw [EReal.coe_mul, ← mul_assoc, rotary_eq]
  simp only [qT_eq]
  rfl

theorem keyAt_eq (j : Fin 8) (r : Fin 256) : keyAt j.val r = key j r :=
  Fin.ext (Nat.mod_eq_of_lt (by omega))

theorem tScore_eq (j : Fin 8) (r : Fin 256) :
    tScore (qT (b0 m c t)) (rT (b1 m c t)) (lat m c (bAt t)) (b3 m c t) (t.val % 8) (col h p) j.val r
      = Spec.score (a0 m c) (a1 m c) (a2 m c) (bAt t) h (sAt t p) (key j r) * (((Real.log 2)⁻¹ : ℝ) : EReal) := by
  unfold tScore Spec.score
  rw [keyAt_eq, score_eq, col_mod]
  change _ + (if 256 * j.val + r.val ≤ 256 * (t.val % 8) + p.val then 0 else ⊥) = (if 256 * j.val + r.val ≤ 256 * (t.val % 8) + p.val then _ else ⊥) * _
  split
  · exact add_zero _
  · rw [EReal.add_bot, EReal.bot_mul_coe_of_pos (inv_pos.2 (Real.log_pos (by norm_num)))]

theorem tVal_eq (f : Fin 256) (j : Fin 8) (r : Fin 256) :
    tVal (lT (lat m c (bAt t))) f j.val r = value (a2 m c) (bAt t) f (key j r) := by
  unfold tVal
  change a2 m c (ix2 (rowAt (bAt t) ⟨256 * (j.val % 8) + r.val, _⟩) ⟨512 + f.val, _⟩) = a2 m c (ix2 (rowAt (bAt t) ⟨256 * j.val + r.val, _⟩) ⟨512 + f.val, _⟩)
  simp only [Nat.mod_eq_of_lt j.isLt]

/-- Feature `f` of the column: attention over the whole sequence. -/
theorem online_attention (f : Fin 256) :
    online (t.val % 8) (b0 m c t) (b1 m c t) (lat m c (bAt t)) (b3 m c t) (lT (lat m c (bAt t))) (ix2 f (col h p))
      = attention (a0 m c) (a1 m c) (a2 m c) (bAt t) (sAt t p) h f := by
  obtain ⟨ε, hε, e⟩ := eps_pos
  unfold online attention
  rw [e]
  refine online_eq _ _ _ _ hε (t.val % 8 + 1) (by omega) (fun j r _ => tScore_eq m c t h p j r) (fun j r _ => tVal_eq m c t f j r) ?_
  intro j r hj
  unfold Spec.score
  refine if_neg ?_
  change ¬ (256 * j.val + r.val ≤ 256 * (t.val % 8) + p.val)
  omega

/-- The kernel's array. -/
theorem result_apply (b : Fin 16) (s : Fin 2048) (w : Fin 4096) : G4 m c (ix3 b s w)
    = attention (a0 m c) (a1 m c) (a2 m c) b s ⟨w.val / 256, by omega⟩ ⟨w.val % 256, by omega⟩ := by
  have hp : pt4Of (ix3 b s w) = 8 * b.val + s.val / 256 := by
    change 8 * (b.val / 1 - 0) + 1 * (s.val / 256 - 0) + 1 * (w.val / 4096 - 0) = _
    omega
  have hN : pt4Of (ix3 b s w) < cfg0.N := by refine lt_of_lt_of_eq ?_ N_0.symm; rw [hp]; omega
  unfold G4
  rw [dif_pos hN, ← outsAt0_sweep m c _ hN]
  have ho := out_eq m c ⟨pt4Of (ix3 b s w), hN⟩
  dsimp only at ho
  rw [ho]
  generalize ht : (⟨pt4Of (ix3 b s w), hN⟩ : Fin cfg0.N) = t
  have htv : t.val = 8 * b.val + s.val / 256 := by rw [← ht]; exact hp
  have hb : bAt t = b := Fin.ext (by change t.val / 8 = b.val; omega)
  have hs : sAt t ⟨s.val % 256, by omega⟩ = s := Fin.ext (by change 256 * (t.val % 8) + s.val % 256 = s.val; omega)
  have hq : pt4Of (ix3 b s w) % 8 = t.val % 8 := by rw [hp, htv]
  rw [hq]
  have key := online_attention m c t ⟨w.val / 256, by omega⟩ ⟨s.val % 256, by omega⟩ ⟨w.val % 256, by omega⟩
  rw [hs] at key
  conv_rhs => rw [← hb]
  rw [← key]
  unfold oT
  congr 1
  funext a
  apply Fin.ext
  match a with
  | ⟨0, _⟩ => change w.val % 4096 % 256 = w.val % 256; omega
  | ⟨1, _⟩ => change 256 * (w.val % 4096 / 256) + s.val % 256 = 256 * (w.val / 256) + s.val % 256; omega

end Cert.KernelIdeal.Attention

end
-- ==== Proof.RefValue.lean ====
module

public import proofs.«01_k».proof.Proof.Gen.ReferenceIdeal.Read
public import proofs.«01_k».proof.Proof.Spec
public import proofs.«01_k».proof.Proof.Consts

@[expose] public section

noncomputable section

namespace Cert.ReferenceIdeal.Attention

open Cert.ReferenceIdeal Cert.ReferenceIdeal.Gen Cert.ReferenceIdeal.Read Idealize.ShloMosaic Idealize.ShloMosaic.TcCoe Idealize.SL.Sem
open Cert.Spec Cert.Softmax Cert.Consts

/-! ### The reference's stages, entry by entry -/

variable (A0 : (⟨S32768x4096, .bf16⟩ : BufTy).Contents (Elt Ideal)) (A1 : (⟨S32768x512, .bf16⟩ : BufTy).Contents (Elt Ideal))
  (A2 : (⟨S32768x896, .f32⟩ : BufTy).Contents (Elt Ideal))
variable (b : Fin 16) (s k : Fin 2048) (h : Fin 16)

/-- The latents and the rotary part of key `k`, side by side. -/
theorem keys_apply (x : Fin 288) : val_main_v6 (F := Ideal) A2 (ix3 b k x) = A2 (ix2 (rowAt b k) ⟨512 + x.val, by omega⟩) := by
  rw [val_main_v6_apply, val_main_v5_apply]
  congr 1
  funext a
  apply Fin.ext
  match a with
  | ⟨0, _⟩ => change ((b.val * 2048 + k.val) * 896 + (512 + x.val)) / 896 = 2048 * b.val + k.val; omega
  | ⟨1, _⟩ => change ((b.val * 2048 + k.val) * 896 + (512 + x.val)) % 896 = 512 + x.val; omega

theorem values_apply (f : Fin 256) : val_main_v9 (F := Ideal) A2 (ix3 b k f) = value A2 b f k := by
  rw [val_main_v9_apply]
  exact keys_apply A2 b k ⟨f.val, by omega⟩

theorem query_latent (x : Fin 256) :
    val_main_v1 (F := Ideal) A0 (ix4 b s h x) = A0 (ix2 (rowAt b s) ⟨256 * h.val + x.val, by omega⟩) := by
  rw [val_main_v1_apply, val_main_v0_apply]
  change A0 _ = A0 _
  congr 1
  funext a
  apply Fin.ext
  match a with
  | ⟨0, _⟩ => change (((b.val * 2048 + s.val) * 16 + h.val) * 256 + x.val) / 4096 = 2048 * b.val + s.val; omega
  | ⟨1, _⟩ => change (((b.val * 2048 + s.val) * 16 + h.val) * 256 + x.val) % 4096 = 256 * h.val + x.val; omega

theorem query_rotary (x : Fin 32) :
    val_main_v3 (F := Ideal) A1 (ix4 b s h x) = A1 (ix2 (rowAt b s) ⟨32 * h.val + x.val, by omega⟩) := by
  rw [val_main_v3_apply, val_main_v2_apply]
  change A1 _ = A1 _
  congr 1
  funext a
  apply Fin.ext
  match a with
  | ⟨0, _⟩ => change (((b.val * 2048 + s.val) * 16 + h.val) * 32 + x.val) / 512 = 2048 * b.val + s.val; omega
  | ⟨1, _⟩ => change (((b.val * 2048 + s.val) * 16 + h.val) * 32 + x.val) % 512 = 32 * h.val + x.val; omega

theorem query_fst (x : Fin 256) :
    val_main_v4 (F := Ideal) A0 A1 (ix4 b s h (Fin.castAdd 32 x)) = val_main_v1 (F := Ideal) A0 (ix4 b s h x) := by
  unfold val_main_v4
  generalize val_main_v1 (F := Ideal) A0 = y
  generalize val_main_v3 (F := Ideal) A1 = z
  pointwise
  exact dif_pos x.isLt

theorem query_snd (x : Fin 32) :
    val_main_v4 (F := Ideal) A0 A1 (ix4 b s h (Fin.natAdd 256 x)) = val_main_v3 (F := Ideal) A1 (ix4 b s h x) := by
  unfold val_main_v4
  generalize val_main_v1 (F := Ideal) A0 = y
  generalize val_main_v3 (F := Ideal) A1 = z
  pointwise
  rw [dif_neg (by change ¬ 256 + x.val < 256; omega)]
  congr 2
  apply Fin.ext
  change 256 + x.val - 256 = x.val
  omega

theorem dots_apply : val_main_v10 (F := Ideal) A0 A1 A2 (ix4 b k s h) = dots A0 A1 A2 b h s k := by
  rw [val_main_v10_apply]
  have e : ∀ x : Fin 288, val_main_v6 (F := Ideal) A2 (lidx_main_v10 (ix4 b k s h) x) * val_main_v4 (F := Ideal) A0 A1 (ridx_main_v10 (ix4 b k s h) x)
      = A2 (ix2 (rowAt b k) ⟨512 + x.val, by omega⟩) * val_main_v4 (F := Ideal) A0 A1 (ix4 b s h x) := by
    intro x
    rw [← keys_apply A2 b k x, show lidx_main_v10 (ix4 b k s h) x = ix3 b k x from eq_ix3 _,
      show ridx_main_v10 (ix4 b k s h) x = ix4 b s h x from eq_ix4 _]
  rw [Finset.sum_congr rfl fun x _ => e x]
  rw [show (∑ x : Fin 288, A2 (ix2 (rowAt b k) ⟨512 + x.val, by omega⟩) * val_main_v4 (F := Ideal) A0 A1 (ix4 b s h x)) = _ from
    Fin.sum_univ_add (a := 256) (b := 32) fun x : Fin (256 + 32) => A2 (ix2 (rowAt b k) ⟨512 + x.val, by omega⟩) * val_main_v4 (F := Ideal) A0 A1 (ix4 b s h x)]
  unfold dots
  congr 1
  · refine Finset.sum_congr rfl fun x _ => ?_
    rw [query_fst, query_latent]
    rfl
  · refine Finset.sum_congr rfl fun x _ => ?_
    rw [query_snd, query_rotary]
    congr 3
    apply Fin.ext
    change 512 + (256 + x.val) = 768 + x.val
    omega

theorem mask_apply : val_main_v19 (F := Ideal) (ix2 s k) = BitVec.ofBool (decide (k.val ≤ s.val)) := by
  rw [val_main_v19_apply, val_main_v17_apply, val_main_v18_apply, val_main_v15_apply, val_main_v16_apply, val_main_v7_apply, val_main_v8_apply]
  exact le_word k s

theorem score_apply : val_main_v20 (F := Ideal) A0 A1 A2 (ix4 b h s k) = score A0 A1 A2 b h s k := by
  rw [val_main_v20_apply, val_main_call0_v1_apply, show idx_main_call0_v1 (ix4 b h s k) = ix2 s k from eq_ix2 _, mask_apply, select_le,
    val_main_v14_apply, val_main_v11_apply, show idx_main_v11 (ix4 b h s k) = ix4 b k s h from eq_ix4 _, dots_apply,
    val_main_v13_apply, val_main_v12_apply, val_main_cst_apply, val_main_call0_v2_apply, val_main_call0_v0_apply, val_main_cst_0_apply]
  unfold score
  congr 1
  exact div_sqrt _

theorem max_apply : val_main_v21 (F := Ideal) A0 A1 A2 (ix3 b h s) = Finset.univ.sup (score A0 A1 A2 b h s) := by
  rw [show score A0 A1 A2 b h s = fun k => val_main_v20 (F := Ideal) A0 A1 A2 (ix4 b h s k) from funext fun k => (score_apply A0 A1 A2 b s k h).symm]
  unfold val_main_v21
  generalize val_main_v20 (F := Ideal) A0 A1 A2 = y
  pointwise
  rw [val_main_cst_1_apply, Ideal.ofBits_def, neg_inf]
  rfl

theorem exp_apply : val_main_v26 (F := Ideal) A0 A1 A2 (ix4 b h s k)
    = Ideal.exp (score A0 A1 A2 b h s k - Finset.univ.sup (score A0 A1 A2 b h s)) := by
  rw [val_main_v26_apply, val_main_call1_v1_apply, show idx_main_call1_v1 (ix4 b h s k) = ix2 s k from eq_ix2 _, mask_apply, select_le,
    val_main_v25_apply, val_main_v24_apply, val_main_v23_apply, val_main_v22_apply,
    show idx_main_v22 (idx_main_v23 (ix4 b h s k)) = ix3 b h s from eq_ix3 _, max_apply, score_apply,
    val_main_call1_v2_apply, val_main_call1_v0_apply, val_main_cst_2_apply]
  by_cases hk : k.val ≤ s.val
  · rw [if_pos hk]; rfl
  · rw [if_neg hk, show score A0 A1 A2 b h s k = ⊥ from if_neg hk, exp_bot_sub]
    exact Ideal.ofBits_zero_f32

theorem sum_apply : val_main_v27 (F := Ideal) A0 A1 A2 (ix3 b h s)
    = ∑ k, Ideal.exp (score A0 A1 A2 b h s k - Finset.univ.sup (score A0 A1 A2 b h s)) := by
  rw [val_main_v27_apply, val_main_cst_3_apply, Ideal.ofBits_def, Ideal.ofBits_zero_f32, zero_add]
  refine Finset.sum_congr rfl fun k _ => ?_
  rw [show idx_main_v27 (ix3 b h s) k = ix4 b h s k from eq_ix4 _, exp_apply]

/-- The reference's result. -/
theorem result_apply (w : Fin 4096) : val_main_v36 (F := Ideal) A0 A1 A2 (ix3 b s w)
    = attention A0 A1 A2 b s ⟨w.val / 256, by omega⟩ ⟨w.val % 256, by omega⟩ := by
  rw [val_main_v36_apply, val_main_v35_apply]
  change val_main_v34 (F := Ideal) A0 A1 A2 _ = _
  rw [val_main_v34_apply, show idx_main_v34 (idx_main_v35 (ix3 b s w)) = ix4 b ⟨w.val % 256, by omega⟩ ⟨w.val / 256, by omega⟩ s from by
    funext a
    apply Fin.ext
    match a with
    | ⟨0, _⟩ => change ((b.val * 2048 + s.val) * 4096 + w.val) / 8388608 = b.val; omega
    | ⟨1, _⟩ => change ((b.val * 2048 + s.val) * 4096 + w.val) % 256 = w.val % 256; omega
    | ⟨2, _⟩ => change ((b.val * 2048 + s.val) * 4096 + w.val) / 256 % 16 = w.val / 256; omega
    | ⟨3, _⟩ => change ((b.val * 2048 + s.val) * 4096 + w.val) / 4096 % 2048 = s.val; omega]
  generalize hh : (⟨w.val / 256, by omega⟩ : Fin 16) = h
  generalize hf : (⟨w.val % 256, by omega⟩ : Fin 256) = f
  rw [val_main_v33_apply]
  unfold attention attend
  refine Finset.sum_congr rfl fun k _ => ?_
  rw [show lidx_main_v33 (ix4 b f h s) k = ix3 b k f from eq_ix3 _, show ridx_main_v33 (ix4 b f h s) k = ix4 b h s k from eq_ix4 _,
    values_apply, val_main_v32_apply, exp_apply, val_main_v31_apply, val_main_v30_apply, val_main_v28_apply,
    show idx_main_v28 (idx_main_v31 (ix4 b h s k)) = ix3 b h s from eq_ix3 _, sum_apply, val_main_v29_apply, val_main_cst_4_apply]
  exact mul_comm _ _

end Cert.ReferenceIdeal.Attention

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Frame
public import proofs.«01_k».proof.Proof.FfnIdeal.States
public import proofs.«01_k».proof.Proof.FfnReference
public import proofs.«01_k».proof.Proof.FfnLast.Frame
public import proofs.«01_k».proof.Proof.FfnLastIdeal.States
public import proofs.«01_k».proof.Proof.FfnLastReference
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Kv.Value
public import proofs.«01_k».proof.Proof.Kv.Reference
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Lat.Value
public import proofs.«01_k».proof.Proof.Lat.Reference
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Slab.Value
public import proofs.«01_k».proof.Proof.Slab.Reference
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Out.Value
public import proofs.«01_k».proof.Proof.Out.Reference
public import proofs.«01_k».proof.Proof.KernelValue
public import proofs.«01_k».proof.Proof.RefValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  rw [Cert.ReferenceIdeal.Read.val_main_v36_eq]
  simp only [hagree c]
  funext i
  obtain ⟨b, s, w, rfl⟩ : ∃ (b : Fin 16) (s : Fin 2048) (w : Fin 4096), i = ix3 b s w := ⟨i 0, i 1, i 2, eq_ix3 i⟩
  exact (Cert.ReferenceIdeal.Attention.result_apply _ _ _ b s w).trans (Cert.KernelIdeal.Attention.result_apply m c b s w).symm

theorem quiescent_Reference2Ideal : quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨fun c => Cert.Kernel2Ideal.Ffn.out m c, fun c => Cert.Kernel2Ideal.Ffn.outA m c, fun c => Cert.Kernel2Ideal.Ffn.outG m c,
    ?_, ?_⟩
  · exact (θ_run Cert.Kernel2Ideal.defs _ _).mono (fun r h c => ⟨((h.1 c).1 11).trans (Cert.Kernel2Ideal.Ffn.final m c),
        ((h.1 c).1 12).trans (Cert.Kernel2Ideal.Ffn.finalA m c), ((h.1 c).1 13).trans (Cert.Kernel2Ideal.Ffn.finalG m c), h.2 c⟩)
      (θ_run_and (Cert.Kernel2Ideal.Ffn.run_main m ρ) (Cert.Kernel2Ideal.Ffn.unchanged m ρ))
  refine (θ_run Cert.Reference2Ideal.defs _ _).mono (fun _ h c => ⟨?_, ?_, ?_, (h c).2.2.2⟩)
    (Cert.Reference2Ideal.Value.run (F := Ideal) m' ρ')
  · rw [(h c).1, Cert.Reference2Ideal.Read.val_main_v86_eq]
    simp only [hagree c]
    funext i
    obtain ⟨r, d, rfl⟩ : ∃ (r : Fin 32768) (d : Fin 1024), i = ix2 r d := ⟨i 0, i 1, eq_ix2 i⟩
    exact Cert.Reference2Ideal.Ffn.result_apply _ _ _ _ _ _ _ _ _ r d
  · rw [(h c).2.1, Cert.Reference2Ideal.Read.val_main_v84_eq]
    simp only [hagree c]
    funext i
    obtain ⟨q, k, f, rfl⟩ : ∃ (q : Fin 32) (k : Fin 2) (f : Fin 2816), i = ix3 q k f := ⟨i 0, i 1, i 2, eq_ix3 i⟩
    exact Cert.Reference2Ideal.Ffn.lastA_apply _ _ _ q k f
  · rw [(h c).2.2.1, Cert.Reference2Ideal.Read.val_main_v85_eq]
    simp only [hagree c]
    funext i
    obtain ⟨q, k, f, rfl⟩ : ∃ (q : Fin 32) (k : Fin 2) (f : Fin 2816), i = ix3 q k f := ⟨i 0, i 1, i 2, eq_ix3 i⟩
    exact Cert.Reference2Ideal.Ffn.lastG_apply _ _ _ q k f

theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨fun c => Cert.Kernel3Ideal.Ffn.out m c, fun c => Cert.Kernel3Ideal.Ffn.outA m c, fun c => Cert.Kernel3Ideal.Ffn.outG m c,
    ?_, ?_⟩
  · exact (θ_run Cert.Kernel3Ideal.defs _ _).mono (fun r h c => ⟨((h.1 c).1 12).trans (Cert.Kernel3Ideal.Ffn.final m c),
        ((h.1 c).1 13).trans (Cert.Kernel3Ideal.Ffn.finalA m c), ((h.1 c).1 14).trans (Cert.Kernel3Ideal.Ffn.finalG m c), h.2 c⟩)
      (θ_run_and (Cert.Kernel3Ideal.Ffn.run_main m ρ) (Cert.Kernel3Ideal.Ffn.unchanged m ρ))
  refine (θ_run Cert.Reference3Ideal.defs _ _).mono (fun _ h c => ⟨?_, ?_, ?_, (h c).2.2.2⟩)
    (Cert.Reference3Ideal.Value.run (F := Ideal) m' ρ')
  · rw [(h c).1, Cert.Reference3Ideal.Read.val_main_v99_eq]
    simp only [hagree c]
    funext i
    obtain ⟨r, d, rfl⟩ : ∃ (r : Fin 32768) (d : Fin 1024), i = ix2 r d := ⟨i 0, i 1, eq_ix2 i⟩
    exact Cert.Reference3Ideal.Ffn.result_apply _ _ _ _ _ _ _ _ _ _ r d
  · rw [(h c).2.1, Cert.Reference3Ideal.Read.val_main_v84_eq]
    simp only [hagree c]
    funext i
    obtain ⟨q, k, f, rfl⟩ : ∃ (q : Fin 32) (k : Fin 2) (f : Fin 2816), i = ix3 q k f := ⟨i 0, i 1, i 2, eq_ix3 i⟩
    exact Cert.Reference3Ideal.Ffn.lastA_apply _ _ _ q k f
  · rw [(h c).2.2.1, Cert.Reference3Ideal.Read.val_main_v85_eq]
    simp only [hagree c]
    funext i
    obtain ⟨q, k, f, rfl⟩ : ∃ (q : Fin 32) (k : Fin 2) (f : Fin 2816), i = ix3 q k f := ⟨i 0, i 1, i 2, eq_ix3 i⟩
    exact Cert.Reference3Ideal.Ffn.lastG_apply _ _ _ q k f

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1, Cert.Reference4Ideal.Read.val_main_v61_eq]
  simp only [hagree c]
  funext i
  obtain ⟨p, r, f, rfl⟩ : ∃ (p : Fin 3) (r : Fin 32768) (f : Fin 256), i = ix3 p r f := ⟨i 0, i 1, i 2, eq_ix3 i⟩
  exact (Cert.Reference4Ideal.Kv.result_apply _ _ _ p r f).trans (Cert.Kernel4Ideal.Kv.result_apply m c p r f).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1, Cert.Reference5Ideal.Read.val_main_v82_eq]
  simp only [hagree c]
  funext i
  obtain ⟨r, f, rfl⟩ : ∃ (r : Fin 32768) (f : Fin 896), i = ix2 r f := ⟨i 0, i 1, eq_ix2 i⟩
  exact (Cert.Reference5Ideal.Lat.result_apply _ _ _ _ _ r f).trans (Cert.Kernel5Ideal.Lat.result_apply m c r f).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1, Cert.Reference6Ideal.Read.val_main_v16_eq]
  simp only [hagree c]
  funext i
  obtain ⟨b, j, s, l, rfl⟩ : ∃ (b : Fin 16) (j : Fin 32) (s : Fin 2048) (l : Fin 128), i = ix4 b j s l := ⟨i 0, i 1, i 2, i 3, eq_ix4 i⟩
  exact (Cert.Reference6Ideal.Slab.result_apply _ _ _ b s j l).trans (Cert.Kernel6Ideal.Slab.result_apply m c b j s l).symm

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1, Cert.Reference7Ideal.Read.val_main_v6_eq]
  simp only [hagree c]
  funext i
  obtain ⟨r, f, rfl⟩ : ∃ (r : Fin 32768) (f : Fin 1024), i = ix2 r f := ⟨i 0, i 1, eq_ix2 i⟩
  obtain ⟨b, s, rfl⟩ : ∃ (b : Fin 16) (s : Fin 2048), r = ⟨2048 * b.val + s.val, by omega⟩ :=
    ⟨⟨r.val / 2048, by omega⟩, ⟨r.val % 2048, by omega⟩, Fin.ext (by change r.val = 2048 * (r.val / 2048) + r.val % 2048; omega)⟩
  exact (Cert.Reference7Ideal.Out.result_apply _ _ _ b s f).trans (Cert.Kernel7Ideal.Out.result_apply m c b s f).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Gen.frame m ρ, fun m ρ _ => Cert.KernelIdeal.Gen.frame m ρ, quiescent_ReferenceIdeal,
  fun m ρ _ => Cert.Kernel2.Ffn.frame m ρ, fun m ρ _ => Cert.Kernel2Ideal.Ffn.frame m ρ, quiescent_Reference2Ideal,
  fun m ρ _ => Cert.Kernel3.Ffn.frame m ρ, fun m ρ _ => Cert.Kernel3Ideal.Ffn.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  ⟨IdealRules.named_const.statement Cert.KernelIdeal.κ "mask" .f32 0xF149F2CA#32 ⊥ rfl,
    IdealRules.named_const.statement Cert.KernelIdeal.κ "scale2" .f32 0x3E16C740#32 (((Real.sqrt 96)⁻¹ * (Real.log 2)⁻¹ : ℝ) : EReal) rfl⟩,
  algebraic_KernelIdeal_ReferenceIdeal, trivial, algebraic_Kernel2Ideal_Reference2Ideal,
  trivial, algebraic_Kernel3Ideal_Reference3Ideal, trivial, algebraic_Kernel4Ideal_Reference4Ideal,
  trivial, algebraic_Kernel5Ideal_Reference5Ideal, trivial, algebraic_Kernel6Ideal_Reference6Ideal, trivial,
  algebraic_Kernel7Ideal_Reference7Ideal⟩

end Cert.Proof

end
